-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_heads [hPre_finite_heads : Cert.Pre_finite_heads.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_heads.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_heads [hPre_finite_heads : Cert.Pre_finite_heads.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_heads.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_finite_heads [hKernel6Ideal : Cert.Kernel6Ideal.Facts] [hPre_finite_heads : Cert.Pre_finite_heads.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_heads m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_finite_heads [hReference6Ideal : Cert.Reference6Ideal.Facts] [hPre_finite_heads : Cert.Pre_finite_heads.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_heads m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v30_0)) (v1 : (c : Dev Cert.Kernel3Ideal.nD) → Buf (Elt Ideal) ((c.tc : Thread Cert.Kernel3Ideal.nD Cert.Kernel3Ideal.τ).loc Cert.Kernel3Ideal.main_v30_1)) (v2 : (c : Dev Cert.Kernel3Ideal.nD) → Buf (Elt Ideal) ((c.tc : Thread Cert.Kernel3Ideal.nD Cert.Kernel3Ideal.τ).loc Cert.Kernel3Ideal.main_v30_2)) (v3 : (c : Dev Cert.Kernel3Ideal.nD) → Buf (Elt Ideal) ((c.tc : Thread Cert.Kernel3Ideal.nD Cert.Kernel3Ideal.τ).loc Cert.Kernel3Ideal.main_v30_3)) (v4 : (c : Dev Cert.Kernel3Ideal.nD) → Buf (Elt Ideal) ((c.tc : Thread Cert.Kernel3Ideal.nD Cert.Kernel3Ideal.τ).loc Cert.Kernel3Ideal.main_v30_4)) (v5 : (c : Dev Cert.Kernel3Ideal.nD) → Buf (Elt Ideal) ((c.tc : Thread Cert.Kernel3Ideal.nD Cert.Kernel3Ideal.τ).loc Cert.Kernel3Ideal.main_v30_5)) (v6 : (c : Dev Cert.Kernel3Ideal.nD) → Buf (Elt Ideal) ((c.tc : Thread Cert.Kernel3Ideal.nD Cert.Kernel3Ideal.τ).loc Cert.Kernel3Ideal.main_v30_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30_0) = v0 c
          ∧ r.2.mem ((c.tc : Thread Cert.Kernel3Ideal.nD Cert.Kernel3Ideal.τ).loc Cert.Kernel3Ideal.main_v30_1) = v1 c
          ∧ r.2.mem ((c.tc : Thread Cert.Kernel3Ideal.nD Cert.Kernel3Ideal.τ).loc Cert.Kernel3Ideal.main_v30_2) = v2 c
          ∧ r.2.mem ((c.tc : Thread Cert.Kernel3Ideal.nD Cert.Kernel3Ideal.τ).loc Cert.Kernel3Ideal.main_v30_3) = v3 c
          ∧ r.2.mem ((c.tc : Thread Cert.Kernel3Ideal.nD Cert.Kernel3Ideal.τ).loc Cert.Kernel3Ideal.main_v30_4) = v4 c
          ∧ r.2.mem ((c.tc : Thread Cert.Kernel3Ideal.nD Cert.Kernel3Ideal.τ).loc Cert.Kernel3Ideal.main_v30_5) = v5 c
          ∧ r.2.mem ((c.tc : Thread Cert.Kernel3Ideal.nD Cert.Kernel3Ideal.τ).loc Cert.Kernel3Ideal.main_v30_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v193) = v0 c
          ∧ r.2.mem ((c.tc : Thread Cert.Reference3Ideal.nD Cert.Reference3Ideal.τ).loc Cert.Reference3Ideal.main_v194) = v1 c
          ∧ r.2.mem ((c.tc : Thread Cert.Reference3Ideal.nD Cert.Reference3Ideal.τ).loc Cert.Reference3Ideal.main_v195) = v2 c
          ∧ r.2.mem ((c.tc : Thread Cert.Reference3Ideal.nD Cert.Reference3Ideal.τ).loc Cert.Reference3Ideal.main_v196) = v3 c
          ∧ r.2.mem ((c.tc : Thread Cert.Reference3Ideal.nD Cert.Reference3Ideal.τ).loc Cert.Reference3Ideal.main_v197) = v4 c
          ∧ r.2.mem ((c.tc : Thread Cert.Reference3Ideal.nD Cert.Reference3Ideal.τ).loc Cert.Reference3Ideal.main_v198) = v5 c
          ∧ r.2.mem ((c.tc : Thread Cert.Reference3Ideal.nD Cert.Reference3Ideal.τ).loc Cert.Reference3Ideal.main_v199) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_heads [hKernel6Ideal : Cert.Kernel6Ideal.Facts] [hReference6Ideal : Cert.Reference6Ideal.Facts] [hPre_finite_heads : Cert.Pre_finite_heads.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_heads m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v47) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_heads : Cert.Pre_finite_heads.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_heads (hKernel6Ideal := hKernel6Ideal) (hPre_finite_heads := hPre_finite_heads)
    ∧ quiescent_Reference6Ideal (hReference6Ideal := hReference6Ideal)
    ∧ quiescent_Reference6Ideal_pre_finite_heads (hReference6Ideal := hReference6Ideal) (hPre_finite_heads := hPre_finite_heads)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_heads (hKernel6Ideal := hKernel6Ideal) (hReference6Ideal := hReference6Ideal) (hPre_finite_heads := hPre_finite_heads)
    ∧ preserves_Kernel7_Kernel7Ideal
    ∧ algebraic_Kernel7Ideal_Reference7Ideal (hKernel7Ideal := hKernel7Ideal) (hReference7Ideal := hReference7Ideal)
-- ==== Pre_finite_heads.lean ====
abbrev S16384x1024 : Shape := ⟨2, ![16384, 1024]⟩
abbrev S1024 : Shape := ⟨1, ![1024]⟩
abbrev S16384x2048 : Shape := ⟨2, ![16384, 2048]⟩
abbrev S2048x2048 : Shape := ⟨2, ![2048, 2048]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S1024 .f32) (main_arg5 : FVec F S1024 .f32) (main_arg6 : FVec F S1024 .f32) (main_arg7 : FVec F S16384x2048 .f32) (main_arg8 : FVec F S2048x2048 .bf16) : IVec S_ 1 :=
  let main_v0 : FVec F S16384x1024 .f32 := Host.absf main_arg1
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S16384x1024 : Shape := ⟨2, ![16384, 1024]⟩
abbrev S2x16384x12 : Shape := ⟨3, ![2, 16384, 12]⟩
abbrev S4x2x256x128 : Shape := ⟨4, ![4, 2, 256, 128]⟩
abbrev S16384x256 : Shape := ⟨2, ![16384, 256]⟩
abbrev S128x512 : Shape := ⟨2, ![128, 512]⟩
abbrev S1x128x12 : Shape := ⟨3, ![1, 128, 12]⟩
abbrev S1x1x256x128 : Shape := ⟨4, ![1, 1, 256, 128]⟩
abbrev S4096x128 : Shape := ⟨2, ![4096, 128]⟩
abbrev S128x128 : Shape := ⟨2, ![128, 128]⟩
abbrev S512x128 : Shape := ⟨2, ![512, 128]⟩
abbrev S512x1 : Shape := ⟨2, ![512, 1]⟩
abbrev S128x1 : Shape := ⟨2, ![128, 1]⟩
abbrev S256x128 : Shape := ⟨2, ![256, 128]⟩
abbrev S512x256 : Shape := ⟨2, ![512, 256]⟩
abbrev S1x256 : Shape := ⟨2, ![1, 256]⟩
abbrev S512 : Shape := ⟨1, ![512]⟩
abbrev S128x256 : Shape := ⟨2, ![128, 256]⟩
abbrev S128 : Shape := ⟨1, ![128]⟩
abbrev S1x640 : Shape := ⟨2, ![1, 640]⟩
abbrev S640x128 : Shape := ⟨2, ![640, 128]⟩
abbrev S512x640 : Shape := ⟨2, ![512, 640]⟩
abbrev S128x12 : Shape := ⟨2, ![128, 12]⟩

abbrev nBuf : Space → Nat
  | .hbm => 9
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S2x16384x12, .f32⟩
  | .hbm, ⟨2, _⟩ => ⟨S4x2x256x128, .f32⟩
  | .hbm, ⟨3, _⟩ => ⟨S4x2x256x128, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S16384x1024, .f32⟩
  | .local _ .vmem, ⟨0, _⟩ => ⟨S128x512, .f32⟩
  | .local _ .vmem, ⟨1, _⟩ => ⟨S128x512, .f32⟩
  | .local _ .vmem, ⟨2, _⟩ => ⟨S1x128x12, .f32⟩
  | .local _ .vmem, ⟨3, _⟩ => ⟨S1x128x12, .f32⟩
  | .local _ .vmem, ⟨4, _⟩ => ⟨S1x1x256x128, .f32⟩
  | .local _ .vmem, ⟨5, _⟩ => ⟨S1x1x256x128, .f32⟩
  | .local _ .vmem, ⟨6, _⟩ => ⟨S1x1x256x128, .f32⟩
  | .local _ .vmem, ⟨7, _⟩ => ⟨S1x1x256x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S128x512, .f32⟩
  | .local _ .vmem, ⟨17, _⟩ => ⟨S128x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 32], ![false, false, false]⟩

@[reducible] def k0_t1_loop (i : grid0.Coords) : Scf.Loop 32 :=
  let c0_i32_132 : BitVec 32 := 0#32
  let arg2 : BitVec 32 := BitVec.ofNat 32 (i 2).val
  let c128_i32 : BitVec 32 := 128#32
  let v0 : BitVec 32 := Scalar.muli arg2 c128_i32
  let c128_i32_123 : BitVec 32 := 128#32
  let v367 : BitVec 32 := Scalar.addi v0 c128_i32_123
  let c256_i32 : BitVec 32 := 256#32
  let v368 : BitVec 32 := Scalar.addi v367 c256_i32
  let c1_i32_124 : BitVec 32 := 1#32
  let v369 : BitVec 32 := Scalar.subi v368 c1_i32_124
  let c0_i32_126 : BitVec 32 := 0#32
  let v371 : BitVec 1 := Scalar.cmpi .sgt v369 c0_i32_126
  let v372 : BitVec 32 := Scalar.extui v371
  let c0_i32_127 : BitVec 32 := 0#32
  let v373 : BitVec 1 := Scalar.cmpi .slt v369 c0_i32_127
  let v374 : BitVec 32 := Scalar.extui v373
  let v375 : BitVec 32 := Scalar.subi v372 v374
  let c256_i32_125 : BitVec 32 := 256#32
  let c0_i32_128 : BitVec 32 := 0#32
  let v376 : BitVec 1 := Scalar.cmpi .sgt c256_i32_125 c0_i32_128
  let v377 : BitVec 32 := Scalar.extui v376
  let c0_i32_129 : BitVec 32 := 0#32
  let v378 : BitVec 1 := Scalar.cmpi .slt c256_i32_125 c0_i32_129
  let v379 : BitVec 32 := Scalar.extui v378
  let v380 : BitVec 32 := Scalar.subi v377 v379
  let v381 : BitVec 1 := Scalar.cmpi .ne v375 v380
  let v382 : BitVec 32 := Scalar.remsi v369 c256_i32_125
  let c0_i32_130 : BitVec 32 := 0#32
  let v383 : BitVec 1 := Scalar.cmpi .ne v382 c0_i32_130
  let v384 : BitVec 1 := Scalar.andi v381 v383
  let v370 : BitVec 32 := Scalar.divsi v369 c256_i32_125
  let c1_i32_131 : BitVec 32 := 1#32
  let v385 : BitVec 32 := Scalar.subi v370 c1_i32_131
  let v386 : BitVec 32 := Scalar.select v384 v385 v370
  let v387 : BitVec 32 := Scalar.subi v386 c0_i32_132
  let c1_i32_133 : BitVec 32 := 1#32
  let v389 : BitVec 32 := Scalar.divsi v387 c1_i32_133
  let v390 : BitVec 32 := Scalar.muli v389 c1_i32_133
  let v391 : BitVec 32 := Scalar.addi c0_i32_132 v390
  let c1_i32_134 : BitVec 32 := 1#32
  ⟨c0_i32_132, v391, c1_i32_134⟩
def k0_mult1 (i : grid0.Coords) (k0_t1 : Fin (k0_t1_loop i).trips) : BitVec 32 :=
  let c0_i32_132 : BitVec 32 := 0#32
  let c1_i32_134 : BitVec 32 := 1#32
  let arg12 : BitVec 32 := Scf.iv c0_i32_132 c1_i32_134 k0_t1
  let c256_i32_160 : BitVec 32 := 256#32
  let v503 : BitVec 32 := Scalar.muli arg12 c256_i32_160
  v503
def k0_off1 (i : grid0.Coords) (k0_t1 : Fin (k0_t1_loop i).trips) : Fin 2 → Nat :=
  let c0_i32_132 : BitVec 32 := 0#32
  let c1_i32_134 : BitVec 32 := 1#32
  let arg12 : BitVec 32 := Scf.iv c0_i32_132 c1_i32_134 k0_t1
  let c256_i32_160 : BitVec 32 := 256#32
  let v503 : BitVec 32 := Scalar.muli arg12 c256_i32_160
  let v504 : BitVec 32 := v503
  let v505 : Index := Scalar.indexCast v504
  let c0_161 : Index := 0#32
  ![v505.toNat, 0]
@[reducible] def k0_t2_loop (i : grid0.Coords) : Scf.Loop 32 :=
  let c0_i32_132 : BitVec 32 := 0#32
  let arg2 : BitVec 32 := BitVec.ofNat 32 (i 2).val
  let c128_i32 : BitVec 32 := 128#32
  let v0 : BitVec 32 := Scalar.muli arg2 c128_i32
  let c128_i32_123 : BitVec 32 := 128#32
  let v367 : BitVec 32 := Scalar.addi v0 c128_i32_123
  let c256_i32 : BitVec 32 := 256#32
  let v368 : BitVec 32 := Scalar.addi v367 c256_i32
  let c1_i32_124 : BitVec 32 := 1#32
  let v369 : BitVec 32 := Scalar.subi v368 c1_i32_124
  let c0_i32_126 : BitVec 32 := 0#32
  let v371 : BitVec 1 := Scalar.cmpi .sgt v369 c0_i32_126
  let v372 : BitVec 32 := Scalar.extui v371
  let c0_i32_127 : BitVec 32 := 0#32
  let v373 : BitVec 1 := Scalar.cmpi .slt v369 c0_i32_127
  let v374 : BitVec 32 := Scalar.extui v373
  let v375 : BitVec 32 := Scalar.subi v372 v374
  let c256_i32_125 : BitVec 32 := 256#32
  let c0_i32_128 : BitVec 32 := 0#32
  let v376 : BitVec 1 := Scalar.cmpi .sgt c256_i32_125 c0_i32_128
  let v377 : BitVec 32 := Scalar.extui v376
  let c0_i32_129 : BitVec 32 := 0#32
  let v378 : BitVec 1 := Scalar.cmpi .slt c256_i32_125 c0_i32_129
  let v379 : BitVec 32 := Scalar.extui v378
  let v380 : BitVec 32 := Scalar.subi v377 v379
  let v381 : BitVec 1 := Scalar.cmpi .ne v375 v380
  let v382 : BitVec 32 := Scalar.remsi v369 c256_i32_125
  let c0_i32_130 : BitVec 32 := 0#32
  let v383 : BitVec 1 := Scalar.cmpi .ne v382 c0_i32_130
  let v384 : BitVec 1 := Scalar.andi v381 v383
  let v370 : BitVec 32 := Scalar.divsi v369 c256_i32_125
  let c1_i32_131 : BitVec 32 := 1#32
  let v385 : BitVec 32 := Scalar.subi v370 c1_i32_131
  let v386 : BitVec 32 := Scalar.select v384 v385 v370
  let v387 : BitVec 32 := Scalar.subi v386 c0_i32_132
  let c1_i32_133 : BitVec 32 := 1#32
  let v389 : BitVec 32 := Scalar.divsi v387 c1_i32_133
  let v390 : BitVec 32 := Scalar.muli v389 c1_i32_133
  let v391 : BitVec 32 := Scalar.addi c0_i32_132 v390
  let v388 : BitVec 32 := Scalar.addi c0_i32_132 v387
  let c1_i32_135 : BitVec 32 := 1#32
  ⟨v391, v388, c1_i32_135⟩
def k0_mult2 (i : grid0.Coords) (k0_t2 : Fin (k0_t2_loop i).trips) : BitVec 32 :=
  let c0_i32_132 : BitVec 32 := 0#32
  let arg2 : BitVec 32 := BitVec.ofNat 32 (i 2).val
  let c128_i32 : BitVec 32 := 128#32
  let v0 : BitVec 32 := Scalar.muli arg2 c128_i32
  let c128_i32_123 : BitVec 32 := 128#32
  let v367 : BitVec 32 := Scalar.addi v0 c128_i32_123
  let c256_i32 : BitVec 32 := 256#32
  let v368 : BitVec 32 := Scalar.addi v367 c256_i32
  let c1_i32_124 : BitVec 32 := 1#32
  let v369 : BitVec 32 := Scalar.subi v368 c1_i32_124
  let c0_i32_126 : BitVec 32 := 0#32
  let v371 : BitVec 1 := Scalar.cmpi .sgt v369 c0_i32_126
  let v372 : BitVec 32 := Scalar.extui v371
  let c0_i32_127 : BitVec 32 := 0#32
  let v373 : BitVec 1 := Scalar.cmpi .slt v369 c0_i32_127
  let v374 : BitVec 32 := Scalar.extui v373
  let v375 : BitVec 32 := Scalar.subi v372 v374
  let c256_i32_125 : BitVec 32 := 256#32
  let c0_i32_128 : BitVec 32 := 0#32
  let v376 : BitVec 1 := Scalar.cmpi .sgt c256_i32_125 c0_i32_128
  let v377 : BitVec 32 := Scalar.extui v376
  let c0_i32_129 : BitVec 32 := 0#32
  let v378 : BitVec 1 := Scalar.cmpi .slt c256_i32_125 c0_i32_129
  let v379 : BitVec 32 := Scalar.extui v378
  let v380 : BitVec 32 := Scalar.subi v377 v379
  let v381 : BitVec 1 := Scalar.cmpi .ne v375 v380
  let v382 : BitVec 32 := Scalar.remsi v369 c256_i32_125
  let c0_i32_130 : BitVec 32 := 0#32
  let v383 : BitVec 1 := Scalar.cmpi .ne v382 c0_i32_130
  let v384 : BitVec 1 := Scalar.andi v381 v383
  let v370 : BitVec 32 := Scalar.divsi v369 c256_i32_125
  let c1_i32_131 : BitVec 32 := 1#32
  let v385 : BitVec 32 := Scalar.subi v370 c1_i32_131
  let v386 : BitVec 32 := Scalar.select v384 v385 v370
  let v387 : BitVec 32 := Scalar.subi v386 c0_i32_132
  let c1_i32_133 : BitVec 32 := 1#32
  let v389 : BitVec 32 := Scalar.divsi v387 c1_i32_133
  let v390 : BitVec 32 := Scalar.muli v389 c1_i32_133
  let v391 : BitVec 32 := Scalar.addi c0_i32_132 v390
  let c1_i32_135 : BitVec 32 := 1#32
  let arg12 : BitVec 32 := Scf.iv v391 c1_i32_135 k0_t2
  let c256_i32_160 : BitVec 32 := 256#32
  let v503 : BitVec 32 := Scalar.muli arg12 c256_i32_160
  v503
def k0_off2 (i : grid0.Coords) (k0_t2 : Fin (k0_t2_loop i).trips) : Fin 2 → Nat :=
  let c0_i32_132 : BitVec 32 := 0#32
  let arg2 : BitVec 32 := BitVec.ofNat 32 (i 2).val
  let c128_i32 : BitVec 32 := 128#32
  let v0 : BitVec 32 := Scalar.muli arg2 c128_i32
  let c128_i32_123 : BitVec 32 := 128#32
  let v367 : BitVec 32 := Scalar.addi v0 c128_i32_123
  let c256_i32 : BitVec 32 := 256#32
  let v368 : BitVec 32 := Scalar.addi v367 c256_i32
  let c1_i32_124 : BitVec 32 := 1#32
  let v369 : BitVec 32 := Scalar.subi v368 c1_i32_124
  let c0_i32_126 : BitVec 32 := 0#32
  let v371 : BitVec 1 := Scalar.cmpi .sgt v369 c0_i32_126
  let v372 : BitVec 32 := Scalar.extui v371
  let c0_i32_127 : BitVec 32 := 0#32
  let v373 : BitVec 1 := Scalar.cmpi .slt v369 c0_i32_127
  let v374 : BitVec 32 := Scalar.extui v373
  let v375 : BitVec 32 := Scalar.subi v372 v374
  let c256_i32_125 : BitVec 32 := 256#32
  let c0_i32_128 : BitVec 32 := 0#32
  let v376 : BitVec 1 := Scalar.cmpi .sgt c256_i32_125 c0_i32_128
  let v377 : BitVec 32 := Scalar.extui v376
  let c0_i32_129 : BitVec 32 := 0#32
  let v378 : BitVec 1 := Scalar.cmpi .slt c256_i32_125 c0_i32_129
  let v379 : BitVec 32 := Scalar.extui v378
  let v380 : BitVec 32 := Scalar.subi v377 v379
  let v381 : BitVec 1 := Scalar.cmpi .ne v375 v380
  let v382 : BitVec 32 := Scalar.remsi v369 c256_i32_125
  let c0_i32_130 : BitVec 32 := 0#32
  let v383 : BitVec 1 := Scalar.cmpi .ne v382 c0_i32_130
  let v384 : BitVec 1 := Scalar.andi v381 v383
  let v370 : BitVec 32 := Scalar.divsi v369 c256_i32_125
  let c1_i32_131 : BitVec 32 := 1#32
  let v385 : BitVec 32 := Scalar.subi v370 c1_i32_131
  let v386 : BitVec 32 := Scalar.select v384 v385 v370
  let v387 : BitVec 32 := Scalar.subi v386 c0_i32_132
  let c1_i32_133 : BitVec 32 := 1#32
  let v389 : BitVec 32 := Scalar.divsi v387 c1_i32_133
  let v390 : BitVec 32 := Scalar.muli v389 c1_i32_133
  let v391 : BitVec 32 := Scalar.addi c0_i32_132 v390
  let c1_i32_135 : BitVec 32 := 1#32
  let arg12 : BitVec 32 := Scf.iv v391 c1_i32_135 k0_t2
  let c256_i32_160 : BitVec 32 := 256#32
  let v503 : BitVec 32 := Scalar.muli arg12 c256_i32_160
  let v504 : BitVec 32 := v503
  let v505 : Index := Scalar.indexCast v504
  let c0_161 : Index := 0#32
  ![v505.toNat, 0]
def k0_mult3 (i : grid0.Coords) : BitVec 32 :=
  let arg2 : BitVec 32 := BitVec.ofNat 32 (i 2).val
  let c128_i32 : BitVec 32 := 128#32
  let v0 : BitVec 32 := Scalar.muli arg2 c128_i32
  let c128_i32_137 : BitVec 32 := 128#32
  let v398 : BitVec 32 := Scalar.addi v0 c128_i32_137
  let c640_i32 : BitVec 32 := 640#32
  let v399 : BitVec 32 := Scalar.subi v398 c640_i32
  let c0_i32_138 : BitVec 32 := 0#32
  let v400 : BitVec 32 := Scalar.maxsi v399 c0_i32_138
  v400
def k0_off3 (i : grid0.Coords) : Fin 2 → Nat :=
  let arg2 : BitVec 32 := BitVec.ofNat 32 (i 2).val
  let c128_i32 : BitVec 32 := 128#32
  let v0 : BitVec 32 := Scalar.muli arg2 c128_i32
  let c128_i32_137 : BitVec 32 := 128#32
  let v398 : BitVec 32 := Scalar.addi v0 c128_i32_137
  let c640_i32 : BitVec 32 := 640#32
  let v399 : BitVec 32 := Scalar.subi v398 c640_i32
  let c0_i32_138 : BitVec 32 := 0#32
  let v400 : BitVec 32 := Scalar.maxsi v399 c0_i32_138
  let v401 : BitVec 32 := v400
  let v405 : Index := Scalar.indexCast v401
  let c0_139 : Index := 0#32
  ![v405.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let c0_i32_0 : BitVec 32 := 0#32
  ![arg1.toNat, v1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x1024 : Shape := ⟨2, ![16384, 1024]⟩
abbrev S2x16384x12 : Shape := ⟨3, ![2, 16384, 12]⟩
abbrev S4x2x256x128 : Shape := ⟨4, ![4, 2, 256, 128]⟩
abbrev S16384x256 : Shape := ⟨2, ![16384, 256]⟩
abbrev S4x4096x2x4x128 : Shape := ⟨5, ![4, 4096, 2, 4, 128]⟩
abbrev S_ : Shape := ⟨0, ![]⟩
abbrev S2x4x4096x4x3 : Shape := ⟨5, ![2, 4, 4096, 4, 3]⟩
abbrev S4x4096x2x4x3 : Shape := ⟨5, ![4, 4096, 2, 4, 3]⟩
abbrev S4x2x255x128 : Shape := ⟨4, ![4, 2, 255, 128]⟩
abbrev S4x4096x2x128 : Shape := ⟨4, ![4, 4096, 2, 128]⟩
abbrev S4096 : Shape := ⟨1, ![4096]⟩
abbrev S255 : Shape := ⟨1, ![255]⟩
abbrev S4x2x255x4096x4 : Shape := ⟨5, ![4, 2, 255, 4096, 4]⟩
abbrev S4x2x4x4096x255 : Shape := ⟨5, ![4, 2, 4, 4096, 255]⟩
abbrev S1x255 : Shape := ⟨2, ![1, 255]⟩
abbrev S4096x1 : Shape := ⟨2, ![4096, 1]⟩
abbrev S4096x255 : Shape := ⟨2, ![4096, 255]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩
abbrev S64 : Shape := ⟨1, ![64]⟩
abbrev S255x1 : Shape := ⟨2, ![255, 1]⟩
abbrev S1x64 : Shape := ⟨2, ![1, 64]⟩
abbrev S255x64 : Shape := ⟨2, ![255, 64]⟩
abbrev S4x2x4096x255 : Shape := ⟨4, ![4, 2, 4096, 255]⟩
abbrev S4x2x4096x64 : Shape := ⟨4, ![4, 2, 4096, 64]⟩
abbrev S4096x64 : Shape := ⟨2, ![4096, 64]⟩
abbrev S4x2x4096x16 : Shape := ⟨4, ![4, 2, 4096, 16]⟩
abbrev S4x2x4096x16x1 : Shape := ⟨5, ![4, 2, 4096, 16, 1]⟩
abbrev S1x1x1x1x64 : Shape := ⟨5, ![1, 1, 1, 1, 64]⟩
abbrev S4x2x4096x16x64 : Shape := ⟨5, ![4, 2, 4096, 16, 64]⟩
abbrev S4x2x4096x1024 : Shape := ⟨4, ![4, 2, 4096, 1024]⟩
abbrev S4x2x4096x128 : Shape := ⟨4, ![4, 2, 4096, 128]⟩
abbrev S4x2x4096x1024x1 : Shape := ⟨5, ![4, 2, 4096, 1024, 1]⟩
abbrev S4x2x4096x1024x128 : Shape := ⟨5, ![4, 2, 4096, 1024, 128]⟩
abbrev S4x2x4096x1024x4 : Shape := ⟨5, ![4, 2, 4096, 1024, 4]⟩
abbrev S4x2x4x4096x1024 : Shape := ⟨5, ![4, 2, 4, 4096, 1024]⟩
abbrev S1x1x4096x1 : Shape := ⟨4, ![1, 1, 4096, 1]⟩
abbrev S4x2x1x4096x1024 : Shape := ⟨5, ![4, 2, 1, 4096, 1024]⟩
abbrev S1x4096 : Shape := ⟨2, ![1, 4096]⟩
abbrev S4096x4096 : Shape := ⟨2, ![4096, 4096]⟩
abbrev S4x2x4096x4096x4 : Shape := ⟨5, ![4, 2, 4096, 4096, 4]⟩
abbrev S4x2x4x4096x4096 : Shape := ⟨5, ![4, 2, 4, 4096, 4096]⟩
abbrev S4x4096x2x4x1 : Shape := ⟨5, ![4, 4096, 2, 4, 1]⟩

abbrev nBuf : Space → Nat
  | .hbm => 248
  | .vmem => 0
  | .smem => 0
  | _ => 0

abbrev hbmTy0_0 (i : Nat) : BufTy := match i % 128 with
  | 0 => ⟨S16384x1024, .f32⟩
  | 1 => ⟨S2x16384x12, .f32⟩
  | 2 => ⟨S4x2x256x128, .f32⟩
  | 3 => ⟨S4x2x256x128, .f32⟩
  | 4 => ⟨S16384x256, .f32⟩
  | 5 => ⟨S16384x256, .f32⟩
  | 6 => ⟨S16384x256, .f32⟩
  | 7 => ⟨S16384x256, .f32⟩
  | 8 => ⟨S4x4096x2x4x128, .f32⟩
  | 9 => ⟨S2x16384x12, .f32⟩
  | 10 => ⟨S2x16384x12, .f32⟩
  | 11 => ⟨S_, .f32⟩
  | 12 => ⟨S2x16384x12, .f32⟩
  | 13 => ⟨S2x16384x12, .f32⟩
  | 14 => ⟨S_, .f32⟩
  | 15 => ⟨S2x16384x12, .f32⟩
  | 16 => ⟨S2x16384x12, .f32⟩
  | 17 => ⟨S2x4x4096x4x3, .f32⟩
  | 18 => ⟨S4x4096x2x4x3, .f32⟩
  | 19 => ⟨S4x2x255x128, .f32⟩
  | 20 => ⟨S4x2x255x128, .f32⟩
  | 21 => ⟨S4x4096x2x128, .f32⟩
  | 22 => ⟨S4x4096x2x128, .f32⟩
  | 23 => ⟨S4096, .i32⟩
  | 24 => ⟨S255, .i32⟩
  | 25 => ⟨S_, .i32⟩
  | 26 => ⟨S255, .i32⟩
  | 27 => ⟨S255, .i32⟩
  | 28 => ⟨S_, .i32⟩
  | 29 => ⟨S255, .i32⟩
  | 30 => ⟨S255, .i32⟩
  | 31 => ⟨S4x2x255x4096x4, .f32⟩
  | 32 => ⟨S4x2x4x4096x255, .f32⟩
  | 33 => ⟨S_, .f32⟩
  | 34 => ⟨S4x2x4x4096x255, .f32⟩
  | 35 => ⟨S4x2x4x4096x255, .f32⟩
  | 36 => ⟨S1x255, .i32⟩
  | 37 => ⟨S4096x1, .i32⟩
  | 38 => ⟨S4096x255, .i32⟩
  | 39 => ⟨S4096x255, .i32⟩
  | 40 => ⟨S4096x255, .i1⟩
  | 41 => ⟨S_, .f32⟩
  | 42 => ⟨S_, .f32⟩
  | 43 => ⟨S4x2x4x4096x255, .i1⟩
  | 44 => ⟨S4x2x4x4096x255, .f32⟩
  | 45 => ⟨S4x2x4x4096x255, .f32⟩
  | 46 => ⟨S_, .f32⟩
  | 47 => ⟨S4x2x4x4096, .f32⟩
  | 48 => ⟨S4x2x4x4096x1, .f32⟩
  | 49 => ⟨S4x2x4x4096x255, .f32⟩
  | 50 => ⟨S4x2x4x4096x255, .f32⟩
  | 51 => ⟨S4x2x4x4096x255, .f32⟩
  | 52 => ⟨S_, .f32⟩
  | 53 => ⟨S_, .f32⟩
  | 54 => ⟨S4x2x4x4096x255, .i1⟩
  | 55 => ⟨S4x2x4x4096x255, .f32⟩
  | 56 => ⟨S4x2x4x4096x255, .f32⟩
  | 57 => ⟨S_, .f32⟩
  | 58 => ⟨S4x2x4x4096, .f32⟩
  | 59 => ⟨S4x2x4x4096x1, .f32⟩
  | 60 => ⟨S_, .f32⟩
  | 61 => ⟨S4x2x4x4096x1, .f32⟩
  | 62 => ⟨S4x2x4x4096x1, .f32⟩
  | 63 => ⟨S4x2x4x4096x255, .f32⟩
  | 64 => ⟨S4x2x4x4096x255, .f32⟩
  | 65 => ⟨S4x2x128x4x4096, .f32⟩
  | 66 => ⟨S4x4096x2x4x128, .f32⟩
  | 67 => ⟨S64, .i32⟩
  | 68 => ⟨S255, .i32⟩
  | 69 => ⟨S255x1, .i32⟩
  | 70 => ⟨S1x64, .i32⟩
  | 71 => ⟨S_, .i32⟩
  | 72 => ⟨S255x1, .i32⟩
  | 73 => ⟨S255x1, .i32⟩
  | 74 => ⟨S_, .i32⟩
  | 75 => ⟨S1x64, .i32⟩
  | 76 => ⟨S1x64, .i32⟩
  | 77 => ⟨S_, .i32⟩
  | 78 => ⟨S1x64, .i32⟩
  | 79 => ⟨S1x64, .i32⟩
  | 80 => ⟨S255x64, .i32⟩
  | 81 => ⟨S255x64, .i32⟩
  | 82 => ⟨S255x64, .i1⟩
  | 83 => ⟨S_, .i32⟩
  | 84 => ⟨S255x1, .i32⟩
  | 85 => ⟨S255x1, .i32⟩
  | 86 => ⟨S_, .i32⟩
  | 87 => ⟨S255x1, .i32⟩
  | 88 => ⟨S255x1, .i32⟩
  | 89 => ⟨S_, .i32⟩
  | 90 => ⟨S1x64, .i32⟩
  | 91 => ⟨S1x64, .i32⟩
  | 92 => ⟨S255x64, .i32⟩
  | 93 => ⟨S255x64, .i32⟩
  | 94 => ⟨S255x64, .i1⟩
  | 95 => ⟨S255x64, .i1⟩
  | 96 => ⟨S255x64, .f32⟩
  | 97 => ⟨S_, .f32⟩
  | 98 => ⟨S4x2x4096x255, .f32⟩
  | 99 => ⟨S4x2x4096x64, .f32⟩
  | 100 => ⟨S_, .i32⟩
  | 101 => ⟨S4096, .i32⟩
  | 102 => ⟨S4096, .i32⟩
  | 103 => ⟨S4096x1, .i32⟩
  | 104 => ⟨S_, .i32⟩
  | 105 => ⟨S64, .i32⟩
  | 106 => ⟨S64, .i1⟩
  | 107 => ⟨S1x64, .i32⟩
  | 108 => ⟨S4096x64, .i32⟩
  | 109 => ⟨S4096x64, .i32⟩
  | 110 => ⟨S4096x64, .i1⟩
  | 111 => ⟨S1x64, .i1⟩
  | 112 => ⟨S4096x64, .i1⟩
  | 113 => ⟨S4096x64, .i1⟩
  | 114 => ⟨S_, .i32⟩
  | 115 => ⟨S4096x1, .i32⟩
  | 116 => ⟨S4096x1, .i32⟩
  | 117 => ⟨S1x64, .i32⟩
  | 118 => ⟨S4096x64, .i32⟩
  | 119 => ⟨S4096x64, .i32⟩
  | 120 => ⟨S4096x64, .i1⟩
  | 121 => ⟨S4096x64, .i1⟩
  | 122 => ⟨S1x64, .i32⟩
  | 123 => ⟨S4096x64, .i32⟩
  | 124 => ⟨S4096x64, .i32⟩
  | 125 => ⟨S4096x64, .i1⟩
  | 126 => ⟨S_, .f32⟩
  | 127 => ⟨S_, .f32⟩
  | _ => ⟨S16384x1024, .f32⟩

abbrev hbmTy0_1 (i : Nat) : BufTy := match i % 128 with
  | 0 => ⟨S4x2x4096x64, .i1⟩
  | 1 => ⟨S4x2x4096x64, .f32⟩
  | 2 => ⟨S4x2x4096x64, .f32⟩
  | 3 => ⟨S_, .f32⟩
  | 4 => ⟨S_, .f32⟩
  | 5 => ⟨S4x2x4096x64, .i1⟩
  | 6 => ⟨S4x2x4096x64, .f32⟩
  | 7 => ⟨S4x2x4096x64, .f32⟩
  | 8 => ⟨S4x2x4096x16, .f32⟩
  | 9 => ⟨S4x2x4096x16, .i32⟩
  | 10 => ⟨S4x2x4096x16x1, .i32⟩
  | 11 => ⟨S_, .i32⟩
  | 12 => ⟨S4x2x4096x16x1, .i32⟩
  | 13 => ⟨S4x2x4096x16x1, .i32⟩
  | 14 => ⟨S64, .i32⟩
  | 15 => ⟨S1x1x1x1x64, .i32⟩
  | 16 => ⟨S4x2x4096x16x64, .i32⟩
  | 17 => ⟨S4x2x4096x16x64, .i32⟩
  | 18 => ⟨S4x2x4096x16x64, .i32⟩
  | 19 => ⟨S4x2x4096x1024, .i32⟩
  | 20 => ⟨S4x4096x2x128, .f32⟩
  | 21 => ⟨S4x2x4096x128, .f32⟩
  | 22 => ⟨S4x2x4096x1024x1, .i32⟩
  | 23 => ⟨S4x2x4096x1024x128, .f32⟩
  | 24 => ⟨S4x2x4096x1024x4, .f32⟩
  | 25 => ⟨S4x2x4x4096x1024, .f32⟩
  | 26 => ⟨S_, .f32⟩
  | 27 => ⟨S4x2x4x4096x1024, .f32⟩
  | 28 => ⟨S4x2x4x4096x1024, .f32⟩
  | 29 => ⟨S4096x1, .i32⟩
  | 30 => ⟨S1x1x4096x1, .i32⟩
  | 31 => ⟨S4x2x4096x1024, .i32⟩
  | 32 => ⟨S4x2x4096x1024, .i1⟩
  | 33 => ⟨S4x2x1x4096x1024, .i1⟩
  | 34 => ⟨S_, .f32⟩
  | 35 => ⟨S_, .f32⟩
  | 36 => ⟨S4x2x4x4096x1024, .i1⟩
  | 37 => ⟨S4x2x4x4096x1024, .f32⟩
  | 38 => ⟨S4x2x4x4096x1024, .f32⟩
  | 39 => ⟨S_, .f32⟩
  | 40 => ⟨S4x2x4x4096, .f32⟩
  | 41 => ⟨S4x2x4x4096x1, .f32⟩
  | 42 => ⟨S4x2x4x4096x1024, .f32⟩
  | 43 => ⟨S4x2x4x4096x1024, .f32⟩
  | 44 => ⟨S4x2x4x4096x1024, .f32⟩
  | 45 => ⟨S_, .f32⟩
  | 46 => ⟨S_, .f32⟩
  | 47 => ⟨S4x2x4x4096x1024, .i1⟩
  | 48 => ⟨S4x2x4x4096x1024, .f32⟩
  | 49 => ⟨S4x2x4x4096x1024, .f32⟩
  | 50 => ⟨S_, .f32⟩
  | 51 => ⟨S4x2x4x4096, .f32⟩
  | 52 => ⟨S4x2x4x4096x1, .f32⟩
  | 53 => ⟨S_, .f32⟩
  | 54 => ⟨S4x2x4x4096x1, .f32⟩
  | 55 => ⟨S4x2x4x4096x1, .f32⟩
  | 56 => ⟨S4x2x4x4096x1024, .f32⟩
  | 57 => ⟨S4x2x4x4096x1024, .f32⟩
  | 58 => ⟨S4x4096x2x128, .f32⟩
  | 59 => ⟨S4x2x4096x128, .f32⟩
  | 60 => ⟨S4x2x4096x1024x1, .i32⟩
  | 61 => ⟨S4x2x4096x1024x128, .f32⟩
  | 62 => ⟨S4x4096x2x4x128, .f32⟩
  | 63 => ⟨S1x4096, .i32⟩
  | 64 => ⟨S4096x1, .i32⟩
  | 65 => ⟨S4096x4096, .i32⟩
  | 66 => ⟨S4096x4096, .i32⟩
  | 67 => ⟨S4096x4096, .i1⟩
  | 68 => ⟨S1x4096, .i32⟩
  | 69 => ⟨S4096x1, .i32⟩
  | 70 => ⟨S_, .i32⟩
  | 71 => ⟨S4096x1, .i32⟩
  | 72 => ⟨S4096x1, .i32⟩
  | 73 => ⟨S4096x4096, .i32⟩
  | 74 => ⟨S4096x4096, .i32⟩
  | 75 => ⟨S4096x4096, .i1⟩
  | 76 => ⟨S4096x4096, .i1⟩
  | 77 => ⟨S4x2x4096x4096x4, .f32⟩
  | 78 => ⟨S4x2x4x4096x4096, .f32⟩
  | 79 => ⟨S_, .f32⟩
  | 80 => ⟨S4x2x4x4096x4096, .f32⟩
  | 81 => ⟨S4x2x4x4096x4096, .f32⟩
  | 82 => ⟨S_, .f32⟩
  | 83 => ⟨S_, .f32⟩
  | 84 => ⟨S4x2x4x4096x4096, .i1⟩
  | 85 => ⟨S4x2x4x4096x4096, .f32⟩
  | 86 => ⟨S4x2x4x4096x4096, .f32⟩
  | 87 => ⟨S_, .f32⟩
  | 88 => ⟨S4x2x4x4096, .f32⟩
  | 89 => ⟨S4x2x4x4096x1, .f32⟩
  | 90 => ⟨S4x2x4x4096x4096, .f32⟩
  | 91 => ⟨S4x2x4x4096x4096, .f32⟩
  | 92 => ⟨S4x2x4x4096x4096, .f32⟩
  | 93 => ⟨S_, .f32⟩
  | 94 => ⟨S_, .f32⟩
  | 95 => ⟨S4x2x4x4096x4096, .i1⟩
  | 96 => ⟨S4x2x4x4096x4096, .f32⟩
  | 97 => ⟨S4x2x4x4096x4096, .f32⟩
  | 98 => ⟨S_, .f32⟩
  | 99 => ⟨S4x2x4x4096, .f32⟩
  | 100 => ⟨S4x2x4x4096x1, .f32⟩
  | 101 => ⟨S_, .f32⟩
  | 102 => ⟨S4x2x4x4096x1, .f32⟩
  | 103 => ⟨S4x2x4x4096x1, .f32⟩
  | 104 => ⟨S4x2x4x4096x4096, .f32⟩
  | 105 => ⟨S4x2x4x4096x4096, .f32⟩
  | 106 => ⟨S4x2x128x4x4096, .f32⟩
  | 107 => ⟨S4x4096x2x4x128, .f32⟩
  | 108 => ⟨S4x4096x2x4x1, .f32⟩
  | 109 => ⟨S4x4096x2x4x128, .f32⟩
  | 110 => ⟨S4x4096x2x4x128, .f32⟩
  | 111 => ⟨S4x4096x2x4x1, .f32⟩
  | 112 => ⟨S4x4096x2x4x128, .f32⟩
  | 113 => ⟨S4x4096x2x4x128, .f32⟩
  | 114 => ⟨S4x4096x2x4x128, .f32⟩
  | 115 => ⟨S4x4096x2x4x1, .f32⟩
  | 116 => ⟨S4x4096x2x4x128, .f32⟩
  | 117 => ⟨S4x4096x2x4x128, .f32⟩
  | 118 => ⟨S4x4096x2x4x128, .f32⟩
  | 119 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_14 : Ref sig .tc := ⟨.hbm, 97, rfl⟩
abbrev main_v67 : Ref sig .tc := ⟨.hbm, 98, rfl⟩
abbrev main_v68 : Ref sig .tc := ⟨.hbm, 99, rfl⟩
abbrev main_c_15 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_17 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_18 : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_v92 : Ref sig .tc := ⟨.hbm, 130, rfl⟩
abbrev main_cst_19 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v93 : Ref sig .tc := ⟨.hbm, 135, rfl⟩
abbrev main_values : Ref sig .tc := ⟨.hbm, 136, rfl⟩
abbrev main_indices : Ref sig .tc := ⟨.hbm, 137, rfl⟩
abbrev main_v94 : Ref sig .tc := ⟨.hbm, 138, rfl⟩
abbrev main_c_20 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_21 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_22 : Ref sig .tc := ⟨.hbm, 162, rfl⟩
abbrev main_call4_v0 : Ref sig .tc := ⟨.hbm, 163, rfl⟩
abbrev main_call4_v1 : Ref sig .tc := ⟨.hbm, 164, rfl⟩
abbrev main_call4_v2 : Ref sig .tc := ⟨.hbm, 165, rfl⟩
abbrev main_v116 : Ref sig .tc := ⟨.hbm, 166, rfl⟩
abbrev main_cst_23 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_cst_24 : Ref sig .tc := ⟨.hbm, 173, rfl⟩
abbrev main_call5_v0 : Ref sig .tc := ⟨.hbm, 174, rfl⟩
abbrev main_call5_v1 : Ref sig .tc := ⟨.hbm, 175, rfl⟩
abbrev main_call5_v2 : Ref sig .tc := ⟨.hbm, 176, rfl⟩
abbrev main_v122 : Ref sig .tc := ⟨.hbm, 177, rfl⟩
abbrev main_cst_25 : Ref sig .tc := ⟨.hbm, 178, rfl⟩
abbrev main_v123 : Ref sig .tc := ⟨.hbm, 179, rfl⟩
abbrev main_v124 : Ref sig .tc := ⟨.hbm, 180, rfl⟩
abbrev main_cst_26 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_c_27 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_cst_28 : Ref sig .tc := ⟨.hbm, 207, rfl⟩
abbrev main_v149 : Ref sig .tc := ⟨.hbm, 208, rfl⟩
abbrev main_v150 : Ref sig .tc := ⟨.hbm, 209, rfl⟩
abbrev main_cst_29 : Ref sig .tc := ⟨.hbm, 210, rfl⟩
abbrev main_call6_v0 : Ref sig .tc := ⟨.hbm, 211, rfl⟩
abbrev main_call6_v1 : Ref sig .tc := ⟨.hbm, 212, rfl⟩
abbrev main_call6_v2 : Ref sig .tc := ⟨.hbm, 213, rfl⟩
abbrev main_v151 : Ref sig .tc := ⟨.hbm, 214, rfl⟩
abbrev main_cst_30 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_cst_31 : Ref sig .tc := ⟨.hbm, 221, rfl⟩
abbrev main_call7_v0 : Ref sig .tc := ⟨.hbm, 222, rfl⟩
abbrev main_call7_v1 : Ref sig .tc := ⟨.hbm, 223, rfl⟩
abbrev main_call7_v2 : Ref sig .tc := ⟨.hbm, 224, rfl⟩
abbrev main_v157 : Ref sig .tc := ⟨.hbm, 225, rfl⟩
abbrev main_cst_32 : Ref sig .tc := ⟨.hbm, 226, rfl⟩
abbrev main_v158 : Ref sig .tc := ⟨.hbm, 227, rfl⟩
abbrev main_v159 : Ref sig .tc := ⟨.hbm, 228, rfl⟩
abbrev main_cst_33 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S2048x2688 : Shape := ⟨2, ![2048, 2688]⟩
abbrev S1x2048 : Shape := ⟨2, ![1, 2048]⟩
abbrev S16384x2688 : Shape := ⟨2, ![16384, 2688]⟩
abbrev S512x2048 : Shape := ⟨2, ![512, 2048]⟩
abbrev S2048x896 : Shape := ⟨2, ![2048, 896]⟩
abbrev S512x896 : Shape := ⟨2, ![512, 896]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2688, .bf16⟩
  | .hbm, ⟨3, _⟩ => ⟨S1x2048, .f32⟩
  | .hbm, ⟨4, _⟩ => ⟨S16384x2688, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x896, .bf16⟩
  | .local _ .vmem, ⟨4, _⟩ => ⟨S2048x896, .bf16⟩
  | .local _ .vmem, ⟨5, _⟩ => ⟨S512x896, .f32⟩
  | .local _ .vmem, ⟨6, _⟩ => ⟨S512x896, .f32⟩
  | .local _ .vmem, ⟨7, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x2048 : Shape := ⟨2, ![16384, 2048]⟩
abbrev S2048 : Shape := ⟨1, ![2048]⟩
abbrev S2048x2688 : Shape := ⟨2, ![2048, 2688]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x2688 : Shape := ⟨2, ![16384, 2688]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2688, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S2048x2688, .f32⟩
  | .hbm, ⟨20, _⟩ => ⟨S16384x2688, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S16384x2688 : Shape := ⟨2, ![16384, 2688]⟩
abbrev S128 : Shape := ⟨1, ![128]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S4096x112 : Shape := ⟨2, ![4096, 112]⟩
abbrev S1x128 : Shape := ⟨2, ![1, 128]⟩
abbrev S16384x1024 : Shape := ⟨2, ![16384, 1024]⟩
abbrev S16384x256 : Shape := ⟨2, ![16384, 256]⟩
abbrev S256x2560 : Shape := ⟨2, ![256, 2560]⟩
abbrev S256x128 : Shape := ⟨2, ![256, 128]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 49
  | .vmem => 25
  | .smem => 0
  | _ => 0

abbrev bufTy : (tb : Table) → Fin (tcTables nBuf tb) → BufTy
  | .hbm, ⟨0, _⟩ => ⟨S16384x2688, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S4096, .i32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S4096, .f32⟩
  | .hbm, ⟨20, _⟩ => ⟨S4096x1, .f32⟩
  | .hbm, ⟨21, _⟩ => ⟨S1x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S_, .f32⟩
  | .hbm, ⟨28, _⟩ => ⟨S4096x96, .f32⟩
  | .hbm, ⟨29, _⟩ => ⟨S4096x128, .f32⟩
  | .hbm, ⟨30, _⟩ => ⟨S4096x16, .f32⟩
  | .hbm, ⟨31, _⟩ => ⟨S_, .f32⟩
  | .hbm, ⟨32, _⟩ => ⟨S4096x112, .f32⟩
  | .hbm, ⟨33, _⟩ => ⟨S4096x128, .f32⟩
  | .hbm, ⟨34, _⟩ => ⟨S_, .f32⟩
  | .hbm, ⟨35, _⟩ => ⟨S4096x16, .f32⟩
  | .hbm, ⟨36, _⟩ => ⟨S_, .f32⟩
  | .hbm, ⟨37, _⟩ => ⟨S4096x96, .f32⟩
  | .hbm, ⟨38, _⟩ => ⟨S4096x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S16384x1024, .f32⟩
  | .hbm, ⟨43, _⟩ => ⟨S16384x256, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S16384x256, .f32⟩
  | .local _ .vmem, ⟨0, _⟩ => ⟨S256x2560, .f32⟩
  | .local _ .vmem, ⟨1, _⟩ => ⟨S256x2560, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S256x1024, .f32⟩
  | .local _ .vmem, ⟨12, _⟩ => ⟨S256x1024, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | _, _ => ⟨S16384x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev main_v30_3 : Ref sig .tc := ⟨.hbm, 45, rfl⟩
abbrev main_v30_4 : Ref sig .tc := ⟨.hbm, 46, rfl⟩
abbrev main_v30_5 : Ref sig .tc := ⟨.hbm, 47, rfl⟩
abbrev main_v30_6 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S16384x2688 : Shape := ⟨2, ![16384, 2688]⟩
abbrev S128 : Shape := ⟨1, ![128]⟩
abbrev S16384x1024 : Shape := ⟨2, ![16384, 1024]⟩
abbrev S4x4096x8x128 : Shape := ⟨4, ![4, 4096, 8, 128]⟩
abbrev S16384x256 : Shape := ⟨2, ![16384, 256]⟩
abbrev S4x4096x2x128 : Shape := ⟨4, ![4, 4096, 2, 128]⟩
abbrev S_ : Shape := ⟨0, ![]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x8x16 : Shape := ⟨4, ![4, 4096, 8, 16]⟩
abbrev S4x4096x8x96 : Shape := ⟨4, ![4, 4096, 8, 96]⟩
abbrev S4x4096x2x16 : Shape := ⟨4, ![4, 4096, 2, 16]⟩
abbrev S4x4096x2x96 : Shape := ⟨4, ![4, 4096, 2, 96]⟩
abbrev S4x4096x2 : Shape := ⟨3, ![4, 4096, 2]⟩
abbrev S4x4096x2x1 : Shape := ⟨4, ![4, 4096, 2, 1]⟩

abbrev nBuf : Space → Nat
  | .hbm => 229
  | .vmem => 0
  | .smem => 0
  | _ => 0

abbrev hbmTy0_0 (i : Nat) : BufTy := match i % 128 with
  | 0 => ⟨S16384x2688, .f32⟩
  | 1 => ⟨S128, .f32⟩
  | 2 => ⟨S128, .f32⟩
  | 3 => ⟨S128, .f32⟩
  | 4 => ⟨S16384x1024, .f32⟩
  | 5 => ⟨S4x4096x8x128, .f32⟩
  | 6 => ⟨S16384x256, .f32⟩
  | 7 => ⟨S4x4096x2x128, .f32⟩
  | 8 => ⟨S16384x256, .f32⟩
  | 9 => ⟨S4x4096x2x128, .f32⟩
  | 10 => ⟨S16384x256, .f32⟩
  | 11 => ⟨S4x4096x2x128, .f32⟩
  | 12 => ⟨S16384x256, .f32⟩
  | 13 => ⟨S4x4096x2x128, .f32⟩
  | 14 => ⟨S16384x256, .f32⟩
  | 15 => ⟨S4x4096x2x128, .f32⟩
  | 16 => ⟨S16384x256, .f32⟩
  | 17 => ⟨S4x4096x2x128, .f32⟩
  | 18 => ⟨S4x4096x8x128, .f32⟩
  | 19 => ⟨S_, .f32⟩
  | 20 => ⟨S4x4096x8, .f32⟩
  | 21 => ⟨S4x4096x8x1, .f32⟩
  | 22 => ⟨S_, .f32⟩
  | 23 => ⟨S4x4096x8x1, .f32⟩
  | 24 => ⟨S4x4096x8x1, .f32⟩
  | 25 => ⟨S_, .f32⟩
  | 26 => ⟨S4x4096x8x1, .f32⟩
  | 27 => ⟨S4x4096x8x1, .f32⟩
  | 28 => ⟨S4x4096x8x1, .f32⟩
  | 29 => ⟨S4x4096x8x128, .f32⟩
  | 30 => ⟨S4x4096x8x128, .f32⟩
  | 31 => ⟨S1x1x1x128, .f32⟩
  | 32 => ⟨S4x4096x8x128, .f32⟩
  | 33 => ⟨S4x4096x8x128, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S4096, .i32⟩
  | 49 => ⟨S4096, .f32⟩
  | 50 => ⟨S4096x1, .f32⟩
  | 51 => ⟨S1x16, .f32⟩
  | 52 => ⟨S4096x16, .f32⟩
  | 53 => ⟨S4096x16, .f32⟩
  | 54 => ⟨S4096x16, .f32⟩
  | 55 => ⟨S4096x16, .f32⟩
  | 56 => ⟨S1x4096x1x16, .f32⟩
  | 57 => ⟨S4096x16, .f32⟩
  | 58 => ⟨S1x4096x1x16, .f32⟩
  | 59 => ⟨S4x4096x8x16, .f32⟩
  | 60 => ⟨S4x4096x8x16, .f32⟩
  | 61 => ⟨S4x4096x8x96, .f32⟩
  | 62 => ⟨S4x4096x8x16, .f32⟩
  | 63 => ⟨S4x4096x8x16, .f32⟩
  | 64 => ⟨S4x4096x8x16, .f32⟩
  | 65 => ⟨S4x4096x8x16, .f32⟩
  | 66 => ⟨S4x4096x8x16, .f32⟩
  | 67 => ⟨S4x4096x8x16, .f32⟩
  | 68 => ⟨S4x4096x8x16, .f32⟩
  | 69 => ⟨S4x4096x8x16, .f32⟩
  | 70 => ⟨S4x4096x8x16, .f32⟩
  | 71 => ⟨S4x4096x8x16, .f32⟩
  | 72 => ⟨S4x4096x8x128, .f32⟩
  | 73 => ⟨S16, .f32⟩
  | 74 => ⟨S_, .f32⟩
  | 75 => ⟨S16, .f32⟩
  | 76 => ⟨S16, .f32⟩
  | 77 => ⟨S_, .f32⟩
  | 78 => ⟨S16, .f32⟩
  | 79 => ⟨S16, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S4096, .i32⟩
  | 88 => ⟨S4096, .f32⟩
  | 89 => ⟨S4096x1, .f32⟩
  | 90 => ⟨S1x16, .f32⟩
  | 91 => ⟨S4096x16, .f32⟩
  | 92 => ⟨S4096x16, .f32⟩
  | 93 => ⟨S4096x16, .f32⟩
  | 94 => ⟨S4096x16, .f32⟩
  | 95 => ⟨S1x4096x1x16, .f32⟩
  | 96 => ⟨S4096x16, .f32⟩
  | 97 => ⟨S1x4096x1x16, .f32⟩
  | 98 => ⟨S4x4096x2x16, .f32⟩
  | 99 => ⟨S4x4096x2x16, .f32⟩
  | 100 => ⟨S4x4096x2x96, .f32⟩
  | 101 => ⟨S4x4096x2x16, .f32⟩
  | 102 => ⟨S4x4096x2x16, .f32⟩
  | 103 => ⟨S4x4096x2x16, .f32⟩
  | 104 => ⟨S4x4096x2x16, .f32⟩
  | 105 => ⟨S4x4096x2x16, .f32⟩
  | 106 => ⟨S4x4096x2x16, .f32⟩
  | 107 => ⟨S4x4096x2x16, .f32⟩
  | 108 => ⟨S4x4096x2x16, .f32⟩
  | 109 => ⟨S4x4096x2x16, .f32⟩
  | 110 => ⟨S4x4096x2x16, .f32⟩
  | 111 => ⟨S4x4096x2x128, .f32⟩
  | 112 => ⟨S4x4096x2x128, .f32⟩
  | 113 => ⟨S_, .f32⟩
  | 114 => ⟨S4x4096x2, .f32⟩
  | 115 => ⟨S4x4096x2x1, .f32⟩
  | 116 => ⟨S_, .f32⟩
  | 117 => ⟨S4x4096x2x1, .f32⟩
  | 118 => ⟨S4x4096x2x1, .f32⟩
  | 119 => ⟨S_, .f32⟩
  | 120 => ⟨S4x4096x2x1, .f32⟩
  | 121 => ⟨S4x4096x2x1, .f32⟩
  | 122 => ⟨S4x4096x2x1, .f32⟩
  | 123 => ⟨S4x4096x2x128, .f32⟩
  | 124 => ⟨S4x4096x2x128, .f32⟩
  | 125 => ⟨S1x1x1x128, .f32⟩
  | 126 => ⟨S4x4096x2x128, .f32⟩
  | 127 => ⟨S4x4096x2x128, .f32⟩
  | _ => ⟨S16384x2688, .f32⟩

abbrev hbmTy0_1 (i : Nat) : BufTy := match i % 128 with
  | 0 => ⟨S16, .f32⟩
  | 1 => ⟨S_, .f32⟩
  | 2 => ⟨S16, .f32⟩
  | 3 => ⟨S16, .f32⟩
  | 4 => ⟨S_, .f32⟩
  | 5 => ⟨S16, .f32⟩
  | 6 => ⟨S16, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S4096, .i32⟩
  | 15 => ⟨S4096, .f32⟩
  | 16 => ⟨S4096x1, .f32⟩
  | 17 => ⟨S1x16, .f32⟩
  | 18 => ⟨S4096x16, .f32⟩
  | 19 => ⟨S4096x16, .f32⟩
  | 20 => ⟨S4096x16, .f32⟩
  | 21 => ⟨S4096x16, .f32⟩
  | 22 => ⟨S1x4096x1x16, .f32⟩
  | 23 => ⟨S4096x16, .f32⟩
  | 24 => ⟨S1x4096x1x16, .f32⟩
  | 25 => ⟨S4x4096x2x16, .f32⟩
  | 26 => ⟨S4x4096x2x16, .f32⟩
  | 27 => ⟨S4x4096x2x96, .f32⟩
  | 28 => ⟨S4x4096x2x16, .f32⟩
  | 29 => ⟨S4x4096x2x16, .f32⟩
  | 30 => ⟨S4x4096x2x16, .f32⟩
  | 31 => ⟨S4x4096x2x16, .f32⟩
  | 32 => ⟨S4x4096x2x16, .f32⟩
  | 33 => ⟨S4x4096x2x16, .f32⟩
  | 34 => ⟨S4x4096x2x16, .f32⟩
  | 35 => ⟨S4x4096x2x16, .f32⟩
  | 36 => ⟨S4x4096x2x16, .f32⟩
  | 37 => ⟨S4x4096x2x16, .f32⟩
  | 38 => ⟨S4x4096x2x128, .f32⟩
  | 39 => ⟨S4x4096x2x128, .f32⟩
  | 40 => ⟨S_, .f32⟩
  | 41 => ⟨S4x4096x2, .f32⟩
  | 42 => ⟨S4x4096x2x1, .f32⟩
  | 43 => ⟨S_, .f32⟩
  | 44 => ⟨S4x4096x2x1, .f32⟩
  | 45 => ⟨S4x4096x2x1, .f32⟩
  | 46 => ⟨S_, .f32⟩
  | 47 => ⟨S4x4096x2x1, .f32⟩
  | 48 => ⟨S4x4096x2x1, .f32⟩
  | 49 => ⟨S4x4096x2x1, .f32⟩
  | 50 => ⟨S4x4096x2x128, .f32⟩
  | 51 => ⟨S4x4096x2x128, .f32⟩
  | 52 => ⟨S1x1x1x128, .f32⟩
  | 53 => ⟨S4x4096x2x128, .f32⟩
  | 54 => ⟨S4x4096x2x128, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S4096, .i32⟩
  | 70 => ⟨S4096, .f32⟩
  | 71 => ⟨S4096x1, .f32⟩
  | 72 => ⟨S1x16, .f32⟩
  | 73 => ⟨S4096x16, .f32⟩
  | 74 => ⟨S4096x16, .f32⟩
  | 75 => ⟨S4096x16, .f32⟩
  | 76 => ⟨S4096x16, .f32⟩
  | 77 => ⟨S1x4096x1x16, .f32⟩
  | 78 => ⟨S4096x16, .f32⟩
  | 79 => ⟨S1x4096x1x16, .f32⟩
  | 80 => ⟨S4x4096x2x16, .f32⟩
  | 81 => ⟨S4x4096x2x16, .f32⟩
  | 82 => ⟨S4x4096x2x96, .f32⟩
  | 83 => ⟨S4x4096x2x16, .f32⟩
  | 84 => ⟨S4x4096x2x16, .f32⟩
  | 85 => ⟨S4x4096x2x16, .f32⟩
  | 86 => ⟨S4x4096x2x16, .f32⟩
  | 87 => ⟨S4x4096x2x16, .f32⟩
  | 88 => ⟨S4x4096x2x16, .f32⟩
  | 89 => ⟨S4x4096x2x16, .f32⟩
  | 90 => ⟨S4x4096x2x16, .f32⟩
  | 91 => ⟨S4x4096x2x16, .f32⟩
  | 92 => ⟨S4x4096x2x16, .f32⟩
  | 93 => ⟨S4x4096x2x128, .f32⟩
  | 94 => ⟨S16384x1024, .f32⟩
  | 95 => ⟨S16384x256, .f32⟩
  | 96 => ⟨S16384x256, .f32⟩
  | 97 => ⟨S16384x256, .f32⟩
  | 98 => ⟨S16384x256, .f32⟩
  | 99 => ⟨S16384x256, .f32⟩
  | 100 => ⟨S16384x256, .f32⟩
  | _ => ⟨S16384x2688, .f32⟩

abbrev hbmTy (i : Nat) : BufTy := match i / 128 with
  | 0 => hbmTy0_0 i
  | 1 => hbmTy0_1 i
  | _ => ⟨S16384x2688, .f32⟩

abbrev bufTy : (tb : Table) → Fin (tcTables nBuf tb) → BufTy
  | .hbm, ⟨i, _⟩ => hbmTy i
  | _, _ => ⟨S16384x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_6 : Ref sig .tc := ⟨.hbm, 74, rfl⟩
abbrev main_v63 : Ref sig .tc := ⟨.hbm, 75, rfl⟩
abbrev main_v64 : Ref sig .tc := ⟨.hbm, 76, rfl⟩
abbrev main_cst_7 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_8 : Ref sig .tc := ⟨.hbm, 81, rfl⟩
abbrev main_v68 : Ref sig .tc := ⟨.hbm, 82, rfl⟩
abbrev main_v69 : Ref sig .tc := ⟨.hbm, 83, rfl⟩
abbrev main_cst_9 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_cst_10 : Ref sig .tc := ⟨.hbm, 113, rfl⟩
abbrev main_v98 : Ref sig .tc := ⟨.hbm, 114, rfl⟩
abbrev main_v99 : Ref sig .tc := ⟨.hbm, 115, rfl⟩
abbrev main_cst_11 : Ref sig .tc := ⟨.hbm, 116, rfl⟩
abbrev main_v100 : Ref sig .tc := ⟨.hbm, 117, rfl⟩
abbrev main_v101 : Ref sig .tc := ⟨.hbm, 118, rfl⟩
abbrev main_cst_12 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_13 : Ref sig .tc := ⟨.hbm, 129, rfl⟩
abbrev main_v111 : Ref sig .tc := ⟨.hbm, 130, rfl⟩
abbrev main_v112 : Ref sig .tc := ⟨.hbm, 131, rfl⟩
abbrev main_cst_14 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_cst_15 : Ref sig .tc := ⟨.hbm, 136, rfl⟩
abbrev main_v116 : Ref sig .tc := ⟨.hbm, 137, rfl⟩
abbrev main_v117 : Ref sig .tc := ⟨.hbm, 138, rfl⟩
abbrev main_cst_16 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_cst_17 : Ref sig .tc := ⟨.hbm, 168, rfl⟩
abbrev main_v146 : Ref sig .tc := ⟨.hbm, 169, rfl⟩
abbrev main_v147 : Ref sig .tc := ⟨.hbm, 170, rfl⟩
abbrev main_cst_18 : Ref sig .tc := ⟨.hbm, 171, rfl⟩
abbrev main_v148 : Ref sig .tc := ⟨.hbm, 172, rfl⟩
abbrev main_v149 : Ref sig .tc := ⟨.hbm, 173, rfl⟩
abbrev main_cst_19 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_cst_20 : Ref sig .tc := ⟨.hbm, 184, rfl⟩
abbrev main_v159 : Ref sig .tc := ⟨.hbm, 185, rfl⟩
abbrev main_v160 : Ref sig .tc := ⟨.hbm, 186, rfl⟩
abbrev main_cst_21 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_cst_22 : Ref sig .tc := ⟨.hbm, 191, rfl⟩
abbrev main_v164 : Ref sig .tc := ⟨.hbm, 192, rfl⟩
abbrev main_v165 : Ref sig .tc := ⟨.hbm, 193, rfl⟩
abbrev main_cst_23 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩

abbrev nD : Nat := 1
abbrev τ : Topo := Topo.v7x

variable {F : FTy → Type} [FloatOps F]
-- ==== Kernel4.lean ====
abbrev S16384x2048 : Shape := ⟨2, ![16384, 2048]⟩
abbrev S2048 : Shape := ⟨1, ![2048]⟩
abbrev S2048x3584 : Shape := ⟨2, ![2048, 3584]⟩
abbrev S1x2048 : Shape := ⟨2, ![1, 2048]⟩
abbrev S16384x3584 : Shape := ⟨2, ![16384, 3584]⟩
abbrev S512x2048 : Shape := ⟨2, ![512, 2048]⟩
abbrev S2048x896 : Shape := ⟨2, ![2048, 896]⟩
abbrev S512x896 : Shape := ⟨2, ![512, 896]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x3584, .bf16⟩
  | .hbm, ⟨3, _⟩ => ⟨S1x2048, .f32⟩
  | .hbm, ⟨4, _⟩ => ⟨S16384x3584, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x896, .bf16⟩
  | .local _ .vmem, ⟨4, _⟩ => ⟨S2048x896, .bf16⟩
  | .local _ .vmem, ⟨5, _⟩ => ⟨S512x896, .f32⟩
  | .local _ .vmem, ⟨6, _⟩ => ⟨S512x896, .f32⟩
  | .local _ .vmem, ⟨7, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x2048 : Shape := ⟨2, ![16384, 2048]⟩
abbrev S2048 : Shape := ⟨1, ![2048]⟩
abbrev S2048x3584 : Shape := ⟨2, ![2048, 3584]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x3584 : Shape := ⟨2, ![16384, 3584]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x3584, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S2048x3584, .f32⟩
  | .hbm, ⟨20, _⟩ => ⟨S16384x3584, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S16384x2048 : Shape := ⟨2, ![16384, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .bf16⟩
  | .hbm, ⟨3, _⟩ => ⟨S1x2048, .f32⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x512, .f32⟩
  | .local _ .vmem, ⟨6, _⟩ => ⟨S512x512, .f32⟩
  | .local _ .vmem, ⟨7, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16384x2048 : Shape := ⟨2, ![16384, 2048]⟩
abbrev S2048 : Shape := ⟨1, ![2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S2048x2048, .f32⟩
  | .hbm, ⟨20, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S16384x2048 : Shape := ⟨2, ![16384, 2048]⟩
abbrev S2048x2048 : Shape := ⟨2, ![2048, 2048]⟩
abbrev S1x1024 : Shape := ⟨2, ![1, 1024]⟩
abbrev S512x1024 : Shape := ⟨2, ![512, 1024]⟩
abbrev S512x512 : Shape := ⟨2, ![512, 512]⟩
abbrev S2048x512 : Shape := ⟨2, ![2048, 512]⟩
abbrev S512x2048 : Shape := ⟨2, ![512, 2048]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S1024x128 : Shape := ⟨2, ![1024, 128]⟩
abbrev S128x1024 : Shape := ⟨2, ![128, 1024]⟩

abbrev nBuf : Space → Nat
  | .hbm => 13
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S16384x2048, .f32⟩
  | .hbm, ⟨8, _⟩ => ⟨S2048x2048, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x512, .f32⟩
  | .local _ .vmem, ⟨12, _⟩ => ⟨S512x512, .f32⟩
  | .local _ .vmem, ⟨13, _⟩ => ⟨S2048x512, .bf16⟩
  | .local _ .vmem, ⟨14, _⟩ => ⟨S2048x512, .bf16⟩
  | .local _ .vmem, ⟨15, _⟩ => ⟨S512x512, .f32⟩
  | .local _ .vmem, ⟨16, _⟩ => ⟨S512x512, .f32⟩
  | .local _ .vmem, ⟨17, _⟩ => ⟨S512x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S16384x1024 : Shape := ⟨2, ![16384, 1024]⟩
abbrev S1024 : Shape := ⟨1, ![1024]⟩
abbrev S16384x2048 : Shape := ⟨2, ![16384, 2048]⟩
abbrev S2048x2048 : Shape := ⟨2, ![2048, 2048]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S8x128 : Shape := ⟨2, ![8, 128]⟩
abbrev S1x8x128 : Shape := ⟨3, ![1, 8, 128]⟩
abbrev S16384x16x64 : Shape := ⟨3, ![16384, 16, 64]⟩
abbrev S16384x16 : Shape := ⟨2, ![16384, 16]⟩
abbrev S16384x16x1 : Shape := ⟨3, ![16384, 16, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S16384x2048, .f32⟩
  | .hbm, ⟨8, _⟩ => ⟨S2048x2048, .bf16⟩
  | .hbm, ⟨9, _⟩ => ⟨S16384x8x128, .f32⟩
  | .hbm, ⟨10, _⟩ => ⟨S16384x8x128, .f32⟩
  | .hbm, ⟨11, _⟩ => ⟨S_, .f32⟩
  | .hbm, ⟨12, _⟩ => ⟨S16384x8, .f32⟩
  | .hbm, ⟨13, _⟩ => ⟨S16384x8x1, .f32⟩
  | .hbm, ⟨14, _⟩ => ⟨S_, .f32⟩
  | .hbm, ⟨15, _⟩ => ⟨S16384x8x1, .f32⟩
  | .hbm, ⟨16, _⟩ => ⟨S16384x8x1, .f32⟩
  | .hbm, ⟨17, _⟩ => ⟨S_, .f32⟩
  | .hbm, ⟨18, _⟩ => ⟨S16384x8x1, .f32⟩
  | .hbm, ⟨19, _⟩ => ⟨S16384x8x1, .f32⟩
  | .hbm, ⟨20, _⟩ => ⟨S16384x8x1, .f32⟩
  | .hbm, ⟨21, _⟩ => ⟨S16384x8x128, .f32⟩
  | .hbm, ⟨22, _⟩ => ⟨S16384x8x128, .f32⟩
  | .hbm, ⟨23, _⟩ => ⟨S8x128, .f32⟩
  | .hbm, ⟨24, _⟩ => ⟨S1x8x128, .f32⟩
  | .hbm, ⟨25, _⟩ => ⟨S16384x8x128, .f32⟩
  | .hbm, ⟨26, _⟩ => ⟨S16384x8x128, .f32⟩
  | .hbm, ⟨27, _⟩ => ⟨S16384x16x64, .f32⟩
  | .hbm, ⟨28, _⟩ => ⟨S_, .f32⟩
  | .hbm, ⟨29, _⟩ => ⟨S16384x16, .f32⟩
  | .hbm, ⟨30, _⟩ => ⟨S16384x16x1, .f32⟩
  | .hbm, ⟨31, _⟩ => ⟨S_, .f32⟩
  | .hbm, ⟨32, _⟩ => ⟨S16384x16x1, .f32⟩
  | .hbm, ⟨33, _⟩ => ⟨S16384x16x1, .f32⟩
  | .hbm, ⟨34, _⟩ => ⟨S16384x16x64, .f32⟩
  | .hbm, ⟨35, _⟩ => ⟨S16384x16x64, .f32⟩
  | .hbm, ⟨36, _⟩ => ⟨S16384x16x64, .f32⟩
  | .hbm, ⟨37, _⟩ => ⟨S_, .f32⟩
  | .hbm, ⟨38, _⟩ => ⟨S16384x16, .f32⟩
  | .hbm, ⟨39, _⟩ => ⟨S16384x16x1, .f32⟩
  | .hbm, ⟨40, _⟩ => ⟨S_, .f32⟩
  | .hbm, ⟨41, _⟩ => ⟨S16384x16x1, .f32⟩
  | .hbm, ⟨42, _⟩ => ⟨S16384x16x1, .f32⟩
  | .hbm, ⟨43, _⟩ => ⟨S16384x16x64, .f32⟩
  | .hbm, ⟨44, _⟩ => ⟨S16384x16x64, .f32⟩
  | .hbm, ⟨45, _⟩ => ⟨S_, .f32⟩
  | .hbm, ⟨46, _⟩ => ⟨S16384x16x1, .f32⟩
  | .hbm, ⟨47, _⟩ => ⟨S16384x16x1, .f32⟩
  | .hbm, ⟨48, _⟩ => ⟨S16384x16x1, .f32⟩
  | .hbm, ⟨49, _⟩ => ⟨S16384x16x64, .f32⟩
  | .hbm, ⟨50, _⟩ => ⟨S16384x16x64, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x2048, .f32⟩
  | .hbm, ⟨62, _⟩ => ⟨S2048x2048, .f32⟩
  | .hbm, ⟨63, _⟩ => ⟨S16384x2048, .f32⟩
  | .hbm, ⟨64, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Kernel7.lean ====
abbrev S128x2048 : Shape := ⟨2, ![128, 2048]⟩
abbrev S2048 : Shape := ⟨1, ![2048]⟩
abbrev S2048x3584 : Shape := ⟨2, ![2048, 3584]⟩
abbrev S1x2048 : Shape := ⟨2, ![1, 2048]⟩
abbrev S128x3584 : Shape := ⟨2, ![128, 3584]⟩
abbrev S2048x896 : Shape := ⟨2, ![2048, 896]⟩
abbrev S128x896 : Shape := ⟨2, ![128, 896]⟩
abbrev S128 : Shape := ⟨1, ![128]⟩
abbrev S128x1 : Shape := ⟨2, ![128, 1]⟩

abbrev nBuf : Space → Nat
  | .hbm => 5
  | .vmem => 7
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x3584, .bf16⟩
  | .hbm, ⟨3, _⟩ => ⟨S1x2048, .f32⟩
  | .hbm, ⟨4, _⟩ => ⟨S128x3584, .f32⟩
  | .local _ .vmem, ⟨0, _⟩ => ⟨S128x2048, .f32⟩
  | .local _ .vmem, ⟨1, _⟩ => ⟨S1x2048, .f32⟩
  | .local _ .vmem, ⟨2, _⟩ => ⟨S2048x896, .bf16⟩
  | .local _ .vmem, ⟨3, _⟩ => ⟨S2048x896, .bf16⟩
  | .local _ .vmem, ⟨4, _⟩ => ⟨S128x896, .f32⟩
  | .local _ .vmem, ⟨5, _⟩ => ⟨S128x896, .f32⟩
  | .local _ .vmem, ⟨6, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S128x2048 : Shape := ⟨2, ![128, 2048]⟩
abbrev S2048 : Shape := ⟨1, ![2048]⟩
abbrev S2048x3584 : Shape := ⟨2, ![2048, 3584]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S128x3584 : Shape := ⟨2, ![128, 3584]⟩

abbrev nBuf : Space → Nat
  | .hbm => 21
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x3584, .bf16⟩
  | .hbm, ⟨3, _⟩ => ⟨S128x2048, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x2048, .f32⟩
  | .hbm, ⟨15, _⟩ => ⟨S128x2048, .f32⟩
  | .hbm, ⟨16, _⟩ => ⟨S1x2048, .f32⟩
  | .hbm, ⟨17, _⟩ => ⟨S128x2048, .f32⟩
  | .hbm, ⟨18, _⟩ => ⟨S128x2048, .f32⟩
  | .hbm, ⟨19, _⟩ => ⟨S2048x3584, .f32⟩
  | .hbm, ⟨20, _⟩ => ⟨S128x3584, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.NormMatmul.lean ====
/-
  The projection, from rows to results: each row of `x` divided by its root mean square and scaled by `g`, times `w`.
  The kernel works in blocks of 512 rows by 896 columns and keeps the normalised rows of a row block in scratch, from the
  first of the three column blocks to the last. Read one element at a time, a block is the same sum the reference takes.
-/
module

public import proofs.«01_k».proof.Proof.Gen.Kernel2Ideal.Value
public import proofs.«01_k».proof.Proof.Gen.Reference2Ideal.Read
public import Idealize.ShloMosaic.Lib.Pointwise
public import Idealize.ShloMosaic.Lib.Claim
public import proofs.«01_k».proof.Defs
public import proofs.«01_k».proof.Proof.Gen.Reference2Ideal

@[expose] public section

set_option maxRecDepth 16384

noncomputable section

namespace Cert.Kernel2Ideal.Projection

open Cert.Kernel2Ideal Cert.Kernel2Ideal.Gen Idealize.ShloMosaic Idealize.ShloMosaic.TcCoe Idealize.SL.Sem
open Idealize.ShloMosaic.Pipeline (Dat Cfg Window)

section Blocks

variable {F : FTy → Type} [FloatOps F]

theorem off2 : (![0, 0] : Fin 2 → Nat) = fun _ => 0 := funext fun a => by fin_cases a <;> rfl

/-- At a row block's first point the result's block is the product of the rows normalised there. -/
theorem result_first (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x896 .bf16) (h4 : a4.IsWhole)
    (a5 : Memref sig .tc .vmem S512x896 .f32) (h5 : a5.IsWhole) (a6 : Memref sig .tc .vmem S512x2048 .bf16) (h6 : a6.IsWhole)
    (hc : cond0_0 i) (x : Vec F S512x2048 .f32) (g : Vec F S1x2048 .f32) (w : Vec F S2048x896 .bf16) :
    out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero off2, View.readCov_unit_zero (S := S512x2048) _ off2]
  simp only [View.readAt_eq_ld, h2.read_unread, h3.read_unread, h4.read_unread, View.ld_unit_zero (S := S512x2048) off2,
    View.ld_unit_zero (S := S1x2048) off2, View.ld_unit_zero (S := S2048x896) off2]

/-- … and the scratch holds those rows. -/
theorem scratch_first (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x896 .bf16) (h4 : a4.IsWhole)
    (a5 : Memref sig .tc .vmem S512x896 .f32) (h5 : a5.IsWhole) (a6 : Memref sig .tc .vmem S512x2048 .bf16) (h6 : a6.IsWhole)
    (hc : cond0_0 i) (x : Vec F S512x2048 .f32) (g : Vec F S1x2048 .f32) (w : Vec F S2048x896 .bf16) :
    sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  try sl_unfold_words
  rw [View.canon_unit_zero off2]
  simp only [View.readAt_eq_ld, h2.read_unread, h3.read_unread, View.ld_unit_zero (S := S512x2048) off2,
    View.ld_unit_zero (S := S1x2048) off2]

/-- At the later points of a row block the result's block is the product of the rows the scratch holds. -/
theorem result_later (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x896 .bf16) (h4 : a4.IsWhole)
    (a5 : Memref sig .tc .vmem S512x896 .f32) (h5 : a5.IsWhole) (a6 : Memref sig .tc .vmem S512x2048 .bf16) (h6 : a6.IsWhole)
    (hc : ¬cond0_0 i) (x : Vec F S512x2048 .f32) (g : Vec F S1x2048 .f32) (w : Vec F S2048x896 .bf16) (s : Vec F S512x2048 .bf16) :
    out0_B_3 c i a2 h2 a3 h3 a4 h4 a5 h5 a6 h6 hc x g w s = k0_pay2 s w := by
  unfold out0_B_3
  rw [View.read_writes_eq_canon _ _ _ (cover0_B_3 c i a2 h2 a3 h3 a4 h4 a5 h5 a6 h6 hc x g w s)]
  unfold kernelRun0_B
  dsimp only
  try sl_unfold_words
  rw [View.canon_unit_zero off2]
  simp only [View.readAt_eq_ld, h4.read_unread, h6.read_unread, View.ld_unit_zero (S := S512x2048) off2,
    View.ld_unit_zero (S := S2048x896) off2]

variable (m : (ℓ : Loc nD τ sig) → Buf (Elt F) ℓ)

/-- Where each window stands at a point: the row block is the point's quotient by 3, the column block its remainder. -/
theorem window_at : ∀ t : Fin cfg0.N, win0_0.index t (0 : Fin 2) = t.val / 3 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 3
    ∧ win0_3.index t (0 : Fin 2) = t.val / 3 ∧ win0_3.index t (1 : Fin 2) = t.val % 3 :=
  (by decide +kernel : ∀ t : Fin grid0.N, _)

theorem point_lt (t : Fin cfg0.N) : t.val < 96 := lt_of_lt_of_eq t.isLt (show cfg0.N = 96 from N_0)

/-- A block of rows read from the array. -/
theorem rows_at (c : Dev nD) (t : Fin cfg0.N) (r : Fin 512) (k : Fin 2048) :
    (iblk m c 0 t : Vec F S512x2048 .f32) (ix2 r k)
      = m ((c : Thread nD τ).loc main_arg0) (ix2 (⟨512 * (t.val / 3) + r.val, by have := point_lt t; omega⟩ : Fin 16384) k) := by
  obtain ⟨h0, h1, -⟩ := window_at t
  rw [← V_main_arg0 m c]
  show V m c main_arg0 _ = V m c main_arg0 _
  congr 1
  funext a
  apply Fin.ext
  match a with
  | ⟨0, _⟩ => show win0_0.index t 0 * 512 + 1 * r.val = 512 * (t.val / 3) + r.val; rw [h0]; omega
  | ⟨1, _⟩ => show win0_0.index t 1 * 2048 + 1 * k.val = k.val; rw [h1]; omega

/-- The reshaped gains, as the region finds them. -/
theorem V_main_v0 (c : Dev nD) (k : Fin 2048) :
    (V m c main_v0 : Vec F S1x2048 .f32) (ix2 0 k) = m ((c : Thread nD τ).loc main_arg1) (ix1 k) := by
  have e : (V m c main_v0 : Vec F S1x2048 .f32) = shapeCast S1x2048 (m ((c : Thread nD τ).loc main_arg1) : Vec F S2048 .f32) shapeCasts_S2048_S1x2048 := by
    show (StableHlo.reshape (τ := τ) (Val := Elt F) main_arg1 main_v0 (rfl : (.f32 : EltTy) = .f32) shapeCasts_S2048_S1x2048).result
      (fun b => m (c, b)) (Proc.devRef .tc main_v0) = _
    exact StableHlo.reshape_result' ..
  rw [e]
  pointwise

theorem gains_at (c : Dev nD) (t : Fin cfg0.N) (k : Fin 2048) :
    (iblk m c 1 t : Vec F S1x2048 .f32) (ix2 0 k) = m ((c : Thread nD τ).loc main_arg1) (ix1 k) := by
  obtain ⟨-, -, h0, h1, -⟩ := window_at t
  rw [← V_main_v0 m c]
  show V m c main_v0 _ = V m c main_v0 _
  congr 1
  funext a
  apply Fin.ext
  match a with
  | ⟨0, _⟩ => show win0_1.index t 0 * 1 + 1 * 0 = 0; rw [h0]
  | ⟨1, _⟩ => show win0_1.index t 1 * 2048 + 1 * k.val = k.val; rw [h1]; omega

/-- A block of columns of the matrix. -/
theorem columns_at (c : Dev nD) (t : Fin cfg0.N) (k : Fin 2048) (q : Fin 896) :
    (iblk m c 2 t : Vec F S2048x896 .bf16) (ix2 k q)
      = m ((c : Thread nD τ).loc main_arg2) (ix2 k (⟨896 * (t.val % 3) + q.val, by omega⟩ : Fin 2688)) := by
  obtain ⟨-, -, -, -, h0, h1, -⟩ := window_at t
  rw [← V_main_arg2 m c]
  show V m c main_arg2 _ = V m c main_arg2 _
  congr 1
  funext a
  apply Fin.ext
  match a with
  | ⟨0, _⟩ => show win0_2.index t 0 * 2048 + 1 * k.val = k.val; rw [h0]; omega
  | ⟨1, _⟩ => show win0_2.index t 1 * 896 + 1 * q.val = 896 * (t.val % 3) + q.val; rw [h1]; omega

/-- Two matrices with the same elements are one. -/
theorem ext2 {α : Type} {a b : Nat} {f g : Shape.Idx ⟨2, ![a, b]⟩ → α} (h : ∀ (r : Fin a) (k : Fin b), f (ix2 r k) = g (ix2 r k)) : f = g :=
  funext fun j => by rw [← ix2_eta j]; exact h _ _

/-- Two points of one row block read the same rows and gains. -/
theorem rows_same (c : Dev nD) (t t' : Fin cfg0.N) (h : t.val / 3 = t'.val / 3) :
    (iblk m c 0 t : Vec F S512x2048 .f32) = iblk m c 0 t' :=
  ext2 fun r k => (rows_at m c t r k).trans (by simp only [h]; exact (rows_at m c t' r k).symm)

theorem gains_same (c : Dev nD) (t t' : Fin cfg0.N) : (iblk m c 1 t : Vec F S1x2048 .f32) = iblk m c 1 t' :=
  ext2 fun r k => by
    obtain rfl : r = 0 := Subsingleton.elim _ _
    exact (gains_at m c t k).trans (gains_at m c t' k).symm

/-- After every point the scratch holds the normalised rows of the point's row block. -/
theorem scratch_after (c : Dev nD) : ∀ (n : ℕ) (h : n < cfg0.N),
    (outsAt0 m c n h).2 = k0_pay1 (F := F) (iblk m c 0 ⟨n, h⟩) (iblk m c 1 ⟨n, h⟩) := by
  intro n
  induction n with
  | zero =>
    intro h
    rw [outsAt0_A m c ⟨0, h⟩ rfl]
    dsimp only
    rw [scratch_first]
  | succ n ih =>
    intro h
    by_cases h0 : (n + 1) % 3 = 0
    · rw [outsAt0_A m c ⟨n + 1, h⟩ h0]
      dsimp only
      rw [scratch_first]
    · have hn : n < cfg0.N := Nat.lt_of_succ_lt h
      rw [outsAt0_B m c ⟨n + 1, h⟩ h0, rows_same m c ⟨n + 1, h⟩ ⟨n, hn⟩ (by show (n + 1) / 3 = n / 3; omega),
        gains_same m c ⟨n + 1, h⟩ ⟨n, hn⟩]
      exact ih hn

/-- After every point the result's block is the product of the normalised rows with the point's columns. -/
theorem result_after (c : Dev nD) (t : Fin cfg0.N) :
    (outsAt0 m c t.val t.isLt).1 = k0_pay2 (F := F) (k0_pay1 (iblk m c 0 t) (iblk m c 1 t)) (iblk m c 2 t) := by
  by_cases h0 : t.val % 3 = 0
  · rw [outsAt0_A m c t h0]
    dsimp only
    rw [result_first]
  · have hn : t.val - 1 < cfg0.N := by have := t.isLt; omega
    rw [outsAt0_B m c t h0]
    dsimp only
    rw [result_later, scratch_after m c (t.val - 1) hn, rows_same m c ⟨t.val - 1, hn⟩ t (by show (t.val - 1) / 3 = t.val / 3; omega),
      gains_same m c ⟨t.val - 1, hn⟩ t]

end Blocks

/-! ## One element -/

open Cert.Reference2Ideal.Read in
/-- One element of a block, from blocks that are parts of whole arrays: the element of the reference's product. -/
theorem element (x : FVec Ideal S16384x2048 .f32) (g : FVec Ideal S2048 .f32) (w : FVec Ideal S2048x2688 .bf16)
    (xb : Vec Ideal S512x2048 .f32) (gb : Vec Ideal S1x2048 .f32) (wb : Vec Ideal S2048x896 .bf16)
    (R : Fin 16384) (C : Fin 2688) (r : Fin 512) (q : Fin 896)
    (hx : ∀ k : Fin 2048, xb (ix2 r k) = x (ix2 R k)) (hg : ∀ k : Fin 2048, gb (ix2 0 k) = g (ix1 k))
    (hw : ∀ k : Fin 2048, wb (ix2 k q) = w (ix2 k C)) :
    k0_pay2 (k0_pay1 xb gb) wb (ix2 r q) = val_main_v14 (F := Ideal) x g w (ix2 R C) := by
  pointwise [k0_pay2, k0_pay1]
  rw [val_main_v14_apply]
  simp only [val_main_v0_apply, val_main_v1_apply, val_main_v2_apply, val_main_v3_apply, val_main_v4_apply, val_main_v5_apply,
    val_main_v6_apply, val_main_v7_apply, val_main_v8_apply, val_main_v9_apply, val_main_v10_apply, val_main_v11_apply,
    val_main_v12_apply, val_main_v13_apply, val_main_cst_apply, val_main_cst_0_apply, val_main_cst_1_apply, pointwise]
  have e1 : ∀ k : Fin 2048, lidx_main_v14 (ix2 R C) k = ix2 R k := fun k => funext fun a => by
    match a with
    | ⟨0, _⟩ => rfl
    | ⟨1, _⟩ => rfl
  have e2 : ∀ k : Fin 2048, ridx_main_v14 (ix2 R C) k = ix2 k C := fun k => funext fun a => by
    match a with
    | ⟨0, _⟩ => rfl
    | ⟨1, _⟩ => rfl
  have e3 : ∀ k k' : Fin 2048, idx_main_v1 (idx_main_v2 (idx_main_v8 (ix2 R k))) k' = ix2 R k' := fun k k' => funext fun a => by
    match a with
    | ⟨0, _⟩ => rfl
    | ⟨1, _⟩ => rfl
  have e4 : ∀ k : Fin 2048, idx_main_v10 (idx_main_v11 (ix2 R k)) = ix1 k := fun k => funext fun a => by
    match a with
    | ⟨0, _⟩ => rfl
  simp only [e1, e2, e3, e4, hx, hg, hw, zero_add]

/-! ## The whole array -/

section Whole

variable (m : (ℓ : Loc nD τ sig) → Buf (Elt Ideal) ℓ)

/-- The reference's product of the launch's arguments. -/
abbrev product (c : Dev nD) : Buf (Elt Ideal) ((c : Thread nD τ).loc main_v1) :=
  Cert.Reference2Ideal.Read.val_main_v14 (F := Ideal) (m ((c : Thread nD τ).loc main_arg0)) (m ((c : Thread nD τ).loc main_arg1))
    (m ((c : Thread nD τ).loc main_arg2))

/-- A point writes back its block of the product. -/
theorem written_back (c : Dev nD) (t : Fin cfg0.N) :
    (dats m 0 c).flushed 3 t = ((cfg0.win 3).blk t).view.read (Elt Ideal) (product m c) := by
  rw [Value.flushed3, result_after]
  obtain ⟨-, -, -, -, -, -, h0, h1⟩ := window_at t
  have ht := point_lt t
  refine ext2 (a := 512) (b := 896) (f := k0_pay2 (F := Ideal) (k0_pay1 (iblk m c 0 t) (iblk m c 1 t)) (iblk m c 2 t)) fun r q => ?_
  refine (element (m ((c : Thread nD τ).loc main_arg0)) (m ((c : Thread nD τ).loc main_arg1)) (m ((c : Thread nD τ).loc main_arg2)) _ _ _
    (⟨512 * (t.val / 3) + r.val, by omega⟩ : Fin 16384) (⟨896 * (t.val % 3) + q.val, by omega⟩ : Fin 2688) r q
    (fun k => rows_at m c t r k) (fun k => gains_at m c t k) (fun k => columns_at m c t k q)).trans ?_
  show product m c _ = product m c _
  congr 1
  funext a
  apply Fin.ext
  match a with
  | ⟨0, _⟩ => show 512 * (t.val / 3) + r.val = win0_3.index t 0 * 512 + 1 * r.val; rw [h0]; omega
  | ⟨1, _⟩ => show 896 * (t.val % 3) + q.val = win0_3.index t 1 * 896 + 1 * q.val; rw [h1]; omega

theorem array (c : Dev nD) : (dats m 0 c).arrAt 3 cfg0.N = product m c :=
  (dats m 0 c).arrAt_eq_of_cover 3 _ (fun t _ => written_back m c t) fun i => (Value.covered_iff3 i).2 (by
    have h0 : (i 0).val < 16384 := (i 0).isLt; have h1 : (i 1).val < 2688 := (i 1).isLt; omega)

end Whole

/-- The projection's kernel and its reference end with equal results. -/
theorem same_result : Cert.algebraic_Kernel2Ideal_Reference2Ideal (hKernel2Ideal := Gen.facts) (hReference2Ideal := Cert.Reference2Ideal.Gen.facts) := by
  intro m g m' g' _ hagree
  refine ⟨product m, ?_, ?_⟩
  · exact (θ_run _ _ _).mono (fun r h c => ⟨(h c).1.trans (array m c), (h c).2⟩) (Value.run_blocks m g)
  · refine (θ_run _ _ _).mono (fun r h c => ⟨?_, (h c).2⟩) (Cert.Reference2Ideal.Value.run m' g')
    refine (h c).1.trans ((Cert.Reference2Ideal.Read.val_main_v14_eq _ _ _).trans ?_)
    rw [(hagree c).1, (hagree c).2.1, (hagree c).2.2]

end Cert.Kernel2Ideal.Projection

end
-- ==== Proof.Softmax.lean ====
module

public import Idealize.ShloMosaic.PureOps.Ideal
public import Idealize.ShloMosaic.PureOps.Ideal.Laws
public import Idealize.ShloMosaic.Lib.WordCmp

/-!
# A masked softmax, at once and tile by tile

Scores and values are any extended reals.  `top` is the greatest kept score, `expSum` and `expDot`
the two sums of a masked softmax's average over a given maximum, `mean` the average.  `State` says
what a running maximum, a running denominator and a running numerator hold after some keys have been
seen; one more tile of keys adds the tile's sums (`State.step`), and the quotient at the end is the
average (`State.quotient`).  A score is never above the maximum it is compared with, so that each
exponential is a real number between 0 and 1, and the factor by which a tile rescales the sums
distributes over them whatever the values are.
-/

@[expose] public section

noncomputable section

namespace Cert.Softmax

open Idealize.ShloMosaic
open scoped Classical

variable {ι κ : Type*} [Fintype ι] [Fintype κ]

/-! ## Sums of real numbers and of extended reals -/

/-- A real sum is the same sum of its terms taken as extended reals. -/
theorem coe_sum {ι : Type*} (S : Finset ι) (f : ι → ℝ) : ∑ i ∈ S, (f i : EReal) = ((∑ i ∈ S, f i : ℝ) : EReal) := by
  induction S using Finset.induction_on with
  | empty => simp
  | insert a S ha ih => rw [Finset.sum_insert ha, Finset.sum_insert ha, ih, EReal.coe_add]

/-- The same with each term known to be real. -/
theorem sum_real (f : ι → EReal) (g : ι → ℝ) (h : ∀ i, f i = (g i : EReal)) : ∑ i, f i = ((∑ i, g i : ℝ) : EReal) := by
  rw [← coe_sum]; exact Finset.sum_congr rfl fun i _ => h i

/-- A product of two real sums' terms. -/
theorem dot_real (a b : ι → EReal) (a' b' : ι → ℝ) (ha : ∀ i, a i = (a' i : EReal))
    (hb : ∀ i, b i = (b' i : EReal)) : ∑ i, a i * b i = ((∑ i, a' i * b' i : ℝ) : EReal) :=
  sum_real _ _ fun i => by rw [ha, hb, EReal.coe_mul]

/-- A sum of products, factor by factor. -/
theorem dot_eq (a b a' b' : ι → EReal) (ha : ∀ i, a i = a' i) (hb : ∀ i, b i = b' i) : ∑ i, a i * b i = ∑ i, a' i * b' i :=
  Finset.sum_congr rfl fun i _ => by rw [ha, hb]

/-- A real factor that is not negative distributes over any sum. -/
theorem sum_mul_real (f : ι → EReal) (r : ℝ) (hr : 0 ≤ r) : (∑ i, f i) * (r : EReal) = ∑ i, f i * (r : EReal) := by
  have key : ∀ S : Finset ι, (∑ i ∈ S, f i) * (r : EReal) = ∑ i ∈ S, f i * (r : EReal) := fun S => by
    induction S using Finset.induction_on with
    | empty => simp
    | insert a S ha ih =>
      rw [Finset.sum_insert ha, Finset.sum_insert ha, ← ih,
        EReal.right_distrib_of_nonneg_of_ne_top (by exact_mod_cast hr) (EReal.coe_ne_top r)]
  exact key _

/-! ## Exponentials of differences -/

theorem sub_top (s : EReal) : s - ⊤ = ⊥ := by rw [sub_eq_add_neg, EReal.neg_top, EReal.add_bot]
theorem bot_sub (m : EReal) : ⊥ - m = ⊥ := by rw [sub_eq_add_neg, EReal.bot_add]

/-- The exponential of a score less a number not below it is real. -/
theorem exp_real {s m : EReal} (h : s ≤ m) : ∃ r : ℝ, 0 ≤ r ∧ Ideal.exp (s - m) = (r : EReal) := by
  induction m with
  | top => exact ⟨0, le_rfl, by rw [sub_top, Ideal.exp_bot, EReal.coe_zero]⟩
  | bot => exact ⟨0, le_rfl, by rw [le_bot_iff.mp h, bot_sub, Ideal.exp_bot, EReal.coe_zero]⟩
  | coe m =>
    induction s with
    | top => exact absurd (top_le_iff.mp h) (EReal.coe_ne_top m)
    | bot => exact ⟨0, le_rfl, by rw [bot_sub, Ideal.exp_bot, EReal.coe_zero]⟩
    | coe s => exact ⟨Real.exp (s - m), (Real.exp_pos _).le, by rw [← EReal.coe_sub, Ideal.exp_coe]⟩

/-- Two differences after one another. -/
theorem exp_mul {s m M : EReal} (h : s ≤ m) (h' : m ≤ M) : Ideal.exp (s - m) * Ideal.exp (m - M) = Ideal.exp (s - M) := by
  induction M with
  | top =>
    rw [sub_top, sub_top, Ideal.exp_bot, mul_zero]
  | bot =>
    rw [le_bot_iff.mp h'] at h ⊢
    rw [le_bot_iff.mp h, bot_sub, Ideal.exp_bot, zero_mul]
  | coe M =>
    induction m with
    | top => exact absurd (top_le_iff.mp h') (EReal.coe_ne_top M)
    | bot => rw [le_bot_iff.mp h, bot_sub, bot_sub, Ideal.exp_bot, zero_mul]
    | coe m =>
      induction s with
      | top => exact absurd (top_le_iff.mp h) (EReal.coe_ne_top m)
      | bot => rw [bot_sub, bot_sub, Ideal.exp_bot, zero_mul]
      | coe s =>
        rw [← EReal.coe_sub, ← EReal.coe_sub, ← EReal.coe_sub, Ideal.exp_coe, Ideal.exp_coe, Ideal.exp_coe, ← EReal.coe_mul,
          ← Real.exp_add]
        congr 2; ring

/-! ## The least divisor -/

theorem word_tiny : ∃ c : ℝ, 0 < c ∧ Ideal.ofBits .f32 0x0DA24260#32 = (c : EReal) := by
  refine ⟨10633824 * (2 ^ 123)⁻¹, by norm_num, ?_⟩
  simp [Ideal.ofBits, Ideal.ieee, -EReal.coe_mul]

/-- The number below which a sum of weights is not divided by. -/
def tiny : ℝ := word_tiny.choose

theorem tiny_pos : 0 < tiny := word_tiny.choose_spec.1
theorem ofBits_tiny : Ideal.ofBits .f32 0x0DA24260#32 = (tiny : EReal) := word_tiny.choose_spec.2

/-! ## The masked softmax -/

/-- The greatest score the mask keeps, `⊥` if it keeps none. -/
def top (P : ι → Prop) (s : ι → EReal) : EReal := Finset.univ.fold max (⊥ : EReal) fun i => if P i then s i else ⊥

/-- The exponential of one score over the maximum `m`, 0 where the mask drops it. -/
def term (P : ι → Prop) (s : ι → EReal) (m : EReal) (i : ι) : EReal := if P i then Ideal.exp (s i - m) else 0

/-- The sum of the exponentials. -/
def expSum (P : ι → Prop) (s : ι → EReal) (m : EReal) : EReal := ∑ i, term P s m i

/-- The same sum weighted by `v`. -/
def expDot (P : ι → Prop) (s : ι → EReal) (m : EReal) (v : ι → EReal) : EReal := ∑ i, term P s m i * v i

/-- The average of the values. -/
def mean (P : ι → Prop) (s v : ι → EReal) : EReal := Ideal.div (expDot P s (top P s) v) (max (expSum P s (top P s)) tiny)

/-- One weight. -/
def weight (P : ι → Prop) (s : ι → EReal) (i : ι) : ℝ :=
  (Ideal.div (term P s (top P s) i) (max (expSum P s (top P s)) tiny)).toReal

theorem top_eq_sup (P : ι → Prop) (s : ι → EReal) : top P s = Finset.univ.sup fun i => if P i then s i else ⊥ := rfl

theorem le_top' (P : ι → Prop) (s : ι → EReal) (i : ι) (h : P i) : s i ≤ top P s := by
  rw [top_eq_sup]
  have := Finset.le_sup (f := fun i => if P i then s i else (⊥ : EReal)) (Finset.mem_univ i)
  simpa only [if_pos h] using this

theorem top_le (P : ι → Prop) (s : ι → EReal) (b : EReal) (h : ∀ i, P i → s i ≤ b) : top P s ≤ b := by
  rw [top_eq_sup]
  refine Finset.sup_le fun i _ => ?_
  split_ifs with hp
  · exact h i hp
  · exact bot_le

theorem term_real (P : ι → Prop) (s : ι → EReal) (m : EReal) (h : ∀ i, P i → s i ≤ m) (i : ι) :
    ∃ r : ℝ, 0 ≤ r ∧ term P s m i = (r : EReal) := by
  unfold term
  by_cases hp : P i
  · rw [if_pos hp]; exact exp_real (h i hp)
  · exact ⟨0, le_rfl, by rw [if_neg hp, EReal.coe_zero]⟩

/-- What the sums are divided by is a positive real number. -/
theorem divisor (P : ι → Prop) (s : ι → EReal) : ∃ y : ℝ, 0 < y ∧ max (expSum P s (top P s)) tiny = (y : EReal) := by
  choose r _ hr using term_real P s (top P s) (le_top' P s)
  refine ⟨max (∑ i, r i) tiny, lt_max_of_lt_right tiny_pos, ?_⟩
  unfold expSum
  rw [sum_real _ r hr]
  exact (EReal.coe_strictMono.monotone.map_max).symm

theorem weight_spec (P : ι → Prop) (s : ι → EReal) (i : ι) :
    0 ≤ weight P s i ∧ Ideal.div (term P s (top P s) i) (max (expSum P s (top P s)) tiny) = (weight P s i : EReal) := by
  obtain ⟨y, hy, e⟩ := divisor P s
  obtain ⟨r, hr, e'⟩ := term_real P s (top P s) (le_top' P s) i
  have : weight P s i = r * (1 / y) := by
    unfold weight
    rw [e, e', Ideal.div_coe hy.ne', ← EReal.coe_mul, EReal.toReal_coe]
  rw [this, e, e', Ideal.div_coe hy.ne', ← EReal.coe_mul]
  exact ⟨by positivity, rfl⟩

theorem weight_nonneg (P : ι → Prop) (s : ι → EReal) (i : ι) : 0 ≤ weight P s i := (weight_spec P s i).1

/-- The average is the sum of the values by the weights. -/
theorem sum_weight (P : ι → Prop) (s v : ι → EReal) : ∑ i, (weight P s i : EReal) * v i = mean P s v := by
  obtain ⟨y, hy, e⟩ := divisor P s
  unfold mean expDot
  rw [e, Ideal.div_coe hy.ne', sum_mul_real _ _ (by positivity)]
  refine Finset.sum_congr rfl fun i _ => ?_
  rw [← (weight_spec P s i).2, e, Ideal.div_coe hy.ne', mul_right_comm]

/-! ## Part of the keys -/

section Part

variable (e : ι → κ) (he : Function.Injective e) (P : κ → Prop) (s : κ → EReal) (h : ∀ x, P x → x ∈ Set.range e)

include h in
theorem top_comp : top (fun i => P (e i)) (fun i => s (e i)) = top P s := by
  refine le_antisymm (top_le _ _ _ fun i hi => le_top' P s (e i) hi) (top_le _ _ _ fun x hx => ?_)
  obtain ⟨i, rfl⟩ := h x hx
  exact le_top' (fun i => P (e i)) (fun i => s (e i)) i hx

include he h

theorem expSum_comp (m : EReal) : expSum (fun i => P (e i)) (fun i => s (e i)) m = expSum P s m :=
  Fintype.sum_of_injective e he _ _ (fun x hx => if_neg fun hp => hx (h x hp)) fun _ => rfl

theorem expDot_comp (m : EReal) (v : κ → EReal) : expDot (fun i => P (e i)) (fun i => s (e i)) m (fun i => v (e i)) = expDot P s m v :=
  Fintype.sum_of_injective e he _ _ (fun x hx => by rw [term, if_neg fun hp => hx (h x hp), zero_mul]) fun _ => rfl

/-- A softmax over the keys a mask can keep is the one over all. -/
theorem mean_comp (v : κ → EReal) : mean (fun i => P (e i)) (fun i => s (e i)) (fun i => v (e i)) = mean P s v := by
  unfold mean
  rw [top_comp e P s h, expSum_comp e he P s h, expDot_comp e he P s h]

theorem weight_comp (i : ι) : weight (fun i => P (e i)) (fun i => s (e i)) i = weight P s (e i) := by
  unfold weight
  rw [top_comp e P s h, expSum_comp e he P s h]
  rfl

end Part

/-! ## Tile by tile -/

/-- What the running maximum `m`, denominator `l` and numerator `a` hold once the keys of `P` are seen. -/
def State (P : ι → Prop) (s v : ι → EReal) (m l a : EReal) : Prop := m = top P s ∧ l = expSum P s m ∧ a = expDot P s m v

theorem State.start (P : ι → Prop) (s v : ι → EReal) (h : ∀ i, ¬ P i) : State P s v ⊥ 0 0 :=
  ⟨(le_bot_iff.mp (top_le P s ⊥ fun i hi => absurd hi (h i))).symm, (Finset.sum_eq_zero fun i _ => if_neg (h i)).symm,
    (Finset.sum_eq_zero fun i _ => by rw [term, if_neg (h i), zero_mul]).symm⟩

/-- The rescaled sums are the sums over the new maximum. -/
theorem rescale (P : ι → Prop) (s v : ι → EReal) (m M : EReal) (h : ∀ i, P i → s i ≤ m) (h' : m ≤ M) :
    expSum P s m * Ideal.exp (m - M) = expSum P s M ∧ expDot P s m v * Ideal.exp (m - M) = expDot P s M v := by
  obtain ⟨r, hr, e⟩ := exp_real h'
  have key : ∀ i, term P s m i * (r : EReal) = term P s M i := fun i => by
    rw [← e]
    unfold term
    by_cases hp : P i
    · rw [if_pos hp, if_pos hp, exp_mul (h i hp) h']
    · rw [if_neg hp, if_neg hp, zero_mul]
  unfold expSum expDot
  rw [e, sum_mul_real _ r hr, sum_mul_real _ r hr]
  exact ⟨Finset.sum_congr rfl fun i _ => key i, Finset.sum_congr rfl fun i _ => by rw [mul_right_comm, key]⟩

/-- One more tile of keys: those of `Q`, none of them seen before. -/
theorem State.step {P P' : κ → Prop} {s v : κ → EReal} {m l a : EReal} (h : State P s v m l a) (e : ι → κ) (he : Function.Injective e)
    (Q : ι → Prop) (hP' : ∀ x, P' x ↔ P x ∨ ∃ n, e n = x ∧ Q n) (hd : ∀ n, Q n → ¬ P (e n)) (M : EReal)
    (hM : M = max m (top Q fun n => s (e n))) :
    State P' s v M (l * Ideal.exp (m - M) + expSum Q (fun n => s (e n)) M)
      (a * Ideal.exp (m - M) + expDot Q (fun n => s (e n)) M fun n => v (e n)) := by
  obtain ⟨hm, hl, ha⟩ := h
  have hle : m ≤ M := hM ▸ le_max_left _ _
  have hs : ∀ x, P x → s x ≤ m := fun x hx => hm ▸ le_top' P s x hx
  obtain ⟨r1, r2⟩ := rescale P s v m M hs hle
  let Q' : κ → Prop := fun x => ∃ n, e n = x ∧ Q n
  have hQ : (fun n => Q' (e n)) = Q := funext fun n => propext ⟨fun ⟨n', h1, h2⟩ => he h1 ▸ h2, fun hn => ⟨n, rfl, hn⟩⟩
  have hr : ∀ x, Q' x → x ∈ Set.range e := fun x ⟨n, hn, _⟩ => ⟨n, hn⟩
  have t1 := expSum_comp e he Q' s hr M
  have t2 := expDot_comp e he Q' s hr M v
  rw [hQ] at t1 t2
  have hterm : ∀ x, (term P s M x = 0 ∧ term P' s M x = term Q' s M x) ∨ (term Q' s M x = 0 ∧ term P' s M x = term P s M x) := fun x => by
    unfold term
    by_cases h1 : P x
    · have h2 : ¬ Q' x := fun ⟨n, hn, hq⟩ => hd n hq (hn ▸ h1)
      rw [if_pos h1, if_neg h2, if_pos ((hP' x).mpr (.inl h1))]
      exact .inr ⟨rfl, rfl⟩
    · by_cases h2 : Q' x
      · rw [if_neg h1, if_pos h2, if_pos ((hP' x).mpr (.inr h2))]
        exact .inl ⟨rfl, rfl⟩
      · rw [if_neg h1, if_neg h2, if_neg fun h => ((hP' x).mp h).elim h1 h2]
        exact .inl ⟨rfl, rfl⟩
  refine ⟨?_, ?_, ?_⟩
  · rw [hM, hm]
    refine le_antisymm (max_le (top_le _ _ _ fun x hx => le_top' P' s x ((hP' x).mpr (.inl hx)))
      (top_le _ _ _ fun n hn => le_top' P' s (e n) ((hP' _).mpr (.inr ⟨n, rfl, hn⟩)))) (top_le _ _ _ fun x hx => ?_)
    rcases (hP' x).mp hx with h1 | ⟨n, rfl, hn⟩
    · exact (le_top' P s x h1).trans (le_max_left _ _)
    · exact (le_top' Q (fun n => s (e n)) n hn).trans (le_max_right _ _)
  · rw [hl, r1, t1]
    unfold expSum
    rw [← Finset.sum_add_distrib]
    refine Finset.sum_congr rfl fun x _ => ?_
    rcases hterm x with ⟨h1, h2⟩ | ⟨h1, h2⟩
    · rw [h1, h2, zero_add]
    · rw [h1, h2, add_zero]
  · rw [ha, r2, t2]
    unfold expDot
    rw [← Finset.sum_add_distrib]
    refine Finset.sum_congr rfl fun x _ => ?_
    rcases hterm x with ⟨h1, h2⟩ | ⟨h1, h2⟩
    · rw [h1, h2, zero_mul, zero_add]
    · rw [h1, h2, zero_mul, add_zero]

/-- The quotient at the end. -/
theorem State.quotient {P : ι → Prop} {s v : ι → EReal} {m l a : EReal} (h : State P s v m l a) :
    Ideal.div a (max l (Ideal.ofBits .f32 0x0DA24260#32)) = mean P s v := by
  obtain ⟨rfl, rfl, rfl⟩ := h
  rw [ofBits_tiny]
  rfl

/-! ## As the programs write it -/

/-- A select on a bit that says `P`. -/
theorem select_iff {α : Type} {c : BitVec 1} {p : Prop} [Decidable p] (h : c = 1#1 ↔ p) (a b : α) :
    Scalar.select c a b = if p then a else b := by
  unfold Scalar.select
  by_cases hp : p
  · rw [if_pos hp]; exact if_pos (h.mpr hp)
  · rw [if_neg hp]; exact if_neg fun hc => hp (h.mp hc)

section Written

variable (c : ι → BitVec 1) (P : ι → Prop) (hc : ∀ i, c i = 1#1 ↔ P i) (s s' : ι → EReal) (hs : ∀ i, s i = s' i)

include hc hs

theorem written_top : Finset.univ.fold max (⊥ : EReal) (fun i => Scalar.select (c i) (s i) ⊥) = top P s' :=
  congrArg (fun f => Finset.univ.fold max (⊥ : EReal) f) (funext fun i => by rw [select_iff (hc i), hs])

theorem written_term (M : EReal) (i : ι) : Scalar.select (c i) (Ideal.exp (Scalar.select (c i) (s i) ⊥ - M)) 0 = term P s' M i := by
  rw [select_iff (hc i), select_iff (hc i), hs]
  unfold term
  by_cases hp : P i
  · rw [if_pos hp, if_pos hp, if_pos hp]
  · rw [if_neg hp, if_neg hp]

/-- Each weight of the masked softmax taken at once. -/
theorem weight_eq (M : EReal) (hM : M = Finset.univ.fold max (⊥ : EReal) fun i => Scalar.select (c i) (s i) ⊥) (i : ι) :
    Ideal.div (Scalar.select (c i) (Ideal.exp (Scalar.select (c i) (s i) ⊥ - M)) 0)
        (max (∑ i, Scalar.select (c i) (Ideal.exp (Scalar.select (c i) (s i) ⊥ - M)) 0) (Ideal.ofBits .f32 0x0DA24260#32))
      = (weight P s' i : EReal) := by
  simp only [written_term c P hc s s' hs]
  rw [hM, written_top c P hc s s' hs, ofBits_tiny]
  exact (weight_spec P s' i).2

end Written

end Cert.Softmax
-- ==== Proof.Rounds.lean ====
module

public import Idealize.ShloMosaic.PureOps.Ideal
public import Idealize.ShloMosaic.PureOps.Reduce
public import Idealize.ShloMosaic.Lib.SortPrefix
public import Idealize.ShloMosaic.Lib.WordCmp

/-!
# Repeated maxima against a sort

A round takes the first position of the greatest value and removes that value by writing a number
below all others in its place.  `k` rounds take the same positions, in the same order, as the first
`k` of a stable sort by decreasing value.
-/

@[expose] public section

noncomputable section

namespace Cert.Rounds

open Idealize.ShloMosaic

variable {N : ℕ}

/-- `p` is the first position of the greatest value. -/
def IsPick (w : Fin N → EReal) (p : Fin N) : Prop := (∀ q, w q ≤ w p) ∧ ∀ q, q < p → w q < w p

theorem exists_pick [NeZero N] (w : Fin N → EReal) : ∃ p, IsPick w p := by
  classical
  obtain ⟨m, -, hm⟩ := Finset.exists_max_image Finset.univ w ⟨0, Finset.mem_univ _⟩
  let S : Finset (Fin N) := Finset.univ.filter fun q => w q = w m
  have hS : S.Nonempty := ⟨m, Finset.mem_filter.mpr ⟨Finset.mem_univ _, rfl⟩⟩
  have hp : w (S.min' hS) = w m := (Finset.mem_filter.mp (S.min'_mem hS)).2
  refine ⟨S.min' hS, fun q => hp ▸ hm q (Finset.mem_univ _), fun q hq => ?_⟩
  refine lt_of_le_of_ne (hp ▸ hm q (Finset.mem_univ _)) fun e => ?_
  exact absurd (S.min'_le q (Finset.mem_filter.mpr ⟨Finset.mem_univ _, e.trans hp⟩)) (not_le.mpr hq)

theorem IsPick.unique {w : Fin N → EReal} {p q : Fin N} (hp : IsPick w p) (hq : IsPick w q) : p = q := by
  rcases lt_trichotomy p q with h | h | h
  · exact absurd (hp.1 q) (not_le.mpr (hq.2 p h))
  · exact h
  · exact absurd (hq.1 p) (not_le.mpr (hp.2 q h))

/-- The position a round takes. -/
def pick [NeZero N] (w : Fin N → EReal) : Fin N := (exists_pick w).choose

theorem pick_isPick [NeZero N] (w : Fin N → EReal) : IsPick w (pick w) := (exists_pick w).choose_spec

/-- The values once the taken one is removed. -/
def remove [NeZero N] (R : EReal) (w : Fin N → EReal) : Fin N → EReal := fun x => if x = pick w then R else w x

/-- The values before round `k`. -/
def before [NeZero N] (R : EReal) (w : Fin N → EReal) : ℕ → Fin N → EReal
  | 0 => w
  | k + 1 => remove R (before R w k)

theorem before_eq [NeZero N] (R : EReal) (w : Fin N → EReal) (k : ℕ) (x : Fin N) :
    (∃ j < k, pick (before R w j) = x) ∧ before R w k x = R ∨ (∀ j < k, pick (before R w j) ≠ x) ∧ before R w k x = w x := by
  induction k with
  | zero => exact .inr ⟨fun j hj => absurd hj (Nat.not_lt_zero _), rfl⟩
  | succ k ih =>
    by_cases e : x = pick (before R w k)
    · exact .inl ⟨⟨k, Nat.lt_succ_self k, e.symm⟩, if_pos e⟩
    · have h1 : before R w (k + 1) x = before R w k x := if_neg e
      rcases ih with ⟨⟨j, hj, hx⟩, hv⟩ | ⟨hx, hv⟩
      · exact .inl ⟨⟨j, Nat.lt_succ_of_lt hj, hx⟩, h1.trans hv⟩
      · refine .inr ⟨fun j hj => ?_, h1.trans hv⟩
        rcases Nat.lt_succ_iff_lt_or_eq.mp hj with hj | rfl
        · exact hx j hj
        · exact fun h => e h.symm

/-- A stable sort by a key alone breaks ties by position. -/
theorem stableSort_ties {n : ℕ} (key : Fin n → EReal) (l : List (Fin n)) (hl : l.Pairwise (· < ·)) :
    stableSort (fun k k' => decide (key k' < key k)) l
      = stableSort (fun k k' => decide (key k' < key k) || (decide (key k = key k') && decide (k < k'))) l := by
  induction l with
  | nil => rfl
  | cons a l ih =>
    rw [List.pairwise_cons] at hl
    unfold stableSort
    rw [ih hl.2]
    refine insertBefore_congr _ _ _ _ fun b hb => ?_
    have hab := hl.1 b ((perm_stableSort _ l).mem_iff.mp hb)
    rw [decide_eq_false (not_lt.mpr hab.le), Bool.and_false, Bool.or_false]

theorem sortedFrom_ties {n : ℕ} (key : Fin n → EReal) :
    sortedFrom (fun k k' => decide (key k' < key k))
      = sortedFrom fun k k' => decide (key k' < key k) || (decide (key k = key k') && decide (k < k')) := by
  have e : sortPositions n (fun k k' => decide (key k' < key k))
      = sortPositions n fun k k' => decide (key k' < key k) || (decide (key k = key k') && decide (k < k')) :=
    stableSort_ties key _ (List.pairwise_lt_finRange n)
  funext k
  unfold sortedFrom
  rw [List.get_of_eq e]
  rfl

/-- `K` rounds over `N` positions, of which those from `n` on are removed from the start, take the first `K` positions of
    the stable sort of the other `n` by decreasing value. -/
theorem picks_eq_sorted [NeZero N] {n K : ℕ} (hn : n ≤ N) (hK : K ≤ n) (R : EReal) (val : Fin n → EReal) (hR : ∀ x, R < val x)
    (w : Fin N → EReal) (hw : ∀ x : Fin n, w (x.castLE hn) = val x) (hw' : ∀ x : Fin N, n ≤ x.val → w x = R) (j : Fin K) :
    pick (before R w j) = (sortedFrom (fun k k' => decide (val k' < val k)) (j.castLE hK)).castLE hn := by
  classical
  have step : ∀ k < n, ∃ y : Fin n, pick (before R w k) = y.castLE hn ∧ ∀ j < k, pick (before R w j) ≠ y.castLE hn := by
    intro k hk
    -- some position below `n` is still there
    have hx : ∃ x : Fin n, ∀ j < k, pick (before R w j) ≠ x.castLE hn := by
      by_contra hno
      push Not at hno
      choose f hf using hno
      have hinj : Function.Injective fun x : Fin n => (⟨f x, (hf x).1⟩ : Fin k) := fun x y e => by
        have e' : f x = f y := congrArg Fin.val e
        have := (hf x).2.symm.trans ((congrArg (fun j => pick (before R w j)) e').trans (hf y).2)
        exact Fin.castLE_injective hn this
      have := Fintype.card_le_of_injective _ hinj
      rw [Fintype.card_fin, Fintype.card_fin] at this
      omega
    obtain ⟨x, hx⟩ := hx
    have hvx : before R w k (x.castLE hn) = val x := by
      rcases before_eq R w k (x.castLE hn) with ⟨⟨j, hj, e⟩, -⟩ | ⟨-, e⟩
      · exact absurd e (hx j hj)
      · rw [e, hw]
    have hbig : R < before R w k (pick (before R w k)) :=
      lt_of_lt_of_le (hvx ▸ hR x) ((pick_isPick (before R w k)).1 (x.castLE hn))
    rcases before_eq R w k (pick (before R w k)) with ⟨-, e⟩ | ⟨hne, e⟩
    · exact absurd hbig (by rw [e]; exact lt_irrefl _)
    · have hlt : (pick (before R w k)).val < n := by
        by_contra hge
        rw [e, hw' _ (not_lt.mp hge)] at hbig
        exact lt_irrefl _ hbig
      exact ⟨⟨_, hlt⟩, Fin.ext rfl, hne⟩
  let σ : Fin K → Fin n := fun j => (step j.val (lt_of_lt_of_le j.isLt hK)).choose
  have hσ : ∀ j : Fin K, pick (before R w j) = (σ j).castLE hn := fun j => (step j.val (lt_of_lt_of_le j.isLt hK)).choose_spec.1
  have hσ' : ∀ i j : Fin K, i < j → σ i ≠ σ j := fun i j hij e =>
    (step j.val (lt_of_lt_of_le j.isLt hK)).choose_spec.2 i.val hij ((hσ i).trans (by rw [e]))
  have hinj : Function.Injective σ := fun i j e => by
    rcases lt_trichotomy i j with h | h | h
    · exact absurd e (hσ' i j h)
    · exact h
    · exact absurd e.symm (hσ' j i h)
  have hval : ∀ (i : Fin K) (p : Fin n), (∀ j < i, σ j ≠ p) → before R w i (p.castLE hn) = val p := by
    intro i p hp
    rcases before_eq R w i.val (p.castLE hn) with ⟨⟨j, hj, e⟩, -⟩ | ⟨-, e⟩
    · exact absurd (Fin.castLE_injective hn ((hσ ⟨j, hj.trans i.isLt⟩).symm.trans e)) (hp ⟨j, hj.trans i.isLt⟩ hj)
    · rw [e, hw]
  have hdom : ∀ (i : Fin K) (p : Fin n), (∀ j < i, σ j ≠ p) →
      (decide (val (σ i) < val p) || (decide (val p = val (σ i)) && decide (p < σ i))) = false := by
    intro i p hp
    have hpick := pick_isPick (before R w i)
    rw [hσ i] at hpick
    have h1 := hpick.1 (p.castLE hn)
    rw [hval i p hp, hval i (σ i) fun j hj => hσ' j i hj] at h1
    rw [decide_eq_false (not_lt.mpr h1), Bool.false_or, Bool.and_eq_false_iff]
    by_cases hlt : p < σ i
    · have h2 := hpick.2 (p.castLE hn) hlt
      rw [hval i p hp, hval i (σ i) fun j hj => hσ' j i hj] at h2
      exact .inl (decide_eq_false h2.ne)
    · exact .inr (decide_eq_false hlt)
  have hB : StrictTotalBefore fun k k' : Fin n => decide (val k' < val k) || (decide (val k = val k') && decide (k < k')) :=
    StrictTotalBefore.of_key_then_position (fun a b : EReal => decide (b < a)) val (fun a => decide_eq_false (lt_irrefl _))
      (fun a b c h1 h2 => decide_eq_true ((of_decide_eq_true h2).trans (of_decide_eq_true h1)))
      (fun a b => by
        rcases lt_trichotomy a b with h | h | h
        · exact .inr (.inr (decide_eq_true h))
        · exact .inr (.inl h)
        · exact .inl (decide_eq_true h))
  rw [hσ j, sortedFrom_ties]
  congr 1
  refine (hB.sortedFrom_eq_of_prefix hK σ hinj (fun i j hij => ?_) (fun i p hp => ?_) j).symm
  · exact hdom i (σ j) fun j' hj' e => by
      have := hinj e
      omega
  · exact hdom i p fun j _ => hp j

/-! ## A round in words -/

/-- The least position whose value is the greatest, as a fold of signed minima over 32-bit words. -/
theorem fold_first {N : ℕ} [NeZero N] (hN : N < 2 ^ 31) (w : Fin N → EReal) (c : Fin N → BitVec 32)
    (hc : ∀ x, c x = if w x = Finset.univ.fold max (⊥ : EReal) w then BitVec.ofNat 32 x.val else BitVec.ofNat 32 N) :
    Finset.univ.fold IntOp.minsi 2147483647#32 c = BitVec.ofNat 32 (pick w).val := by
  have hp := pick_isPick w
  have hsup : Finset.univ.fold max (⊥ : EReal) w = w (pick w) := by
    show Finset.univ.sup w = _
    exact le_antisymm (Finset.sup_le fun q _ => hp.1 q) (Finset.le_sup (Finset.mem_univ _))
  have ti : ∀ k : ℕ, k < 2 ^ 31 → (BitVec.ofNat 32 k).toInt = (k : ℤ) := fun k hk => WordCmp.toInt_ofNat_of_lt (by simpa using hk)
  have hcv : ∀ x, (c x).toInt = if w x = w (pick w) then (x.val : ℤ) else (N : ℤ) := by
    intro x
    rw [hc, hsup]
    split
    · exact ti _ (x.isLt.trans hN)
    · exact ti _ hN
  apply BitVec.eq_of_toInt_eq
  have hom : ∀ x y : BitVec 32, min x.toInt y.toInt = (IntOp.minsi x y).toInt := by
    intro x y
    unfold IntOp.minsi
    by_cases h : x.slt y = true
    · rw [if_pos h, min_eq_left (by rw [BitVec.slt_iff_toInt_lt] at h; exact h.le)]
    · rw [if_neg h, min_eq_right (by rw [BitVec.slt_iff_toInt_lt] at h; exact not_lt.mp h)]
  have e := Finset.fold_hom (op := IntOp.minsi (w := 32)) (op' := (min : ℤ → ℤ → ℤ)) (m := BitVec.toInt) (s := Finset.univ)
    (b := 2147483647#32) (f := c) (fun x y => (hom x y).symm)
  rw [← e, ti _ ((pick w).isLt.trans hN)]
  have hb : (2147483647#32 : BitVec 32).toInt = 2147483647 := by decide
  have hP := (pick w).isLt
  refine le_antisymm ?_ ?_
  · rw [Finset.fold_min_le]
    exact .inr ⟨pick w, Finset.mem_univ _, by rw [hcv, if_pos rfl]⟩
  · rw [Finset.le_fold_min]
    refine ⟨by rw [hb]; omega, fun x _ => ?_⟩
    rw [hcv]
    split
    · rename_i heq
      by_contra hlt
      have : x < pick w := by
        rw [Fin.lt_def]; omega
      exact absurd heq (hp.2 x this).ne
    · omega

end Cert.Rounds
-- ==== Proof.Spec.lean ====
module

public import proofs.«01_k».proof.Proof.Softmax
public import proofs.«01_k».proof.Proof.Rounds

/-!
# The attention of one query position

The four heads of a group share their keys.  A query at position `t` averages the compressed values
over the blocks that end at or before it, the values of sixteen chosen blocks of 64 keys, and the
values of the last 512 keys, and adds the three with its gates.  The blocks are chosen by the weight
the four heads together gave to the compressed keys that meet them.
-/

@[expose] public section

noncomputable section

namespace Cert.Spec

open Idealize.ShloMosaic Softmax
open scoped Classical

/-- A query against a key, scaled. -/
def score {N : ℕ} (c : ℝ) (x : Fin 128 → EReal) (k : Fin N → Fin 128 → EReal) (i : Fin N) : EReal := (∑ d, x d * k i d) * (c : EReal)

/-- The average of values under the weights of a softmax. -/
def average {N : ℕ} (P : Fin N → Prop) (s : Fin N → EReal) (v : Fin N → Fin 128 → EReal) (d : Fin 128) : EReal :=
  mean P s fun i => v i d

/-- The compressed keys a position may look at. -/
def reach (t : ℕ) (n : Fin 256) : Prop := 16 * n.val + 31 ≤ t ∧ n.val < 255

/-- Whether compressed key `n` and block `j` share keys. -/
def meets (n : Fin 256) (j : Fin 64) : Prop := 16 * n.val < (j.val + 1) * 64 ∧ 64 * j.val < 16 * n.val + 32 ∧ n.val < 255

/-- The weight the four heads give to block `j`. -/
def mass (c : ℝ) (t : ℕ) (x : Fin 4 → Fin 128 → EReal) (ck : Fin 256 → Fin 128 → EReal) (j : Fin 64) : ℝ :=
  ∑ n, (∑ g, weight (reach t) (score c (x g) ck) n) * if meets n j then 1 else 0

theorem mass_nonneg (c : ℝ) (t : ℕ) (x : Fin 4 → Fin 128 → EReal) (ck : Fin 256 → Fin 128 → EReal) (j : Fin 64) : 0 ≤ mass c t x ck j := by
  refine Finset.sum_nonneg fun n _ => mul_nonneg (Finset.sum_nonneg fun g _ => weight_nonneg _ _ _) ?_
  split <;> norm_num

/-- What the blocks are chosen by: the first, the present and the one before it come first of all,
and those not yet begun last. -/
def value (t : ℕ) (w : Fin 64 → ℝ) (j : Fin 64) : EReal :=
  if j.val = 0 ∨ j.val = t / 64 ∨ j.val + 1 = t / 64 then ((10000 : ℝ) : EReal)
  else if j.val ≤ t / 64 then ((w j : ℝ) : EReal) else ((-10000 : ℝ) : EReal)

/-- The blocks in order of choice. -/
def block (t : ℕ) (w : Fin 64 → ℝ) (j : Fin 16) : Fin 64 :=
  sortedFrom (fun k k' => decide (value t w k' < value t w k)) (j.castLE (by norm_num))

/-- The keys of the chosen blocks, up to the position. -/
def near (t : ℕ) (w : Fin 64 → ℝ) (k : Fin 4096) : Prop := (∃ j : Fin 16, (block t w j).val = k.val / 64) ∧ k.val ≤ t

/-- The last 512 keys up to the position. -/
def recent (t : ℕ) (k : Fin 4096) : Prop := k.val ≤ t ∧ t < k.val + 512

/-- A gate. -/
def gate (x : EReal) : EReal := Ideal.logistic x

/-- What head `g` returns in component `d`. -/
def attend (c : ℝ) (t : ℕ) (x : Fin 4 → Fin 128 → EReal) (γ : Fin 12 → EReal) (ck cv : Fin 256 → Fin 128 → EReal)
    (ks vs kw vw : Fin 4096 → Fin 128 → EReal) (g : Fin 4) (d : Fin 128) : EReal :=
  gate (γ ⟨3 * g.val, by omega⟩) * average (reach t) (score c (x g) ck) cv d
    + gate (γ ⟨3 * g.val + 1, by omega⟩) * average (near t (mass c t x ck)) (score c (x g) ks) vs d
    + gate (γ ⟨3 * g.val + 2, by omega⟩) * average (recent t) (score c (x g) kw) vw d

/-! ## The words of the constants -/

theorem word_scale : ∃ c : ℝ, Ideal.ofBits .f32 0x3DB504F3#32 = (c : EReal) := ⟨_, rfl⟩

/-- The scale of the scores, `128 ^ (-1/2)` rounded. -/
def scale : ℝ := word_scale.choose

theorem ofBits_scale : Ideal.ofBits .f32 0x3DB504F3#32 = (scale : EReal) := word_scale.choose_spec

theorem ofBits_force : Ideal.ofBits .f32 0x461C4000#32 = ((10000 : ℝ) : EReal) := by
  simp [Ideal.ofBits, Ideal.ieee, -EReal.coe_mul]; norm_num

theorem ofBits_last : Ideal.ofBits .f32 0xC61C4000#32 = ((-10000 : ℝ) : EReal) := by
  simp [Ideal.ofBits, Ideal.ieee, -EReal.coe_mul]; norm_num

theorem ofBits_bot : Ideal.ofBits .f32 0xFF800000#32 = (⊥ : EReal) := by simp [Ideal.ofBits, Ideal.ieee]

theorem ofBits_zero : Ideal.ofBits .f32 0x00000000#32 = (0 : EReal) := by simp [Ideal.ofBits, Ideal.ieee]

theorem ofBits_one : Ideal.ofBits .f32 0x3F800000#32 = (1 : EReal) := by
  simp [Ideal.ofBits, Ideal.ieee, -EReal.coe_mul]; norm_num

theorem removed_lt : Ideal.ofBits .f32 0xFF61B1E6#32 < ((-10000 : ℝ) : EReal) := by
  simp [Ideal.ofBits, Ideal.ieee, -EReal.coe_mul, -EReal.coe_neg]; norm_num

/-- Every value is above the number the kernel writes over a taken one. -/
theorem removed_lt_value (t : ℕ) (w : Fin 64 → ℝ) (hw : ∀ j, 0 ≤ w j) (j : Fin 64) : Ideal.ofBits .f32 0xFF61B1E6#32 < value t w j := by
  refine removed_lt.trans_le ?_
  unfold value
  split_ifs
  · exact EReal.coe_le_coe_iff.mpr (by norm_num)
  · exact EReal.coe_le_coe_iff.mpr (by linarith [hw j])
  · exact le_rfl

end Cert.Spec
-- ==== Proof.Selection.lean ====
module

public import proofs.«01_k».proof.Proof.Gen.KernelIdeal.Value
public import proofs.«01_k».proof.Proof.Rounds
public import proofs.«01_k».proof.Proof.Softmax
public import Idealize.ShloMosaic.Lib.WordCmp
public import Idealize.ShloMosaic.Lib.Pointwise

/-!
# The kernel's choice of blocks

Sixteen rounds over a row of 128 values, each written out by the kernel: take the first lane of the
greatest value, mark it, write a number below all others in its place.  `drop` and `gain` are one
round; the payloads of the kernel are these, two to four rounds at a time.
-/

@[expose] public section

set_option maxRecDepth 16384

noncomputable section

namespace Cert.KernelIdeal.Selection

open Cert.KernelIdeal Cert.KernelIdeal.Gen Idealize.ShloMosaic Idealize.ShloMosaic.TcCoe
open scoped Classical

section Text

variable {F : FTy → Type} [FloatOps F] [Named F]

/-- Where a row holds its greatest value. -/
def greatest (w : FVec F S128x128 .f32) : IVec S128x128 1 :=
  cmpf .oeq w (broadcastTo S128x128 (shapeCast S128x1 (multiReduction .maximumf [1] S128 w 0xFF800000#32 reduces_S128x128_S128 (.inl rfl) rfl)
    shapeCasts_S128_S128x1) broadcasts_S128x1_S128x128)

/-- The lane numbers there, 128 elsewhere. -/
def candidates (lane : IVec S128x128 32) (w : FVec F S128x128 .f32) : IVec S128x128 32 :=
  select (greatest w) lane (broadcast S128x128 128#32)

/-- The first such lane of each row. -/
def first (lane : IVec S128x128 32) (w : FVec F S128x128 .f32) : IVec S128x1 32 :=
  shapeCast S128x1 (multiReductionI .minsi [1] S128 (candidates lane w) 2147483647#32 reduces_S128x128_S128 rfl) shapeCasts_S128_S128x1

/-- Whether a lane is it. -/
def hit (lane : IVec S128x128 32) (w : FVec F S128x128 .f32) : IVec S128x128 1 :=
  cmpi .eq lane (broadcastTo S128x128 (first lane w) broadcasts_S128x1_S128x128)

/-- The values after a round. -/
def drop (lane : IVec S128x128 32) (w : FVec F S128x128 .f32) : FVec F S128x128 .f32 :=
  select (hit lane w) (broadcast S128x128 (Scalar.ofBits .f32 0xFF61B1E6#32)) w

/-- The marks after a round. -/
def gain (lane : IVec S128x128 32) (w m : FVec F S128x128 .f32) : FVec F S128x128 .f32 :=
  select (hit lane w) (broadcast S128x128 (Scalar.ofBits .f32 0x3F800000#32)) m

/-- The values and the marks after `k` rounds. -/
def rounds (lane : IVec S128x128 32) (w m : FVec F S128x128 .f32) : ℕ → FVec F S128x128 .f32 × FVec F S128x128 .f32
  | 0 => (w, m)
  | k + 1 => (drop lane (rounds lane w m k).1, gain lane (rounds lane w m k).1 (rounds lane w m k).2)

theorem rounds_add (lane : IVec S128x128 32) (w m : FVec F S128x128 .f32) (j k : ℕ) :
    rounds lane w m (j + k) = rounds lane (rounds lane w m j).1 (rounds lane w m j).2 k := by
  induction k with
  | zero => rfl
  | succ k ih => rw [← Nat.add_assoc]; unfold rounds; rw [ih]

theorem rounds_zero (lane : IVec S128x128 32) (w m : FVec F S128x128 .f32) : rounds lane w m 0 = (w, m) := rfl

theorem rounds_succ (lane : IVec S128x128 32) (w m : FVec F S128x128 .f32) (k : ℕ) :
    rounds lane w m (k + 1) = (drop lane (rounds lane w m k).1, gain lane (rounds lane w m k).1 (rounds lane w m k).2) := rfl

theorem rounds_two (lane : IVec S128x128 32) (w m : FVec F S128x128 .f32) :
    rounds lane w m 2 = (drop lane (drop lane w), gain lane (drop lane w) (gain lane w m)) := by
  rw [show (2 : ℕ) = 0 + 1 + 1 from rfl]; simp only [rounds_succ, rounds_zero]

theorem rounds_three (lane : IVec S128x128 32) (w m : FVec F S128x128 .f32) :
    rounds lane w m 3 = (drop lane (drop lane (drop lane w)), gain lane (drop lane (drop lane w)) (gain lane (drop lane w) (gain lane w m))) := by
  rw [show (3 : ℕ) = 0 + 1 + 1 + 1 from rfl]; simp only [rounds_succ, rounds_zero]

theorem rounds_four (lane : IVec S128x128 32) (w m : FVec F S128x128 .f32) :
    rounds lane w m 4 = (drop lane (drop lane (drop lane (drop lane w))),
      gain lane (drop lane (drop lane (drop lane w))) (gain lane (drop lane (drop lane w)) (gain lane (drop lane w) (gain lane w m)))) := by
  rw [show (4 : ℕ) = 0 + 1 + 1 + 1 + 1 from rfl]; simp only [rounds_succ, rounds_zero]

attribute [irreducible] rounds

/-- No lane marked. -/
def none : FVec F S128x128 .f32 := broadcast S128x128 (Scalar.ofBits .f32 0x00000000#32)

variable (lane : IVec S128x128 32) (w m : FVec F S128x128 .f32)

variable (v93 : FVec F S128x128 .f32) (v118 : IVec S128x1 32) (v123 v127 : IVec S128x128 1)
theorem pay25_eq : k0_pay25 v93 lane v118 v123 v127 = hit lane (k0_pay24 v93 lane v118 v123 v127) := rfl
theorem pay26_eq : k0_pay26 v93 lane v118 v123 v127 = drop lane (k0_pay24 v93 lane v118 v123 v127) := rfl
theorem pay27_eq : k0_pay27 v93 lane v118 v123 v127 = hit lane (k0_pay26 v93 lane v118 v123 v127) := rfl
theorem values_two : k0_pay29 v93 lane v118 v123 v127 = drop lane (drop lane (k0_pay24 v93 lane v118 v123 v127)) :=
  (show k0_pay29 v93 lane v118 v123 v127 = drop lane (k0_pay26 v93 lane v118 v123 v127) from rfl).trans (by rw [pay26_eq])
theorem marks_two : k0_pay28 v93 lane v118 v123 v127 = gain lane (drop lane (k0_pay24 v93 lane v118 v123 v127)) (gain lane (k0_pay24 v93 lane v118 v123 v127) none) :=
  (show k0_pay28 v93 lane v118 v123 v127 = gain lane (k0_pay26 v93 lane v118 v123 v127) (gain lane (k0_pay24 v93 lane v118 v123 v127) none) from rfl).trans (by rw [pay26_eq])
theorem greatest_two : k0_pay30 v93 lane v118 v123 v127 = greatest (k0_pay29 v93 lane v118 v123 v127) := rfl
theorem five_hit : k0_pay31 lane (greatest w) = hit lane w := rfl
theorem five_drop : k0_pay32 lane w (greatest w) = drop lane w := rfl
theorem five_hit2 : k0_pay33 lane w (greatest w) = hit lane (k0_pay32 lane w (greatest w)) := rfl
theorem five_drop2 : k0_pay34 lane w (greatest w) = drop lane (k0_pay32 lane w (greatest w)) := rfl
theorem five_hit3 : k0_pay35 lane w (greatest w) = hit lane (k0_pay34 lane w (greatest w)) := rfl
theorem marks_five : k0_pay36 lane m w (greatest w) = gain lane (drop lane (drop lane w)) (gain lane (drop lane w) (gain lane w m)) :=
  (show k0_pay36 lane m w (greatest w) = gain lane (k0_pay34 lane w (greatest w)) (gain lane (k0_pay32 lane w (greatest w)) (gain lane w m)) from rfl).trans
    (by rw [five_drop2, five_drop])
theorem values_five : k0_pay37 lane w (greatest w) = drop lane (drop lane (drop lane w)) :=
  (show k0_pay37 lane w (greatest w) = drop lane (k0_pay34 lane w (greatest w)) from rfl).trans (by rw [five_drop2, five_drop])
theorem candidates_five : k0_pay38 lane w (greatest w) = candidates lane (k0_pay37 lane w (greatest w)) := rfl
theorem eight_hit : k0_pay39 lane (candidates lane w) = hit lane w := rfl
theorem eight_drop : k0_pay40 lane w (candidates lane w) = drop lane w := rfl
theorem eight_hit2 : k0_pay41 lane w (candidates lane w) = hit lane (k0_pay40 lane w (candidates lane w)) := rfl
theorem eight_drop2 : k0_pay42 lane w (candidates lane w) = drop lane (k0_pay40 lane w (candidates lane w)) := rfl
theorem eight_hit3 : k0_pay43 lane w (candidates lane w) = hit lane (k0_pay42 lane w (candidates lane w)) := rfl
theorem marks_eight : k0_pay44 lane m w (candidates lane w) = gain lane (drop lane (drop lane w)) (gain lane (drop lane w) (gain lane w m)) :=
  (show k0_pay44 lane m w (candidates lane w) = gain lane (k0_pay42 lane w (candidates lane w)) (gain lane (k0_pay40 lane w (candidates lane w)) (gain lane w m)) from rfl).trans
    (by rw [eight_drop2, eight_drop])
theorem values_eight : k0_pay45 lane w (candidates lane w) = drop lane (drop lane (drop lane w)) :=
  (show k0_pay45 lane w (candidates lane w) = drop lane (k0_pay42 lane w (candidates lane w)) from rfl).trans (by rw [eight_drop2, eight_drop])
theorem first_eight : k0_pay46 lane w (candidates lane w) = first lane (k0_pay45 lane w (candidates lane w)) := rfl
theorem eleven_hit : k0_pay47 lane (first lane w) = hit lane w := rfl
theorem eleven_drop : k0_pay48 lane w (first lane w) = drop lane w := rfl
theorem eleven_hit2 : k0_pay49 lane w (first lane w) = hit lane (k0_pay48 lane w (first lane w)) := rfl
theorem eleven_drop2 : k0_pay50 lane w (first lane w) = drop lane (k0_pay48 lane w (first lane w)) := rfl
theorem eleven_hit3 : k0_pay51 lane w (first lane w) = hit lane (k0_pay50 lane w (first lane w)) := rfl
theorem marks_eleven : k0_pay52 lane m w (first lane w) = gain lane (drop lane (drop lane w)) (gain lane (drop lane w) (gain lane w m)) :=
  (show k0_pay52 lane m w (first lane w) = gain lane (k0_pay50 lane w (first lane w)) (gain lane (k0_pay48 lane w (first lane w)) (gain lane w m)) from rfl).trans
    (by rw [eleven_drop2, eleven_drop])
theorem values_eleven : k0_pay53 lane w (first lane w) = drop lane (drop lane (drop lane w)) :=
  (show k0_pay53 lane w (first lane w) = drop lane (k0_pay50 lane w (first lane w)) from rfl).trans (by rw [eleven_drop2, eleven_drop])
theorem hit_eleven : k0_pay54 lane w (first lane w) = hit lane (k0_pay53 lane w (first lane w)) := rfl
theorem fourteen_drop : k0_pay55 w (hit lane w) = drop lane w := rfl
theorem fourteen_hit2 : k0_pay56 lane w (hit lane w) = hit lane (k0_pay55 w (hit lane w)) := rfl
theorem fourteen_drop2 : k0_pay57 lane w (hit lane w) = drop lane (k0_pay55 w (hit lane w)) := rfl
theorem fourteen_hit3 : k0_pay58 lane w (hit lane w) = hit lane (k0_pay57 lane w (hit lane w)) := rfl
theorem values_fourteen : k0_pay59 lane w (hit lane w) = drop lane (drop lane (drop lane w)) :=
  (show k0_pay59 lane w (hit lane w) = drop lane (k0_pay57 lane w (hit lane w)) from rfl).trans (by rw [fourteen_drop2, fourteen_drop])
theorem hit_fourteen : k0_pay60 lane w (hit lane w) = hit lane (k0_pay59 lane w (hit lane w)) := rfl
theorem marks_fifteen : k0_pay61 lane m w (hit lane w) (Scalar.ofBits .f32 0x3F800000#32)
    = gain lane (drop lane (drop lane (drop lane w))) (gain lane (drop lane (drop lane w)) (gain lane (drop lane w) (gain lane w m))) :=
  (show k0_pay61 lane m w (hit lane w) (Scalar.ofBits .f32 0x3F800000#32) = gain lane (k0_pay59 lane w (hit lane w)) (gain lane (k0_pay57 lane w (hit lane w))
    (gain lane (k0_pay55 w (hit lane w)) (gain lane w m))) from rfl).trans (by rw [values_fourteen, fourteen_drop2, fourteen_drop])
theorem marks_sixteen : k0_pay62 lane w (hit lane w) m (Scalar.ofBits .f32 0xFF61B1E6#32)
    = concatenate S512x128 0 [⟨S128x128, truncf .bf16 (gain lane (drop lane w) m) bitsLt_bf16_f32⟩,
        ⟨S128x128, truncf .bf16 (gain lane (drop lane w) m) bitsLt_bf16_f32⟩,
        ⟨S128x128, truncf .bf16 (gain lane (drop lane w) m) bitsLt_bf16_f32⟩,
        ⟨S128x128, truncf .bf16 (gain lane (drop lane w) m) bitsLt_bf16_f32⟩] concatenates_S128x128_S128x128_S128x128_S128x128_S512x128_d0 := rfl

/-- The marks after sixteen rounds, for the four heads one above another. -/
def chosen (lane : IVec S128x128 32) (w : FVec F S128x128 .f32) : FVec F S512x128 .bf16 :=
  concatenate S512x128 0 [⟨S128x128, truncf .bf16 (rounds lane w none 16).2 bitsLt_bf16_f32⟩,
        ⟨S128x128, truncf .bf16 (rounds lane w none 16).2 bitsLt_bf16_f32⟩,
        ⟨S128x128, truncf .bf16 (rounds lane w none 16).2 bitsLt_bf16_f32⟩,
        ⟨S128x128, truncf .bf16 (rounds lane w none 16).2 bitsLt_bf16_f32⟩] concatenates_S128x128_S128x128_S128x128_S128x128_S512x128_d0

/-- The kernel's chain of payloads from the values `v93 …` to the marks is those sixteen rounds. -/
theorem chain (v93 : FVec F S128x128 .f32) (v118 : IVec S128x1 32) (v123 v127 : IVec S128x128 1)
    (r8 r9 r11 r12 r14 r15 r17 r18 r20 r22 : FVec F S128x128 .f32) (r10 r19 r21 : IVec S128x128 1) (r13 : IVec S128x128 32)
    (r16 : IVec S128x1 32)
    (h8 : r8 = k0_pay28 v93 lane v118 v123 v127) (h9 : r9 = k0_pay29 v93 lane v118 v123 v127)
    (h10 : r10 = k0_pay30 v93 lane v118 v123 v127)
    (h11 : r11 = k0_pay36 lane r8 r9 r10) (h12 : r12 = k0_pay37 lane r9 r10) (h13 : r13 = k0_pay38 lane r9 r10)
    (h14 : r14 = k0_pay44 lane r11 r12 r13) (h15 : r15 = k0_pay45 lane r12 r13) (h16 : r16 = k0_pay46 lane r12 r13)
    (h17 : r17 = k0_pay52 lane r14 r15 r16) (h18 : r18 = k0_pay53 lane r15 r16) (h19 : r19 = k0_pay54 lane r15 r16)
    (h20 : r20 = k0_pay59 lane r18 r19) (h21 : r21 = k0_pay60 lane r18 r19)
    (h22 : r22 = k0_pay61 lane r17 r18 r19 (Scalar.ofBits .f32 0x3F800000#32)) :
    k0_pay62 lane r20 r21 r22 (Scalar.ofBits .f32 0xFF61B1E6#32) = chosen lane (k0_pay24 v93 lane v118 v123 v127) := by
  rw [values_two] at h9
  rw [marks_two] at h8
  have e10 : r10 = greatest r9 := by rw [h10, greatest_two, values_two, h9]
  generalize k0_pay24 v93 lane v118 v123 v127 = w₀ at h8 h9 ⊢
  have p2 : rounds lane w₀ none 2 = (r9, r8) := by rw [rounds_two, ← h9, ← h8]
  have p5 : rounds lane w₀ none 5 = (r12, r11) := by
    rw [rounds_add lane w₀ none 2 3, p2, rounds_three, h12, h11, e10, marks_five, values_five]
  have e13 : r13 = candidates lane r12 := by rw [h13, e10, candidates_five, h12, e10]
  have p8 : rounds lane w₀ none 8 = (r15, r14) := by
    rw [rounds_add lane w₀ none 5 3, p5, rounds_three, h15, h14, e13, marks_eight, values_eight]
  have e16 : r16 = first lane r15 := by rw [h16, e13, first_eight, h15, e13]
  have p11 : rounds lane w₀ none 11 = (r18, r17) := by
    rw [rounds_add lane w₀ none 8 3, p8, rounds_three, h18, h17, e16, marks_eleven, values_eleven]
  have e19 : r19 = hit lane r18 := by rw [h19, e16, hit_eleven, h18, e16]
  have e20 : r20 = drop lane (drop lane (drop lane r18)) := by rw [h20, e19, values_fourteen]
  have e21 : r21 = hit lane r20 := by rw [h21, e19, hit_fourteen, h20, e19]
  have p15 : rounds lane w₀ none 15 = (drop lane r20, r22) := by
    rw [rounds_add lane w₀ none 11 4, p11, rounds_four, h22, e19, marks_fifteen, e20]
  have p16 : rounds lane w₀ none 16 = (drop lane (drop lane r20), gain lane (drop lane r20) r22) := by
    rw [rounds_succ lane w₀ none 15, p15]
  rw [e21, marks_sixteen]
  unfold chosen
  rw [p16]

end Text

/-! ## At the extended reals, a lane at a time -/

/-- The lanes' numbers. -/
abbrev lanes : IVec S128x128 32 := iota .tc S128x128 32 [1] iota_S128x128_d1_w32

/-- A row of a block. -/
def row (w : FVec Ideal S128x128 .f32) (r : Fin 128) : Fin 128 → EReal := fun n => w (ix2 r n)

theorem first_apply (w : FVec Ideal S128x128 .f32) (r : Fin 128) :
    first lanes w (ix2 r 0) = BitVec.ofNat 32 (Rounds.pick (row w r)).val := by
  refine Eq.trans ?_ (Rounds.fold_first (by norm_num) (row w r)
    (fun x => if row w r x = Finset.univ.fold max (⊥ : EReal) (row w r) then BitVec.ofNat 32 x.val else BitVec.ofNat 32 128)
    fun x => rfl)
  pointwise [first, candidates, greatest, lanes]
  rw [show Ideal.ofBits FTy.f32 4286578688#32 = (⊥ : EReal) by simp [Ideal.ofBits, Ideal.ieee]]
  rfl

/-- The number written over a value once taken. -/
def removed : EReal := Ideal.ofBits .f32 0xFF61B1E6#32

theorem hit_apply (w : FVec Ideal S128x128 .f32) (r n : Fin 128) :
    hit lanes w (ix2 r n) = 1#1 ↔ n = Rounds.pick (row w r) := by
  have e : hit lanes w (ix2 r n) = Scalar.cmpi .eq (BitVec.ofNat 32 n.val) (first lanes w (ix2 r 0)) := by
    pointwise [hit, lanes]
    rfl
  rw [e, first_apply]
  exact (WordCmp.cmpi_eq_ofNat_eq_one_iff (by omega) (by omega)).trans Fin.ext_iff.symm

theorem drop_row (w : FVec Ideal S128x128 .f32) (r : Fin 128) :
    row (drop lanes w) r = Rounds.remove removed (row w r) := by
  funext n
  have e : row (drop lanes w) r n = Scalar.select (hit lanes w (ix2 r n)) removed (w (ix2 r n)) := by
    unfold row; pointwise [drop, removed]
  rw [e, Softmax.select_iff (hit_apply w r n)]
  rfl

theorem gain_apply (w m : FVec Ideal S128x128 .f32) (r n : Fin 128) :
    gain lanes w m (ix2 r n) = if n = Rounds.pick (row w r) then 1 else m (ix2 r n) := by
  have e : gain lanes w m (ix2 r n) = Scalar.select (hit lanes w (ix2 r n)) (Ideal.ofBits .f32 0x3F800000#32) (m (ix2 r n)) := by
    pointwise [gain]
  rw [e, Softmax.select_iff (hit_apply w r n), show Ideal.ofBits .f32 0x3F800000#32 = (1 : EReal) by
    simp [Ideal.ofBits, Ideal.ieee, -EReal.coe_mul]; norm_num]

theorem rounds_row (w m : FVec Ideal S128x128 .f32) (r : Fin 128) (k : ℕ) :
    row (rounds lanes w m k).1 r = Rounds.before removed (row w r) k := by
  induction k with
  | zero => rw [rounds_zero]; rfl
  | succ k ih => rw [rounds_succ, drop_row, ih]; rfl

theorem rounds_marks (w : FVec Ideal S128x128 .f32) (r n : Fin 128) (k : ℕ) :
    (rounds lanes w none k).2 (ix2 r n)
      = if ∃ j < k, n = Rounds.pick (Rounds.before removed (row w r) j) then 1 else 0 := by
  induction k with
  | zero =>
    have e : (rounds lanes w none 0).2 (ix2 r n) = Ideal.ofBits .f32 0x00000000#32 := by
      rw [rounds_zero]
      show none (F := Ideal) (ix2 r n) = _
      pointwise [none]
    rw [e, if_neg (by simp)]
    simp [Ideal.ofBits, Ideal.ieee]
  | succ k ih =>
    rw [rounds_succ]; dsimp only; rw [gain_apply, ih, rounds_row]
    by_cases h : n = Rounds.pick (Rounds.before removed (row w r) k)
    · rw [if_pos h, if_pos ⟨k, by omega, h⟩]
    · rw [if_neg h]
      refine if_congr ⟨fun ⟨j, hj, e⟩ => ⟨j, by omega, e⟩, fun ⟨j, hj, e⟩ => ⟨j, ?_, e⟩⟩ rfl rfl
      rcases Nat.lt_succ_iff_lt_or_eq.mp hj with h' | h'
      · exact h'
      · exact absurd (h' ▸ e) h

/-- The marks the kernel reads in its loop, a lane at a time. -/
theorem chosen_apply (w : FVec Ideal S128x128 .f32) (g : Fin 4) (r n : Fin 128) (R : Fin 512)
    (hR : R.val = 128 * g.val + r.val) :
    chosen lanes w (ix2 R n)
      = if ∃ j < 16, n = Rounds.pick (Rounds.before removed (row w r) j) then (1 : EReal) else 0 := by
  refine Eq.trans ?_ ((rounds_marks w r n 16).trans (by congr))
  generalize hm : (rounds lanes w none 16).2 = m
  unfold chosen
  rw [hm]
  pointwise
  split_ifs <;> exact congrArg (fun q : Fin 128 => m (ix2 q n)) (Fin.ext (by simp only []; omega))

end Cert.KernelIdeal.Selection
-- ==== Proof.Block.lean ====
module

public import proofs.«01_k».proof.Proof.Gen.KernelIdeal.Value
public import proofs.«01_k».proof.Proof.Spec
public import proofs.«01_k».proof.Proof.Selection
public import Idealize.ShloMosaic.Lib.Pointwise
public import Idealize.ShloMosaic.Lib.WordCmp

/-!
# The kernel's payloads

The 512 rows of a block are the 128 positions of each of four heads, one head after another.
-/

@[expose] public section

set_option maxRecDepth 16384

noncomputable section

namespace Cert.KernelIdeal.Block

open Cert.KernelIdeal Cert.KernelIdeal.Gen Idealize.ShloMosaic Idealize.ShloMosaic.TcCoe
open Cert.Softmax Cert.Spec Idealize.ShloMosaic.WordCmp
open scoped Classical

/-- The head and the position of a row. -/
def headOf (R : Fin 512) : Fin 4 := ⟨R.val / 128, by omega⟩
def rowOf (R : Fin 512) : Fin 128 := ⟨R.val % 128, by omega⟩
/-- The row of a head and a position. -/
def stack (g : Fin 4) (r : Fin 128) : Fin 512 := ⟨128 * g.val + r.val, by omega⟩

theorem headOf_stack (g : Fin 4) (r : Fin 128) : headOf (stack g r) = g := Fin.ext (by simp only [headOf, stack]; omega)
theorem rowOf_stack (g : Fin 4) (r : Fin 128) : rowOf (stack g r) = r := Fin.ext (by simp only [rowOf, stack]; omega)

/-- The masked score is −∞. -/
theorem mask_bot : Named.named (F := Ideal) (φ := .f32) Cert.KernelIdeal.κ "mask" 0xF149F2CA#32 = (⊥ : EReal) :=
  IdealRules.named_const.ideal_named_scalar _ _ _ _ rfl

/-- A division by 64 rounded down, as the program writes it. -/
def floor64 (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32) (IntOp.divsi ArithUnit.vector x 64#32)

theorem floor64_all : ∀ a : Fin 4096, floor64 (BitVec.ofNat 32 a.val) = BitVec.ofNat 32 (a.val / 64) := by decide +kernel

theorem floor64_eq (a : ℕ) (h : a < 4096) : floor64 (BitVec.ofNat 32 a) = BitVec.ofNat 32 (a / 64) := floor64_all ⟨a, h⟩

theorem and127_all : ∀ a : Fin 512, IntOp.andi (BitVec.ofNat 32 a.val) 127#32 = BitVec.ofNat 32 (a.val % 128) := by decide +kernel

theorem ofBits_half : Ideal.ofBits .f32 0x3F000000#32 = ((1 / 2 : ℝ) : EReal) := by
  simp [Ideal.ofBits, Ideal.ieee, -EReal.coe_mul]; norm_num

/-- A bit as a number. -/
theorem bit_eq {c : BitVec 1} {p : Prop} [Decidable p] (h : c = 1#1 ↔ p) :
    FloatOps.sitofp (F := Ideal) .f32 (BitVec.setWidth 32 c) = ((if p then 1 else 0 : ℝ) : EReal) := by
  rcases BitVec.eq_zero_or_eq_one c with rfl | rfl
  · rw [if_neg (fun hp => absurd (h.mpr hp) (by decide))]; simp [FloatOps.sitofp]
  · rw [if_pos (h.mp rfl)]; simp [FloatOps.sitofp]

theorem subi_ofNat (a b : ℕ) (hb : b ≤ a) : IntOp.subi (BitVec.ofNat 32 a) (BitVec.ofNat 32 b) = BitVec.ofNat 32 (a - b) := by
  show BitVec.ofNat 32 a - BitVec.ofNat 32 b = _
  rw [BitVec.sub_eq_iff_eq_add, ← BitVec.ofNat_add, Nat.sub_add_cancel hb]

theorem smuli_ofNat (a b : ℕ) : Scalar.muli (BitVec.ofNat 32 a) (BitVec.ofNat 32 b) = BitVec.ofNat 32 (a * b) := muli_ofNat a b

theorem saddi_ofNat (a b : ℕ) : Scalar.addi (BitVec.ofNat 32 a) (BitVec.ofNat 32 b) = BitVec.ofNat 32 (a + b) := addi_ofNat a b

theorem ssubi_ofNat (a b : ℕ) (hb : b ≤ a) : Scalar.subi (BitVec.ofNat 32 a) (BitVec.ofNat 32 b) = BitVec.ofNat 32 (a - b) := subi_ofNat a b hb

theorem and_iff {c d : BitVec 1} {p q : Prop} (hc : c = 1#1 ↔ p) (hd : d = 1#1 ↔ q) : IntOp.andi c d = 1#1 ↔ p ∧ q := by
  rw [← hc, ← hd]; clear hc hd; revert c d; decide

theorem or_iff {c d : BitVec 1} {p q : Prop} (hc : c = 1#1 ↔ p) (hd : d = 1#1 ↔ q) : IntOp.ori c d = 1#1 ↔ p ∨ q := by
  rw [← hc, ← hd]; clear hc hd; revert c d; decide

theorem rows (v1 v2 v3 v4 : Vec Ideal S128x128 .f32) (Q : Fin 128 → Fin 4 → Fin 128 → EReal)
    (h1 : ∀ r d, v1 (ix2 r d) = (Q r 0 d : EReal)) (h2 : ∀ r d, v2 (ix2 r d) = (Q r 1 d : EReal))
    (h3 : ∀ r d, v3 (ix2 r d) = (Q r 2 d : EReal)) (h4 : ∀ r d, v4 (ix2 r d) = (Q r 3 d : EReal)) (R : Fin 512) (d : Fin 128) :
    k0_pay9 v1 v2 v3 v4 (ix2 R d) = (Q (rowOf R) (headOf R) d : EReal) := by
  have e : k0_pay9 v1 v2 v3 v4 (ix2 R d)
      = if h : R.val < 128 then v1 (ix2 ⟨R.val, h⟩ d)
        else if h : R.val - 128 < 128 then v2 (ix2 ⟨R.val - 128, h⟩ d)
        else if h : R.val - 128 - 128 < 128 then v3 (ix2 ⟨R.val - 128 - 128, h⟩ d)
        else v4 (ix2 ⟨R.val - 128 - 128 - 128, by omega⟩ d) := by
    pointwise [k0_pay9]
  have ht : ∀ (r r' : Fin 128) (g g' : Fin 4), r = r' → g = g' → Q r g d = Q r' g' d := fun r r' g g' h h' => by rw [h, h']
  rw [e]
  split_ifs with ha hb hc
  · rw [h1]; exact ht _ _ _ _ (Fin.ext (by simp only [rowOf]; omega)) (Fin.ext (by simp only [headOf]; show 0 = _; omega))
  · rw [h2]; exact ht _ _ _ _ (Fin.ext (by simp only [rowOf]; omega)) (Fin.ext (by simp only [headOf]; show 1 = _; omega))
  · rw [h3]; exact ht _ _ _ _ (Fin.ext (by simp only [rowOf]; omega)) (Fin.ext (by simp only [headOf]; show 2 = _; omega))
  · rw [h4]; exact ht _ _ _ _ (Fin.ext (by simp only [rowOf]; omega)) (Fin.ext (by simp only [headOf]; show 3 = _; omega))

section Scores

variable (X : Fin 512 → Fin 128 → EReal) (CK CV : Fin 256 → Fin 128 → EReal)

theorem scores (v1 v2 v3 v4 : Vec Ideal S128x128 .f32) (hX : ∀ R d, k0_pay9 v1 v2 v3 v4 (ix2 R d) = (X R d : EReal))
    (v15 : Vec Ideal S1x1x256x128 .f32) (h : ∀ n d, v15 (ix4 0 0 n d) = (CK n d : EReal)) (R : Fin 512) (n : Fin 256) :
    k0_pay12 v1 v2 v3 v4 v15 (ix2 R n) = (score scale (X R) CK n : EReal) := by
  have e : k0_pay12 v1 v2 v3 v4 v15 (ix2 R n)
      = (∑ x, k0_pay9 v1 v2 v3 v4 (ix2 R x) * v15 (ix4 0 0 n x)) * Ideal.ofBits .f32 0x3DB504F3#32 := by
    pointwise [k0_pay12]
  rw [e, dot_eq _ _ _ _ (hX R) (h n), ofBits_scale]
  rfl

theorem mask (i : grid0.Coords) (R : Fin 512) (n : Fin 256) :
    k0_pay13 i (ix2 R n) = 1#1 ↔ reach (128 * (i 2).val + (rowOf R).val) n := by
  have hi : (i 2).val < 32 := (i 2).isLt
  pointwise [k0_pay13, k0_pay10]
  rw [and127_all]
  have hR := (rowOf R).isLt
  show _ ↔ 16 * n.val + 31 ≤ 128 * (i 2).val + R.val % 128 ∧ n.val < 255
  simp (disch := omega) only [hlo_ix, muli_ofNat, addi_ofNat, subi_ofNat, smuli_ofNat, saddi_ofNat, ssubi_ofNat]
  omega

theorem pay14_eq (R : Fin 512) (n : Fin 256) : k0_pay14 (F := Ideal) (ix2 R n) = ⊥ := by
  pointwise [k0_pay14]
  exact mask_bot

variable (t : Fin 512 → ℕ) (v20 : FVec Ideal S512x256 .f32) (h20 : ∀ R n, v20 (ix2 R n) = (score scale (X R) CK n : EReal))
  (v34 : IVec S512x256 1) (h34 : ∀ R n, v34 (ix2 R n) = 1#1 ↔ reach (t R) n)

include h20 h34 in
theorem probs (R : Fin 512) (n : Fin 256) :
    k0_pay15 v20 v34 k0_pay14 (ix2 R n) = (weight (reach (t R)) (score scale (X R) CK) n : EReal) := by
  pointwise [k0_pay15]
  simp only [pay14_eq, ofBits_bot]
  exact weight_eq (fun x => v34 (ix2 R x)) _ (h34 R) (fun x => v20 (ix2 R x)) _ (h20 R) _ rfl n

include h20 h34 in
theorem compressed (v50 : Vec Ideal S1x1x256x128 .f32) (h : ∀ n d, v50 (ix4 0 0 n d) = (CV n d : EReal)) (R : Fin 512) (d : Fin 128) :
    k0_pay16 v20 v34 k0_pay14 v50 (ix2 R d) = (average (reach (t R)) (score scale (X R) CK) CV d : EReal) := by
  have e : k0_pay16 v20 v34 k0_pay14 v50 (ix2 R d) = ∑ x, k0_pay15 v20 v34 k0_pay14 (ix2 R x) * v50 (ix4 0 0 x d) := by
    pointwise [k0_pay16]
  rw [e, dot_eq _ _ _ _ (probs X CK t v20 h20 v34 h34 R) (fun x => h x d), sum_weight]
  rfl

include h20 h34 in
theorem summed (r : Fin 128) (n : Fin 256) :
    k0_pay17 v20 v34 k0_pay14 (ix2 r n)
      = ((∑ g, weight (reach (t (stack g r))) (score scale (X (stack g r)) CK) n : ℝ) : EReal) := by
  have e : k0_pay17 v20 v34 k0_pay14 (ix2 r n)
      = k0_pay15 v20 v34 k0_pay14 (ix2 (stack 0 r) n) + k0_pay15 v20 v34 k0_pay14 (ix2 (stack 1 r) n)
        + k0_pay15 v20 v34 k0_pay14 (ix2 (stack 2 r) n) + k0_pay15 v20 v34 k0_pay14 (ix2 (stack 3 r) n) := by
    pointwise [k0_pay17]
    rw [show stack 0 r = ⟨r.val, by omega⟩ from Fin.ext (by simp [stack])]
    rfl
  rw [e, Fin.sum_univ_four]
  simp only [probs X CK t v20 h20 v34 h34, EReal.coe_add]

end Scores

theorem meets_left (n : Fin 256) (j : Fin 128) : k0_pay18 (ix2 n j) = 1#1 ↔ 16 * n.val < (j.val + 1) * 64 := by
  pointwise [k0_pay18]
  simp (disch := omega) only [hlo_ix, muli_ofNat, addi_ofNat, subi_ofNat, smuli_ofNat, saddi_ofNat, ssubi_ofNat]
  omega
theorem meets_right (n : Fin 256) (j : Fin 128) : k0_pay19 (ix2 n j) = 1#1 ↔ 64 * j.val < 16 * n.val + 32 := by
  pointwise [k0_pay19]
  simp (disch := omega) only [hlo_ix, muli_ofNat, addi_ofNat, subi_ofNat, smuli_ofNat, saddi_ofNat, ssubi_ofNat]
  omega

theorem masses (v63 : FVec Ideal S128x256 .f32) (P : Fin 128 → Fin 256 → ℝ) (h : ∀ r n, v63 (ix2 r n) = (P r n : EReal))
    (v64 : IVec S256x128 32) (h64 : ∀ n j, v64 (ix2 n j) = BitVec.ofNat 32 n.val) (r : Fin 128) (j : Fin 64) (j' : Fin 128)
    (hj : j'.val = j.val) :
    k0_pay20 v63 v64 k0_pay18 k0_pay19 (ix2 r j') = ((∑ n, P r n * if meets n j then 1 else 0 : ℝ) : EReal) := by
  have e : k0_pay20 v63 v64 k0_pay18 k0_pay19 (ix2 r j')
      = ∑ x, v63 (ix2 r x) * FloatOps.sitofp (F := Ideal) .f32 (BitVec.setWidth 32
            (IntOp.andi (IntOp.andi (k0_pay18 (ix2 x j')) (k0_pay19 (ix2 x j'))) (IntOp.cmpi CmpIPredicate.slt (v64 (ix2 x j')) 255#32)))
        + ∑ x, (v63 (ix2 r x) - v63 (ix2 r x)) * FloatOps.sitofp (F := Ideal) .f32 (BitVec.setWidth 32
            (IntOp.andi (IntOp.andi (k0_pay18 (ix2 x j')) (k0_pay19 (ix2 x j'))) (IntOp.cmpi CmpIPredicate.slt (v64 (ix2 x j')) 255#32))) := by
    pointwise [k0_pay20]
  have hov : ∀ x : Fin 256, FloatOps.sitofp (F := Ideal) .f32 (BitVec.setWidth 32
      (IntOp.andi (IntOp.andi (k0_pay18 (ix2 x j')) (k0_pay19 (ix2 x j'))) (IntOp.cmpi CmpIPredicate.slt (v64 (ix2 x j')) 255#32)))
      = ((if meets x j then 1 else 0 : ℝ) : EReal) := fun x => by
    refine bit_eq ((and_iff (and_iff (meets_left x j') (meets_right x j')) (q := x.val < 255) ?_).trans ?_)
    · rw [h64]; simp (disch := omega) only [hlo_ix, muli_ofNat, addi_ofNat, subi_ofNat, smuli_ofNat, saddi_ofNat, ssubi_ofNat]
    · unfold meets; rw [hj]; tauto
  have hz : ∀ x, v63 (ix2 r x) - v63 (ix2 r x) = ((0 : ℝ) : EReal) := fun x => by
    rw [h, ← EReal.coe_sub, sub_self]
  rw [e, dot_real _ _ _ _ (h r) hov, dot_real _ _ _ _ hz hov, ← EReal.coe_add]
  simp

theorem lanes_apply (r n : Fin 128) : Selection.lanes (ix2 r n) = BitVec.ofNat 32 n.val := by
  pointwise [Selection.lanes]

section Values

variable (t : Fin 128 → ℕ) (ht : ∀ r, t r < 4096) (v14 : IVec S128x1 32) (h14 : ∀ r, v14 (ix2 r 0) = BitVec.ofNat 32 (t r))
include ht h14

theorem present (r : Fin 128) : k0_pay21 v14 (ix2 r 0) = BitVec.ofNat 32 (t r / 64) := by
  have e : k0_pay21 v14 (ix2 r 0) = floor64 (v14 (ix2 r 0)) := by
    pointwise [k0_pay21]; rfl
  rw [e, h14, floor64_eq _ (ht r)]

theorem forced (r n : Fin 128) : k0_pay22 v14 (ix2 r n) = 1#1 ↔ n.val = 0 ∨ n.val = t r / 64 := by
  have := ht r
  pointwise [k0_pay22]
  rw [present t ht v14 h14]
  simp (disch := omega) only [hlo_ix]

theorem before (r n : Fin 128) : k0_pay23 v14 (ix2 r n) = 1#1 ↔ n.val + 1 = t r / 64 := by
  have := ht r
  pointwise [k0_pay23]
  rw [present t ht v14 h14]
  rcases Nat.eq_zero_or_pos (t r / 64) with h | h
  · rw [h]
    refine ⟨fun e => ?_, fun e => absurd e (by omega)⟩
    exfalso
    have h2 := (ofBool_decide_eq_one_iff _).mp ((cmpi_eq_eq (BitVec.ofNat 32 n.val) (IntOp.subi 0#32 1#32)).symm.trans e)
    have h3 := congrArg BitVec.toNat h2
    rw [toNat_ofNat_of_lt (by omega), show (IntOp.subi 0#32 1#32).toNat = 4294967295 by decide] at h3
    omega
  · simp (disch := omega) only [hlo_ix, subi_ofNat]
    omega

variable (w : Fin 128 → Fin 64 → ℝ) (v93 : FVec Ideal S128x128 .f32)
  (h93 : ∀ r (j : Fin 64) (j' : Fin 128), j'.val = j.val → v93 (ix2 r j') = (w r j : EReal))

/-- The values of the first round. -/
abbrev initial : FVec Ideal S128x128 .f32 := k0_pay24 v93 Selection.lanes (k0_pay21 v14) (k0_pay22 v14) (k0_pay23 v14)

theorem initial_apply (r n : Fin 128) : Selection.row (initial v14 v93) r n
    = if n.val < 64 then (if (n.val = 0 ∨ n.val = t r / 64) ∨ n.val + 1 = t r / 64 then ((10000 : ℝ) : EReal)
        else if n.val ≤ t r / 64 then v93 (ix2 r n) else ((-10000 : ℝ) : EReal)) else Selection.removed := by
  have := ht r
  have e : Selection.row (initial v14 v93) r n
      = Scalar.select (IntOp.cmpi CmpIPredicate.slt (Selection.lanes (ix2 r n)) 64#32)
      (Scalar.select (IntOp.ori (k0_pay22 v14 (ix2 r n)) (k0_pay23 v14 (ix2 r n))) (Ideal.ofBits FTy.f32 1176256512#32)
        (Scalar.select (IntOp.cmpi CmpIPredicate.sle (Selection.lanes (ix2 r n)) (k0_pay21 v14 (ix2 r 0))) (v93 (ix2 r n))
          (Ideal.ofBits FTy.f32 3323740160#32)))
      (Ideal.ofBits FTy.f32 4284592614#32) := by
    show k0_pay24 _ _ _ _ _ _ = _
    pointwise [k0_pay24]
  rw [e, ofBits_force, ofBits_last, present t ht v14 h14, select_iff (or_iff (forced t ht v14 h14 r n) (before t ht v14 h14 r n)),
    select_iff (p := n.val < 64), select_iff (p := n.val ≤ t r / 64)]
  · rfl
  · rw [lanes_apply]
    simp (disch := omega) only [hlo_ix]
  · rw [lanes_apply]
    simp (disch := omega) only [hlo_ix]

include h93 in
/-- The blocks the kernel marks are the sorted choice. -/
theorem marked (hw : ∀ r j, 0 ≤ w r j) (g : Fin 4) (r n : Fin 128) :
    Selection.chosen Selection.lanes (initial v14 v93) (ix2 (stack g r) n)
      = if ∃ j : Fin 16, (block (t r) (w r) j).val = n.val then (1 : EReal) else 0 := by
  have hv : ∀ x : Fin 64, Selection.row (initial v14 v93) r (x.castLE (by norm_num)) = value (t r) (w r) x := fun x => by
    rw [initial_apply t ht v14 h14, if_pos (show (x.castLE (by norm_num : 64 ≤ 128)).val < 64 from x.isLt), h93 r x _ rfl]
    unfold value
    simp only [Fin.val_castLE, or_assoc]
  have hv' : ∀ x : Fin 128, 64 ≤ x.val → Selection.row (initial v14 v93) r x = Selection.removed := fun x hx => by
    rw [initial_apply t ht v14 h14, if_neg (by omega)]
  have key : ∀ j : Fin 16, Rounds.pick (Rounds.before Selection.removed (Selection.row (initial v14 v93) r) j)
      = (block (t r) (w r) j).castLE (by norm_num : 64 ≤ 128) := fun j =>
    Rounds.picks_eq_sorted (K := 16) (by norm_num : 64 ≤ 128) (by norm_num) Selection.removed (value (t r) (w r))
      (removed_lt_value (t r) (w r) (hw r)) _ hv hv' j
  have hiff : (∃ j < 16, n = Rounds.pick (Rounds.before Selection.removed (Selection.row (initial v14 v93) r) j))
      ↔ ∃ j : Fin 16, (block (t r) (w r) j).val = n.val := by
    constructor
    · rintro ⟨j, hj, e⟩
      exact ⟨⟨j, hj⟩, by rw [e, key ⟨j, hj⟩, Fin.val_castLE]⟩
    · rintro ⟨j, e⟩
      exact ⟨j.val, j.isLt, Fin.ext (by rw [key j, Fin.val_castLE, e])⟩
  rw [Selection.chosen_apply _ g r n _ rfl]
  by_cases hp : ∃ j : Fin 16, (block (t r) (w r) j).val = n.val
  · rw [if_pos (hiff.mpr hp), if_pos hp]
  · rw [if_neg (fun h => hp (hiff.mp h)), if_neg hp]

end Values

/-! ## The chosen blocks' keys -/

theorem iv_eq (k : ℕ) : Scf.iv 0#32 1#32 k = BitVec.ofNat 32 k := by simp [Scf.iv]

theorem keys (i : grid0.Coords) (k : Fin (k0_t1_loop i).trips) (n : Fin 256) :
    k0_pay4 i 0#32 1#32 k (ix2 0 n) = BitVec.ofNat 32 (256 * k.val + n.val) := by
  pointwise [k0_pay4]
  rw [iv_eq]
  simp only [smuli_ofNat, addi_ofNat, Nat.mul_comm]

theorem spread (i : grid0.Coords) (v363 : FVec Ideal S512x128 .bf16) (k : Fin (k0_t1_loop i).trips) (hk : k.val < 16)
    (S : Fin 128 → Prop) (R : Fin 512) (hS : ∀ n, v363 (ix2 R n) = if S n then (1 : EReal) else 0) (n : Fin 256) :
    k0_pay5 i v363 0#32 1#32 k (ix2 R n) = 1#1 ↔ S ⟨(256 * k.val + n.val) / 64, by omega⟩ := by
  have hx : ∀ x : Fin 128, FloatOps.sitofp (F := Ideal) .f32 (BitVec.setWidth 32 (IntOp.cmpi CmpIPredicate.eq (BitVec.ofNat 32 x.val)
      (floor64 (IntOp.addi (Scalar.muli (Scf.iv 0#32 1#32 k.val) 256#32) (BitVec.ofNat 32 n.val)))))
      = ((if x.val = (256 * k.val + n.val) / 64 then 1 else 0 : ℝ) : EReal) := fun x => by
    refine bit_eq ?_
    rw [iv_eq, smuli_ofNat, addi_ofNat, Nat.mul_comm k.val, floor64_eq _ (by omega)]
    simp (disch := omega) only [hlo_ix]
  have e : k0_pay5 i v363 0#32 1#32 k (ix2 R n) = BitVec.ofBool (decide (Ideal.ofBits FTy.f32 1056964608#32 <
      ∑ x, v363 (ix2 R x) * FloatOps.sitofp (F := Ideal) .f32 (BitVec.setWidth 32 (IntOp.cmpi CmpIPredicate.eq (BitVec.ofNat 32 x.val)
      (floor64 (IntOp.addi (Scalar.muli (Scf.iv 0#32 1#32 k.val) 256#32) (BitVec.ofNat 32 n.val))))))) := by
    pointwise [k0_pay5]
    rfl
  rw [e, ofBool_decide_eq_one_iff]
  have hs : (∑ x : Fin 128, v363 (ix2 R x) * FloatOps.sitofp (F := Ideal) .f32 (BitVec.setWidth 32 (IntOp.cmpi CmpIPredicate.eq (BitVec.ofNat 32 x.val)
      (floor64 (IntOp.addi (Scalar.muli (Scf.iv 0#32 1#32 k.val) 256#32) (BitVec.ofNat 32 n.val))))))
      = if S ⟨(256 * k.val + n.val) / 64, by omega⟩ then (1 : EReal) else 0 := by
    rw [Finset.sum_eq_single (⟨(256 * k.val + n.val) / 64, by omega⟩ : Fin 128)]
    · rw [hx, hS, if_pos rfl]; simp
    · intro x _ hne
      rw [hx, if_neg (fun h => hne (Fin.ext h))]; simp
    · intro h; exact absurd (Finset.mem_univ _) h
  rw [hs, ofBits_half]
  by_cases h : S ⟨(256 * k.val + n.val) / 64, by omega⟩
  · rw [if_pos h]
    exact ⟨fun _ => h, fun _ => by rw [← EReal.coe_one]; exact EReal.coe_lt_coe_iff.mpr (by norm_num)⟩
  · rw [if_neg h]
    refine ⟨fun h' => absurd h' ?_, fun h' => absurd h' h⟩
    rw [← EReal.coe_zero, EReal.coe_lt_coe_iff]
    norm_num

end Cert.KernelIdeal.Block
-- ==== Proof.Loop.lean ====
module

public import proofs.«01_k».proof.Proof.Block

/-!
# The chosen keys, tile by tile, and the recent keys

The kernel goes through the keys 256 at a time with a running maximum, a running sum and running
weighted sums; after the last tile their quotient is the average over every chosen key.  The last
512 keys are read at once, within a band of 640.
-/

@[expose] public section

set_option maxRecDepth 16384

noncomputable section

namespace Cert.KernelIdeal.Block

open Cert.KernelIdeal Cert.KernelIdeal.Gen Idealize.ShloMosaic Idealize.ShloMosaic.TcCoe Idealize.SL.Sem
open Cert.Softmax Cert.Spec Idealize.ShloMosaic.WordCmp
open scoped Classical

/-! ## The keys of a tile -/

/-- A key of a tile. -/
def keyOf (k : Fin 16) (n : Fin 256) : Fin 4096 := ⟨256 * k.val + n.val, by omega⟩

theorem keyOf_injective (k : Fin 16) : Function.Injective (keyOf k) := fun a b h => Fin.ext (by
  have := congrArg Fin.val h; simp only [keyOf] at this; omega)

theorem mem_keyOf (k : Fin 16) (x : Fin 4096) (h1 : 256 * k.val ≤ x.val) (h2 : x.val < 256 * (k.val + 1)) : x ∈ Set.range (keyOf k) :=
  ⟨⟨x.val - 256 * k.val, by omega⟩, Fin.ext (by simp only [keyOf]; omega)⟩

/-- The keys seen after one more tile: those seen before it and the tile's own. -/
theorem seen_next (P : Fin 4096 → Prop) (k : Fin 16) (x : Fin 4096) :
    (P x ∧ x.val < 256 * (k.val + 1)) ↔ (P x ∧ x.val < 256 * k.val) ∨ ∃ n, keyOf k n = x ∧ P (keyOf k n) := by
  constructor
  · rintro ⟨h, h'⟩
    by_cases hx : x.val < 256 * k.val
    · exact .inl ⟨h, hx⟩
    · obtain ⟨n, rfl⟩ := mem_keyOf k x (by omega) h'
      exact .inr ⟨n, rfl, h⟩
  · rintro (⟨h, h'⟩ | ⟨n, rfl, h⟩)
    · exact ⟨h, by omega⟩
    · exact ⟨h, by simp only [keyOf]; omega⟩

/-! ## One tile -/

section Tile

variable (v11 : IVec S512x1 32) (m l : FVec Ideal S512x1 .f32) (a : FVec Ideal S512x128 .f32) (v510 : FVec Ideal S512x256 .f32)
  (v513 : IVec S1x256 32) (v548 : IVec S512x256 1) (v554 : Vec Ideal S256x128 .f32)

theorem max_apply (R : Fin 512) : k0_pay68 v11 m v510 v513 v548 (ix2 R 0)
    = max (m (ix2 R 0)) (Finset.univ.fold max (⊥ : EReal) fun n => Scalar.select (k0_pay66 v11 v513 v548 (ix2 R n)) (v510 (ix2 R n)) ⊥) := by
  pointwise [k0_pay68, k0_pay67]
  rw [ofBits_bot]
  simp only [mask_bot]

theorem term_apply (R : Fin 512) (n : Fin 256) : k0_pay69 v11 m v510 v513 v548 (ix2 R n)
    = Scalar.select (k0_pay66 v11 v513 v548 (ix2 R n))
      (Ideal.exp (Scalar.select (k0_pay66 v11 v513 v548 (ix2 R n)) (v510 (ix2 R n)) ⊥ - k0_pay68 v11 m v510 v513 v548 (ix2 R 0))) 0 := by
  pointwise [k0_pay69, k0_pay67]
  simp only [mask_bot]

theorem sum_apply (R : Fin 512) : k0_pay71 v11 m l v510 v513 v548 (ix2 R 0)
    = l (ix2 R 0) * Ideal.exp (m (ix2 R 0) - k0_pay68 v11 m v510 v513 v548 (ix2 R 0)) + ∑ n, k0_pay69 v11 m v510 v513 v548 (ix2 R n) := by
  pointwise [k0_pay71, k0_pay70]

theorem dot_apply (R : Fin 512) (d : Fin 128) : k0_pay72 v11 m a v510 v513 v548 v554 (ix2 R d)
    = a (ix2 R d) * Ideal.exp (m (ix2 R 0) - k0_pay68 v11 m v510 v513 v548 (ix2 R 0))
      + ∑ n, k0_pay69 v11 m v510 v513 v548 (ix2 R n) * v554 (ix2 n d) := by
  pointwise [k0_pay72, k0_pay70]

theorem tile (R : Fin 512) (d : Fin 128) (t : ℕ) (ht : t < 4096) (h11 : v11 (ix2 R 0) = BitVec.ofNat 32 t) (base : ℕ) (hb : base ≤ 3840)
    (h513 : ∀ n, v513 (ix2 0 n) = BitVec.ofNat 32 (base + n.val)) (C : Fin 256 → Prop) (h548 : ∀ n, v548 (ix2 R n) = 1#1 ↔ C n)
    {P P' : Fin 4096 → Prop} {s v : Fin 4096 → EReal} (e : Fin 256 → Fin 4096) (he : Function.Injective e)
    (h510 : ∀ n, v510 (ix2 R n) = s (e n)) (h554 : ∀ n, v554 (ix2 n d) = v (e n))
    (hP' : ∀ x, P' x ↔ P x ∨ ∃ n, e n = x ∧ C n ∧ base + n.val ≤ t) (hd : ∀ n, C n ∧ base + n.val ≤ t → ¬ P (e n))
    (h : State P s v (m (ix2 R 0)) (l (ix2 R 0)) (a (ix2 R d))) :
    State P' s v (k0_pay68 v11 m v510 v513 v548 (ix2 R 0)) (k0_pay71 v11 m l v510 v513 v548 (ix2 R 0))
      (k0_pay72 v11 m a v510 v513 v548 v554 (ix2 R d)) := by
  have hc : ∀ n, k0_pay66 v11 v513 v548 (ix2 R n) = 1#1 ↔ C n ∧ base + n.val ≤ t := fun n => by
    have e : k0_pay66 v11 v513 v548 (ix2 R n) = IntOp.andi (v548 (ix2 R n)) (IntOp.cmpi .sle (v513 (ix2 0 n)) (v11 (ix2 R 0))) := by
      pointwise [k0_pay66]
    rw [e]
    refine and_iff (h548 n) ?_
    rw [h513, h11]
    simp (disch := omega) only [hlo_ix]
  rw [sum_apply, dot_apply]
  simp only [term_apply, written_term _ _ hc _ _ h510, h554]
  exact h.step e he _ hP' hd _ ((max_apply ..).trans (congrArg _ (written_top _ _ hc _ _ h510)))

end Tile

/-! ## The recent keys -/

theorem band_all : ∀ q : Fin 32, Scalar.maxsi (Scalar.subi (Scalar.addi (Scalar.muli (BitVec.ofNat 32 q.val) 128#32) 128#32) 640#32) 0#32
    = BitVec.ofNat 32 (128 * q.val - 512) := by decide +kernel

theorem later_iff (a t : ℕ) (ha : a < 8192) (ht : t < 4096) :
    IntOp.cmpi .sgt (BitVec.ofNat 32 a) (IntOp.subi (BitVec.ofNat 32 t) 512#32) = 1#1 ↔ t < a + 512 := by
  rw [cmpi_sgt_eq, ofBool_decide_eq_one_iff, toInt_ofNat_of_lt (by omega)]
  have e : (IntOp.subi (BitVec.ofNat 32 t) 512#32).toInt = (t : ℤ) - 512 := by
    show (BitVec.ofNat 32 t - 512#32).toInt = _
    rw [BitVec.toInt_sub, toInt_ofNat_of_lt (by omega), show (512#32 : BitVec 32).toInt = 512 by decide, Int.bmod_eq_of_le] <;> omega
  rw [e]; omega

theorem window (q : Fin 32) (v6 : FVec Ideal S512x128 .bf16) (X : Fin 512 → Fin 128 → EReal) (h6 : ∀ R d, v6 (ix2 R d) = (X R d : EReal))
    (v11 : IVec S512x1 32) (R : Fin 512) (t : ℕ) (ht : 128 * q.val ≤ t ∧ t < 128 * q.val + 128) (h11 : v11 (ix2 R 0) = BitVec.ofNat 32 t)
    (KW VW : Fin 4096 → Fin 128 → EReal) (v406 v436 : Vec Ideal S640x128 .f32)
    (h406 : ∀ n : Fin 640, ∀ d, v406 (ix2 n d) = (KW ⟨128 * q.val - 512 + n.val, by omega⟩ d : EReal))
    (h436 : ∀ n : Fin 640, ∀ d, v436 (ix2 n d) = (VW ⟨128 * q.val - 512 + n.val, by omega⟩ d : EReal)) (d : Fin 128) :
    k0_pay83 (k0_pay81 (Scalar.muli (BitVec.ofNat 32 q.val) 128#32) v6 v11 v406)
        (k0_pay82 (Scalar.muli (BitVec.ofNat 32 q.val) 128#32) v6 v11 v406) v436 (ix2 R d)
      = (average (recent t) (score scale (X R) KW) VW d : EReal) := by
  have hq := q.isLt
  let e : Fin 640 → Fin 4096 := fun n => ⟨128 * q.val - 512 + n.val, by omega⟩
  let c : Fin 640 → BitVec 1 := fun n => IntOp.andi
    (IntOp.cmpi CmpIPredicate.sle (IntOp.addi (BitVec.ofNat 32 (128 * q.val - 512)) (BitVec.ofNat 32 n.val)) (v11 (ix2 R 0)))
    (IntOp.cmpi CmpIPredicate.sgt (IntOp.addi (BitVec.ofNat 32 (128 * q.val - 512)) (BitVec.ofNat 32 n.val)) (IntOp.subi (v11 (ix2 R 0)) 512#32))
  have hc : ∀ n, c n = 1#1 ↔ recent t (e n) := fun n => by
    refine and_iff ?_ ?_
    · rw [h11, addi_ofNat]; simp (disch := omega) only [hlo_ix]; exact Iff.rfl
    · rw [h11, addi_ofNat]; exact later_iff _ _ (by omega) (by omega)
  let s : Fin 640 → EReal := fun n => (∑ x, v6 (ix2 R x) * v406 (ix2 n x)) * Ideal.ofBits FTy.f32 1035273459#32
  have hs : ∀ n, s n = (score scale (X R) KW (e n) : EReal) := fun n => by
    show (∑ x, v6 (ix2 R x) * v406 (ix2 n x)) * _ = _
    rw [dot_eq _ _ _ _ (h6 R) (h406 n), ofBits_scale]
    rfl
  have h81 : ∀ n, k0_pay81 (Scalar.muli (BitVec.ofNat 32 q.val) 128#32) v6 v11 v406 (ix2 R n)
      = Scalar.select (c n) (Ideal.exp (Scalar.select (c n) (s n) ⊥
          - Finset.univ.fold max (⊥ : EReal) fun x => Scalar.select (c x) (s x) ⊥)) 0 := fun n => by
    pointwise [k0_pay81]
    rw [band_all, ofBits_bot]
    simp only [mask_bot]
    rfl
  have h82 : ∀ n, k0_pay82 (Scalar.muli (BitVec.ofNat 32 q.val) 128#32) v6 v11 v406 (ix2 R n)
      = max (∑ x, k0_pay81 (Scalar.muli (BitVec.ofNat 32 q.val) 128#32) v6 v11 v406 (ix2 R x)) (Ideal.ofBits .f32 0x0DA24260#32) := fun n => by
    pointwise [k0_pay82]
  have h83 : k0_pay83 (k0_pay81 (Scalar.muli (BitVec.ofNat 32 q.val) 128#32) v6 v11 v406)
        (k0_pay82 (Scalar.muli (BitVec.ofNat 32 q.val) 128#32) v6 v11 v406) v436 (ix2 R d)
      = ∑ n, Ideal.div (k0_pay81 (Scalar.muli (BitVec.ofNat 32 q.val) 128#32) v6 v11 v406 (ix2 R n))
          (k0_pay82 (Scalar.muli (BitVec.ofNat 32 q.val) 128#32) v6 v11 v406 (ix2 R n)) * v436 (ix2 n d) := by
    pointwise [k0_pay83]
  have he : Function.Injective e := fun a b h => Fin.ext (by have := congrArg Fin.val h; simp only [e] at this; omega)
  have hr : ∀ x, recent t x → x ∈ Set.range e := fun x hx =>
    ⟨⟨x.val - (128 * q.val - 512), by have := hx.1; omega⟩, Fin.ext (by have := hx.2; simp only [e]; omega)⟩
  rw [h83, dot_eq _ _ (fun n => (weight (fun n => recent t (e n)) (fun n => score scale (X R) KW (e n)) n : EReal)) (fun n => VW (e n) d) (fun n => ?_)
    (fun n => h436 n d), sum_weight]
  · exact mean_comp e he (recent t) (score scale (X R) KW) hr fun i => VW i d
  · rw [h82]
    simp only [h81]
    exact weight_eq c _ hc s _ hs _ rfl n

/-! ## The loop over the tiles -/

theorem trips_eq : ∀ i : grid0.Coords, (k0_t1_loop i).trips = ((i 2).val + 2) / 2 := by decide +kernel

theorem no_trips : ∀ i : grid0.Coords, (k0_t2_loop i).trips = 0 := by decide +kernel

end Cert.KernelIdeal.Block
-- ==== Proof.Tiles.lean ====
module

public import proofs.«01_k».proof.Proof.Loop
public import Idealize.ShloMosaic.Lib.Pipeline.ValueKit.Tiles

/-!
# The loop over the tiles, and one block of the result

The loop's state after `K` tiles is the softmax over the chosen keys before `256 · K`.  The four
stores of a grid point are the four heads, side by side.
-/

@[expose] public section

set_option maxRecDepth 16384

noncomputable section

namespace Cert.KernelIdeal.Block

open Cert.KernelIdeal Cert.KernelIdeal.Gen Idealize.ShloMosaic Idealize.ShloMosaic.TcCoe Idealize.SL.Sem
open Cert.Softmax Cert.Spec Idealize.ShloMosaic.WordCmp
open scoped Classical

theorem tile_offset (i : grid0.Coords) (k : Fin (k0_t1_loop i).trips) (hk : k.val < 16) : k0_off1 i k = ![256 * k.val, 0] := by
  have e : k0_off1 i k = ![(Scalar.muli (Scf.iv 0#32 1#32 k.val) 256#32).toNat, 0] := rfl
  rw [e, iv_eq, smuli_ofNat, toNat_ofNat_of_lt (by omega), Nat.mul_comm]

theorem band_offset : ∀ i : grid0.Coords, k0_off3 i 0 = 128 * (i 2).val - 512 ∧ k0_off3 i 1 = 0 := by decide +kernel

section Memrefs

variable {F : FTy → Type} [FloatOps F] [Named F] (𝒱 : Variants) (c : Dev nD) (bd : Option 𝒱.V) (i : grid0.Coords)
  (arg3 : Memref sig .tc .vmem S128x512 .f32) (harg3 : arg3.IsWhole) (arg4 : Memref sig .tc .vmem S1x128x12 .f32) (harg4 : arg4.IsWhole)
  (arg5 : Memref sig .tc .vmem S1x1x256x128 .f32) (harg5 : arg5.IsWhole) (arg6 : Memref sig .tc .vmem S1x1x256x128 .f32) (harg6 : arg6.IsWhole)
  (arg7 : Memref sig .tc .vmem S4096x128 .f32) (harg7 : arg7.IsWhole) (arg8 : Memref sig .tc .vmem S4096x128 .f32) (harg8 : arg8.IsWhole)
  (arg9 : Memref sig .tc .vmem S4096x128 .f32) (harg9 : arg9.IsWhole) (arg10 : Memref sig .tc .vmem S4096x128 .f32) (harg10 : arg10.IsWhole)
  (arg11 : Memref sig .tc .vmem S128x512 .f32) (harg11 : arg11.IsWhole)

/-- One trip of the loop. -/
theorem trip_eq (v0 : BitVec 32) (v6 : FVec F S512x128 .bf16) (v11 : IVec S512x1 32) (v363 : FVec F S512x128 .bf16) (v364 : FVec F S512x1 .f32)
    (v365 : FVec F S512x1 .f32) (v366 : FVec F S512x128 .f32) (v387 : BitVec 32) (x7 x8 : Vec F S4096x128 .f32)
    (acc : FVec F S512x1 .f32 × FVec F S512x1 .f32 × FVec F S512x128 .f32) (k : Fin (k0_t1_loop i).trips) :
    tripR_k0_t1 (F := F) 𝒱 c bd i arg3 harg3 arg4 harg4 arg5 harg5 arg6 harg6 arg7 harg7 arg8 harg8 arg9 harg9 arg10 harg10 arg11 harg11 v0 v6
        v11 v363 v364 v365 v366 0#32 v387 1#32 (harg7.unread x7) (harg8.unread x8) k acc
      = (k0_pay68 v11 acc.1 (k0_pay3 v6 (View.ld x7 (Rect.unit (s := S4096x128) (k0_off1 i k) S256x128.size (k0_off1_inb i k))))
            (k0_pay4 i 0#32 1#32 k) (k0_pay5 i v363 0#32 1#32 k),
          k0_pay71 v11 acc.1 acc.2.1 (k0_pay3 v6 (View.ld x7 (Rect.unit (s := S4096x128) (k0_off1 i k) S256x128.size (k0_off1_inb i k))))
            (k0_pay4 i 0#32 1#32 k) (k0_pay5 i v363 0#32 1#32 k),
          k0_pay72 v11 acc.1 acc.2.2 (k0_pay3 v6 (View.ld x7 (Rect.unit (s := S4096x128) (k0_off1 i k) S256x128.size (k0_off1_inb i k))))
            (k0_pay4 i 0#32 1#32 k) (k0_pay5 i v363 0#32 1#32 k)
            (View.ld x8 (Rect.unit (s := S4096x128) (k0_off1 i k) S256x128.size (k0_off1_inb i k)))) := by
  unfold tripR_k0_t1
  unfold trip_k0_t1
  dsimp only
  have a : View.ld x7 (Rect.unit (s := S4096x128) (k0_off1 i k) S256x128.size (k0_off1_inb i k)) = View.readAt (Elt F) arg7.view
      (Rect.unit (s := S4096x128) (k0_off1 i k) S256x128.size (k0_off1_inb i k)).toLoadRect (harg7.unread x7) := by
    rw [View.readAt_eq_ld, harg7.read_unread]
  have b : View.ld x8 (Rect.unit (s := S4096x128) (k0_off1 i k) S256x128.size (k0_off1_inb i k)) = View.readAt (Elt F) arg8.view
      (Rect.unit (s := S4096x128) (k0_off1 i k) S256x128.size (k0_off1_inb i k)).toLoadRect (harg8.unread x8) := by
    rw [View.readAt_eq_ld, harg8.read_unread]
  rw [a, b]
  rfl

end Memrefs

section Memrefs

variable (𝒱 : Variants) (c : Dev nD) (bd : Option 𝒱.V) (i : grid0.Coords)
  (arg3 : Memref sig .tc .vmem S128x512 .f32) (harg3 : arg3.IsWhole) (arg4 : Memref sig .tc .vmem S1x128x12 .f32) (harg4 : arg4.IsWhole)
  (arg5 : Memref sig .tc .vmem S1x1x256x128 .f32) (harg5 : arg5.IsWhole) (arg6 : Memref sig .tc .vmem S1x1x256x128 .f32) (harg6 : arg6.IsWhole)
  (arg7 : Memref sig .tc .vmem S4096x128 .f32) (harg7 : arg7.IsWhole) (arg8 : Memref sig .tc .vmem S4096x128 .f32) (harg8 : arg8.IsWhole)
  (arg9 : Memref sig .tc .vmem S4096x128 .f32) (harg9 : arg9.IsWhole) (arg10 : Memref sig .tc .vmem S4096x128 .f32) (harg10 : arg10.IsWhole)
  (arg11 : Memref sig .tc .vmem S128x512 .f32) (harg11 : arg11.IsWhole)

theorem inits (R : Fin 512) (d : Fin 128) : k0_pay63 (F := Ideal) (ix2 R 0) = ⊥ ∧ k0_pay64 (F := Ideal) (ix2 R 0) = 0
    ∧ k0_pay65 (F := Ideal) (ix2 R d) = 0 := by
  refine ⟨?_, ?_, ?_⟩
  · pointwise [k0_pay63]; exact mask_bot
  · pointwise [k0_pay64]
  · pointwise [k0_pay65]

/-- The state after `K` tiles. -/
theorem tiles (v0 : BitVec 32) (v6 : FVec Ideal S512x128 .bf16) (X : Fin 512 → Fin 128 → EReal) (h6 : ∀ R d, v6 (ix2 R d) = (X R d : EReal))
    (v11 : IVec S512x1 32) (t : Fin 512 → ℕ) (ht : ∀ R, t R < 4096) (h11 : ∀ R, v11 (ix2 R 0) = BitVec.ofNat 32 (t R))
    (v363 : FVec Ideal S512x128 .bf16) (S : Fin 512 → Fin 128 → Prop) (hS : ∀ R n, v363 (ix2 R n) = if S R n then (1 : EReal) else 0)
    (v364 : FVec Ideal S512x1 .f32) (v365 : FVec Ideal S512x1 .f32) (v366 : FVec Ideal S512x128 .f32) (v387 : BitVec 32)
    (x7 x8 : Vec Ideal S4096x128 .f32) (KS VS : Fin 4096 → Fin 128 → EReal) (hk : ∀ n d, x7 (ix2 n d) = (KS n d : EReal))
    (hv : ∀ n d, x8 (ix2 n d) = (VS n d : EReal)) (K : ℕ) (hK : K ≤ (k0_t1_loop i).trips) (R : Fin 512) (d : Fin 128) :
    State (fun x : Fin 4096 => (S R ⟨x.val / 64, by omega⟩ ∧ x.val ≤ t R) ∧ x.val < 256 * K) (score scale (X R) KS) (fun x => VS x d)
      ((st_k0_t1 (F := Ideal) 𝒱 c bd i arg3 harg3 arg4 harg4 arg5 harg5 arg6 harg6 arg7 harg7 arg8 harg8 arg9 harg9 arg10 harg10 arg11 harg11
          v0 v6 v11 v363 v364 v365 v366 0#32 v387 1#32 (harg7.unread x7) (harg8.unread x8) (k0_pay63, k0_pay64, k0_pay65) K).1 (ix2 R 0))
      ((st_k0_t1 (F := Ideal) 𝒱 c bd i arg3 harg3 arg4 harg4 arg5 harg5 arg6 harg6 arg7 harg7 arg8 harg8 arg9 harg9 arg10 harg10 arg11 harg11
          v0 v6 v11 v363 v364 v365 v366 0#32 v387 1#32 (harg7.unread x7) (harg8.unread x8) (k0_pay63, k0_pay64, k0_pay65) K).2.1 (ix2 R 0))
      ((st_k0_t1 (F := Ideal) 𝒱 c bd i arg3 harg3 arg4 harg4 arg5 harg5 arg6 harg6 arg7 harg7 arg8 harg8 arg9 harg9 arg10 harg10 arg11 harg11
          v0 v6 v11 v363 v364 v365 v366 0#32 v387 1#32 (harg7.unread x7) (harg8.unread x8) (k0_pay63, k0_pay64, k0_pay65) K).2.2 (ix2 R d)) := by
  induction K with
  | zero =>
    rw [st_k0_t1_zero]
    obtain ⟨a, b, e⟩ := inits R d
    dsimp only
    rw [a, b, e]
    exact State.start _ _ _ fun x h => by omega
  | succ K ih =>
    have hi : (i 2).val < 32 := (i 2).isLt
    have h16 : K < 16 := by have := trips_eq i; omega
    have ih := ih (by omega)
    let k : Fin (k0_t1_loop i).trips := ⟨K, by omega⟩
    have ho : k0_off1 i k = ![256 * K, 0] := tile_offset i k h16
    have hx7 : ∀ (n : Fin 256) (d : Fin 128), View.ld x7 (Rect.unit (s := S4096x128) (k0_off1 i k) S256x128.size (k0_off1_inb i k)) (ix2 n d)
        = (KS (keyOf ⟨K, h16⟩ n) d : EReal) := fun n d => by
      refine (View.ld_unit_apply_of x7 (k0_off1 i k) S256x128.size (k0_off1_inb i k) (ix2 n d) (ix2 (keyOf ⟨K, h16⟩ n) d) fun a => ?_).trans (hk _ _)
      refine Eq.trans ?_ (congrArg (· + ((ix2 n d : S256x128.Idx) a).val) (congrFun ho a).symm)
      match a with
      | ⟨0, _⟩ => rfl
      | ⟨1, _⟩ => show d.val = 0 + d.val; omega
    have hx8 : ∀ (n : Fin 256) (d : Fin 128), View.ld x8 (Rect.unit (s := S4096x128) (k0_off1 i k) S256x128.size (k0_off1_inb i k)) (ix2 n d)
        = (VS (keyOf ⟨K, h16⟩ n) d : EReal) := fun n d => by
      refine (View.ld_unit_apply_of x8 (k0_off1 i k) S256x128.size (k0_off1_inb i k) (ix2 n d) (ix2 (keyOf ⟨K, h16⟩ n) d) fun a => ?_).trans (hv _ _)
      refine Eq.trans ?_ (congrArg (· + ((ix2 n d : S256x128.Idx) a).val) (congrFun ho a).symm)
      match a with
      | ⟨0, _⟩ => rfl
      | ⟨1, _⟩ => show d.val = 0 + d.val; omega
    have hs : ∀ n : Fin 256, k0_pay3 v6 (View.ld x7 (Rect.unit (s := S4096x128) (k0_off1 i k) S256x128.size (k0_off1_inb i k))) (ix2 R n)
        = (score scale (X R) KS (keyOf ⟨K, h16⟩ n) : EReal) := fun n => by
      have e : k0_pay3 v6 (View.ld x7 (Rect.unit (s := S4096x128) (k0_off1 i k) S256x128.size (k0_off1_inb i k))) (ix2 R n)
          = (∑ x, v6 (ix2 R x) * View.ld x7 (Rect.unit (s := S4096x128) (k0_off1 i k) S256x128.size (k0_off1_inb i k)) (ix2 n x))
            * Ideal.ofBits .f32 0x3DB504F3#32 := by
        pointwise [k0_pay3]
      rw [e, dot_eq _ _ _ _ (h6 R) (hx7 n), ofBits_scale]
      rfl
    have h := tile v11 _ _ _ _ _ _ _ R d (t R) (ht R) (h11 R) (256 * K) (by omega) (keys i k)
      _ (fun n => spread i v363 k h16 (S R) R (hS R) n) (keyOf ⟨K, h16⟩) (keyOf_injective _) hs (fun n => hx8 n d)
      (seen_next (fun x => S R ⟨x.val / 64, by omega⟩ ∧ x.val ≤ t R) ⟨K, h16⟩) (fun n _ hp => by have := hp.2; simp only [keyOf] at this; omega) ih
    rw [st_k0_t1_succ (F := Ideal) 𝒱 c bd i arg3 harg3 arg4 harg4 arg5 harg5 arg6 harg6 arg7 harg7 arg8 harg8 arg9 harg9 arg10 harg10 arg11 harg11
      v0 v6 v11 v363 v364 v365 v366 0#32 v387 1#32 (harg7.unread x7) (harg8.unread x8) (k0_pay63, k0_pay64, k0_pay65) k, trip_eq]
    exact h

/-- After the last tile the quotient is the average over every chosen key. -/
theorem selected (v0 : BitVec 32) (v6 : FVec Ideal S512x128 .bf16) (X : Fin 512 → Fin 128 → EReal) (h6 : ∀ R d, v6 (ix2 R d) = (X R d : EReal))
    (v11 : IVec S512x1 32) (t : Fin 512 → ℕ) (ht : ∀ R, t R < 128 * (i 2).val + 128) (h11 : ∀ R, v11 (ix2 R 0) = BitVec.ofNat 32 (t R))
    (v363 : FVec Ideal S512x128 .bf16) (S : Fin 512 → Fin 128 → Prop) (hS : ∀ R n, v363 (ix2 R n) = if S R n then (1 : EReal) else 0)
    (v364 : FVec Ideal S512x1 .f32) (v365 : FVec Ideal S512x1 .f32) (v366 : FVec Ideal S512x128 .f32) (v387 : BitVec 32)
    (x7 x8 : Vec Ideal S4096x128 .f32) (KS VS : Fin 4096 → Fin 128 → EReal) (hk : ∀ n d, x7 (ix2 n d) = (KS n d : EReal))
    (hv : ∀ n d, x8 (ix2 n d) = (VS n d : EReal)) (K : ℕ) (hK : K = (k0_t1_loop i).trips) (R : Fin 512) (d : Fin 128) :
    k0_pay80 (st_k0_t1 (F := Ideal) 𝒱 c bd i arg3 harg3 arg4 harg4 arg5 harg5 arg6 harg6 arg7 harg7 arg8 harg8 arg9 harg9 arg10 harg10 arg11 harg11
          v0 v6 v11 v363 v364 v365 v366 0#32 v387 1#32 (harg7.unread x7) (harg8.unread x8) (k0_pay63, k0_pay64, k0_pay65) K).2.1
        (st_k0_t1 (F := Ideal) 𝒱 c bd i arg3 harg3 arg4 harg4 arg5 harg5 arg6 harg6 arg7 harg7 arg8 harg8 arg9 harg9 arg10 harg10 arg11 harg11
          v0 v6 v11 v363 v364 v365 v366 0#32 v387 1#32 (harg7.unread x7) (harg8.unread x8) (k0_pay63, k0_pay64, k0_pay65) K).2.2 (ix2 R d)
      = (average (fun x : Fin 4096 => S R ⟨x.val / 64, by omega⟩ ∧ x.val ≤ t R) (score scale (X R) KS) VS d : EReal) := by
  have hi : (i 2).val < 32 := (i 2).isLt
  have htr := trips_eq i
  have h := tiles 𝒱 c bd i arg3 harg3 arg4 harg4 arg5 harg5 arg6 harg6 arg7 harg7 arg8 harg8 arg9 harg9 arg10 harg10 arg11 harg11
    v0 v6 X h6 v11 t (fun R => by have := ht R; omega) h11 v363 S hS v364 v365 v366 v387 x7 x8 KS VS hk hv K hK.le R d
  have e : ∀ (l : FVec Ideal S512x1 .f32) (a : FVec Ideal S512x128 .f32),
      k0_pay80 l a (ix2 R d) = Ideal.div (a (ix2 R d)) (max (l (ix2 R 0)) (Ideal.ofBits .f32 0x0DA24260#32)) := fun l a => by
    pointwise [k0_pay80]
  have hp : (fun x : Fin 4096 => (S R ⟨x.val / 64, by omega⟩ ∧ x.val ≤ t R) ∧ x.val < 256 * K)
      = fun x : Fin 4096 => S R ⟨x.val / 64, by omega⟩ ∧ x.val ≤ t R :=
    funext fun x => propext ⟨fun h => h.1, fun h => ⟨h, by have := ht R; have := h.2; omega⟩⟩
  rw [e, h.quotient]
  unfold average
  rw [hp]

end Memrefs

end Cert.KernelIdeal.Block
-- ==== Proof.Result.lean ====
module

public import proofs.«01_k».proof.Proof.Tiles

/-!
# One block of the result

At a grid point the four stores are the four heads' attention, side by side.
-/

@[expose] public section

set_option maxRecDepth 16384

noncomputable section

namespace Cert.KernelIdeal.Block

open Cert.KernelIdeal Cert.KernelIdeal.Gen Idealize.ShloMosaic Idealize.ShloMosaic.TcCoe Idealize.SL.Sem
open Cert.Softmax Cert.Spec Idealize.ShloMosaic.WordCmp
open scoped Classical

theorem column_lt (g : Fin 4) (d : Fin 128) : 128 * g.val + d.val < 512 := by omega

theorem stack_eta (R : Fin 512) : stack (headOf R) (rowOf R) = R := Fin.ext (by simp only [headOf, rowOf, stack]; omega)

/-! ## The gates and the four stores -/

section Gates

variable (x1 : Vec Ideal S1x128x12 .f32) (Γ : Fin 128 → Fin 12 → EReal) (h1 : ∀ r j, x1 (ix3 0 r j) = (Γ r j : EReal))
include h1

theorem gates (r : Fin 128) (j : Fin 12) : k0_pay84 x1 (ix2 r j) = (gate (Γ r j) : EReal) := by
  have e : k0_pay84 x1 (ix2 r j) = Ideal.logistic (x1 (ix3 0 r j)) := by
    pointwise [k0_pay84]
  rw [e, h1]
  rfl

variable (a b : FVec Ideal S512x128 .f32) (A B W : Fin 512 → Fin 128 → EReal) (ha : ∀ R d, a (ix2 R d) = (A R d : EReal))
  (hb : ∀ R d, b (ix2 R d) = (B R d : EReal))

/-- The three averages of a head, with its gates. -/
def mixed (g : Fin 4) (r : Fin 128) (d : Fin 128) : EReal :=
  gate (Γ r ⟨3 * g.val, by omega⟩) * A (stack g r) d + gate (Γ r ⟨3 * g.val + 1, by omega⟩) * B (stack g r) d
    + gate (Γ r ⟨3 * g.val + 2, by omega⟩) * W (stack g r) d

include ha hb

theorem first_head (p q : FVec Ideal S512x640 .f32) (v : Vec Ideal S640x128 .f32) (hw : ∀ R d, k0_pay83 p q v (ix2 R d) = (W R d : EReal))
    (r d : Fin 128) : k0_pay85 a b p q v x1 (ix2 r d) = (mixed Γ A B W 0 r d : EReal) := by
  have e : k0_pay85 a b p q v x1 (ix2 r d)
      = k0_pay84 x1 (ix2 r 0) * a (ix2 (stack 0 r) d) + k0_pay84 x1 (ix2 r 1) * b (ix2 (stack 0 r) d)
        + k0_pay84 x1 (ix2 r 2) * k0_pay83 p q v (ix2 (stack 0 r) d) := by
    rw [show stack 0 r = ⟨r.val, by omega⟩ from Fin.ext (by show 128 * 0 + r.val = r.val; omega)]
    pointwise [k0_pay85]
  rw [e, ha, hb, hw, gates x1 Γ h1, gates x1 Γ h1, gates x1 Γ h1]
  rfl

theorem second_head (p q : FVec Ideal S512x640 .f32) (v : Vec Ideal S640x128 .f32) (hw : ∀ R d, k0_pay83 p q v (ix2 R d) = (W R d : EReal))
    (r d : Fin 128) : k0_pay86 a b p q v x1 (ix2 r d) = (mixed Γ A B W 1 r d : EReal) := by
  have e : k0_pay86 a b p q v x1 (ix2 r d)
      = k0_pay84 x1 (ix2 r 3) * a (ix2 (stack 1 r) d) + k0_pay84 x1 (ix2 r 4) * b (ix2 (stack 1 r) d)
        + k0_pay84 x1 (ix2 r 5) * k0_pay83 p q v (ix2 (stack 1 r) d) := by
    pointwise [k0_pay86]
    rfl
  rw [e, ha, hb, hw, gates x1 Γ h1, gates x1 Γ h1, gates x1 Γ h1]
  rfl

theorem third_head (w : FVec Ideal S512x128 .f32) (hw : ∀ R d, w (ix2 R d) = (W R d : EReal)) (r d : Fin 128) :
    k0_pay1 w (k0_pay87 a b x1) (k0_pay88 x1) (ix2 r d) = (mixed Γ A B W 2 r d : EReal) := by
  have e : k0_pay1 w (k0_pay87 a b x1) (k0_pay88 x1) (ix2 r d)
      = k0_pay84 x1 (ix2 r 6) * a (ix2 (stack 2 r) d) + k0_pay84 x1 (ix2 r 7) * b (ix2 (stack 2 r) d)
        + k0_pay84 x1 (ix2 r 8) * w (ix2 (stack 2 r) d) := by
    pointwise [k0_pay1, k0_pay87, k0_pay88]
    rfl
  rw [e, ha, hb, hw, gates x1 Γ h1, gates x1 Γ h1, gates x1 Γ h1]
  rfl

theorem fourth_head (w : FVec Ideal S512x128 .f32) (hw : ∀ R d, w (ix2 R d) = (W R d : EReal)) (r d : Fin 128) :
    k0_pay2 a b w (k0_pay84 x1) (ix2 r d) = (mixed Γ A B W 3 r d : EReal) := by
  have e : k0_pay2 a b w (k0_pay84 x1) (ix2 r d)
      = k0_pay84 x1 (ix2 r 9) * a (ix2 (stack 3 r) d) + k0_pay84 x1 (ix2 r 10) * b (ix2 (stack 3 r) d)
        + k0_pay84 x1 (ix2 r 11) * w (ix2 (stack 3 r) d) := by
    pointwise [k0_pay2]
    rfl
  rw [e, ha, hb, hw, gates x1 Γ h1, gates x1 Γ h1, gates x1 Γ h1]
  rfl

end Gates

/-! ## The parts of a grid point -/

theorem row_position (i : grid0.Coords) (R : Fin 512) : k0_pay10 i (ix2 R 0) = BitVec.ofNat 32 (128 * (i 2).val + (rowOf R).val) := by
  pointwise [k0_pay10]
  rw [and127_all]
  simp only [smuli_ofNat, addi_ofNat, Nat.mul_comm]
  rfl

theorem position (i : grid0.Coords) (r : Fin 128) : k0_pay11 i (ix2 r 0) = BitVec.ofNat 32 (128 * (i 2).val + r.val) := by
  pointwise [k0_pay11]
  simp only [smuli_ofNat, addi_ofNat, Nat.mul_comm]

theorem row_number (n : Fin 256) (j : Fin 128) : kernelRun0_A.sl.v64 (ix2 n j) = BitVec.ofNat 32 n.val := by
  pointwise [kernelRun0_A.sl.v64]

section Point

variable (c : Dev nD) (i : grid0.Coords)
  (arg3 : Memref sig .tc .vmem S128x512 .f32) (harg3 : arg3.IsWhole) (arg4 : Memref sig .tc .vmem S1x128x12 .f32) (harg4 : arg4.IsWhole)
  (arg5 : Memref sig .tc .vmem S1x1x256x128 .f32) (harg5 : arg5.IsWhole) (arg6 : Memref sig .tc .vmem S1x1x256x128 .f32) (harg6 : arg6.IsWhole)
  (arg7 : Memref sig .tc .vmem S4096x128 .f32) (harg7 : arg7.IsWhole) (arg8 : Memref sig .tc .vmem S4096x128 .f32) (harg8 : arg8.IsWhole)
  (arg9 : Memref sig .tc .vmem S4096x128 .f32) (harg9 : arg9.IsWhole) (arg10 : Memref sig .tc .vmem S4096x128 .f32) (harg10 : arg10.IsWhole)
  (arg11 : Memref sig .tc .vmem S128x512 .f32) (harg11 : arg11.IsWhole)
  (x0 : Vec Ideal S128x512 .f32) (x1 : Vec Ideal S1x128x12 .f32) (x2 x3 : Vec Ideal S1x1x256x128 .f32)
  (x4 x5 x6 x7 : Vec Ideal S4096x128 .f32)
  (Q : Fin 128 → Fin 4 → Fin 128 → EReal) (Γ : Fin 128 → Fin 12 → EReal) (CK CV : Fin 256 → Fin 128 → EReal) (KS VS KW VW : Fin 4096 → Fin 128 → EReal)
  (h0 : ∀ r (g : Fin 4) (d : Fin 128), x0 (ix2 r ⟨128 * g.val + d.val, column_lt g d⟩) = (Q r g d : EReal))
  (h1 : ∀ r j, x1 (ix3 0 r j) = (Γ r j : EReal)) (h2 : ∀ n d, x2 (ix4 0 0 n d) = (CK n d : EReal))
  (h3 : ∀ n d, x3 (ix4 0 0 n d) = (CV n d : EReal)) (h4 : ∀ n d, x4 (ix2 n d) = (KS n d : EReal)) (h5 : ∀ n d, x5 (ix2 n d) = (VS n d : EReal))
  (h6 : ∀ n d, x6 (ix2 n d) = (KW n d : EReal)) (h7 : ∀ n d, x7 (ix2 n d) = (VW n d : EReal))

/-- The position of a row. -/
def at_ (R : Fin 512) : ℕ := 128 * (i 2).val + (rowOf R).val

theorem at_lt (R : Fin 512) : at_ i R < 128 * (i 2).val + 128 := by have := (rowOf R).isLt; unfold at_; omega

theorem at_lt_all (R : Fin 512) : at_ i R < 4096 := by
  have := (rowOf R).isLt
  have h : (i 2).val < 32 := (i 2).isLt
  unfold at_; omega

/-- The query of a row. -/
def query (R : Fin 512) : Fin 128 → EReal := Q (rowOf R) (headOf R)

theorem off4 : (![0, 0, 0, 0] : Fin 4 → Nat) = fun _ => 0 := funext fun a => by fin_cases a <;> rfl
theorem off3 : (![0, 0, 0] : Fin 3 → Nat) = fun _ => 0 := funext fun a => by fin_cases a <;> rfl

include h0 in
/-- A quarter of the queries' columns. -/
theorem quarter (g : Fin 4) (inb) (r d : Fin 128) :
    View.readAt (Elt Ideal) arg3.view (Rect.unit (s := S128x512) ![0, 128 * g.val] S128x128.size inb).toLoadRect (harg3.unread x0) (ix2 r d)
      = (Q r g d : EReal) := by
  rw [View.readAt_eq_ld, harg3.read_unread]
  refine (View.ld_unit_apply_of x0 _ _ inb (ix2 r d) (ix2 r ⟨128 * g.val + d.val, by omega⟩) fun a => ?_).trans (h0 r g d)
  match a with
  | ⟨0, _⟩ => show r.val = 0 + r.val; omega
  | ⟨1, _⟩ => rfl

include h0 in
theorem queries (R : Fin 512) (d : Fin 128) : kernelRun0_A.sl.r c arg3 harg3 x0 (ix2 R d) = (query Q R d : EReal) :=
  rows _ _ _ _ Q (quarter arg3 harg3 x0 Q h0 0 _) (quarter arg3 harg3 x0 Q h0 1 _) (quarter arg3 harg3 x0 Q h0 2 _)
    (quarter arg3 harg3 x0 Q h0 3 _) R d

include h2 in
theorem block_keys (n : Fin 256) (d : Fin 128) :
    View.readAt (Elt Ideal) arg5.view (Rect.unit ![0, 0, 0, 0] S1x1x256x128.size inb_S1x1x256x128_S1x1x256x128_0_0_0_0).toLoadRect (harg5.unread x2)
      (ix4 0 0 n d) = (CK n d : EReal) := by
  rw [View.readAt_eq_ld, harg5.read_unread, View.ld_unit_zero (S := S1x1x256x128) off4]
  exact h2 n d

include h0 h2 in
theorem point_scores (R : Fin 512) (n : Fin 256) :
    kernelRun0_A.sl.r_1 c arg3 harg3 arg5 harg5 x0 x2 (ix2 R n) = (score scale (query Q R) CK n : EReal) :=
  scores (query Q) CK _ _ _ _ (queries c arg3 harg3 x0 Q h0) _ (block_keys arg5 harg5 x2 CK h2) R n

include h0 h2 h3 in
theorem point_compressed (R : Fin 512) (d : Fin 128) :
    kernelRun0_A.sl.r_2 c i arg3 harg3 arg5 harg5 arg6 harg6 x0 x2 x3 (ix2 R d)
      = (average (reach (at_ i R)) (score scale (query Q R) CK) CV d : EReal) :=
  compressed (query Q) CK CV (at_ i) _ (point_scores c arg3 harg3 arg5 harg5 x0 x2 Q CK h0 h2) _ (mask i) _
    (block_keys arg6 harg6 x3 CV h3) R d

include h0 h2 in
theorem point_masses (r : Fin 128) (j : Fin 64) (j' : Fin 128) (hj : j'.val = j.val) :
    kernelRun0_A.sl.r_4 c i arg3 harg3 arg5 harg5 x0 x2 (ix2 r j') = (mass scale (128 * (i 2).val + r.val) (Q r) CK j : EReal) := by
  refine (masses _ _ (summed (query Q) CK (at_ i) _ (point_scores c arg3 harg3 arg5 harg5 x0 x2 Q CK h0 h2) _ (mask i)) _ row_number r j j' hj).trans ?_
  unfold mass at_ query
  simp only [rowOf_stack, headOf_stack]

include h0 h2 in
/-- The marks of the chosen blocks. -/
theorem point_marks (R : Fin 512) (n : Fin 128) :
    kernelRun0_A.sl.r_23 c i arg3 harg3 arg5 harg5 x0 x2 (ix2 R n)
      = if ∃ j : Fin 16, (block (at_ i R) (mass scale (at_ i R) (Q (rowOf R)) CK) j).val = n.val then (1 : EReal) else 0 := by
  have e : kernelRun0_A.sl.r_23 c i arg3 harg3 arg5 harg5 x0 x2
      = Selection.chosen Selection.lanes (initial (k0_pay11 i) (kernelRun0_A.sl.r_4 c i arg3 harg3 arg5 harg5 x0 x2)) :=
    Selection.chain Selection.lanes (kernelRun0_A.sl.r_4 c i arg3 harg3 arg5 harg5 x0 x2) (k0_pay21 (k0_pay11 i)) (k0_pay22 (k0_pay11 i))
      (k0_pay23 (k0_pay11 i)) (kernelRun0_A.sl.r_8 c i arg3 harg3 arg5 harg5 x0 x2) (kernelRun0_A.sl.r_9 c i arg3 harg3 arg5 harg5 x0 x2)
      (kernelRun0_A.sl.r_11 c i arg3 harg3 arg5 harg5 x0 x2) (kernelRun0_A.sl.r_12 c i arg3 harg3 arg5 harg5 x0 x2)
      (kernelRun0_A.sl.r_14 c i arg3 harg3 arg5 harg5 x0 x2) (kernelRun0_A.sl.r_15 c i arg3 harg3 arg5 harg5 x0 x2)
      (kernelRun0_A.sl.r_17 c i arg3 harg3 arg5 harg5 x0 x2) (kernelRun0_A.sl.r_18 c i arg3 harg3 arg5 harg5 x0 x2)
      (kernelRun0_A.sl.r_20 c i arg3 harg3 arg5 harg5 x0 x2) (kernelRun0_A.sl.r_22 c i arg3 harg3 arg5 harg5 x0 x2)
      (kernelRun0_A.sl.r_10 c i arg3 harg3 arg5 harg5 x0 x2) (kernelRun0_A.sl.r_19 c i arg3 harg3 arg5 harg5 x0 x2)
      (kernelRun0_A.sl.r_21 c i arg3 harg3 arg5 harg5 x0 x2) (kernelRun0_A.sl.r_13 c i arg3 harg3 arg5 harg5 x0 x2)
      (kernelRun0_A.sl.r_16 c i arg3 harg3 arg5 harg5 x0 x2)
      rfl rfl rfl rfl rfl rfl rfl rfl rfl rfl rfl rfl rfl rfl rfl
  rw [e]
  have hi : (i 2).val < 32 := (i 2).isLt
  have h := marked (fun r => 128 * (i 2).val + r.val) (fun r => by omega) (k0_pay11 i) (position i)
    (fun r => mass scale (128 * (i 2).val + r.val) (Q r) CK) _ (point_masses c i arg3 harg3 arg5 harg5 x0 x2 Q CK h0 h2)
    (fun r j => mass_nonneg _ _ _ _ _) (headOf R) (rowOf R) n
  rw [stack_eta] at h
  exact h

include h0 h2 h4 h5 in
theorem point_selected (R : Fin 512) (d : Fin 128) :
    kernelRun0_A.sl.r_24 c i arg3 harg3 arg4 harg4 arg5 harg5 arg6 harg6 arg7 harg7 arg8 harg8 arg9 harg9 arg10 harg10 arg11 harg11 x0 x2 x4 x5
        (ix2 R d)
      = (average (near (at_ i R) (mass scale (at_ i R) (Q (rowOf R)) CK)) (score scale (query Q R) KS) VS d : EReal) := by
  unfold kernelRun0_A.sl.r_24
  rw [show Scf.trips (k0_t2_loop i).lb (k0_t2_loop i).ub (k0_t2_loop i).st = 0 from no_trips i, st_k0_t2_zero]
  exact selected Variants.none c none i arg3 harg3 arg4 harg4 arg5 harg5 arg6 harg6 arg7 harg7 arg8 harg8 arg9 harg9 arg10 harg10 arg11 harg11
    _ _ (query Q) (queries c arg3 harg3 x0 Q h0) _ (at_ i) (at_lt i) (row_position i) _
    (fun R n => ∃ j : Fin 16, (block (at_ i R) (mass scale (at_ i R) (Q (rowOf R)) CK) j).val = n.val)
    (fun R n => (point_marks c i arg3 harg3 arg5 harg5 x0 x2 Q CK h0 h2 R n).trans (by congr)) _ _ _ _ x4 x5 KS VS h4 h5 _ rfl R d

include h6 in
/-- The band of keys the window reads. -/
theorem band (n : Fin 640) (d : Fin 128) :
    View.readAt (Elt Ideal) arg9.view (Rect.unit (s := S4096x128) (k0_off3 i) S640x128.size (k0_off3_inb i)).toLoadRect (harg9.unread x6) (ix2 n d)
      = (KW ⟨128 * (i 2).val - 512 + n.val, by have : (i 2).val < 32 := (i 2).isLt; omega⟩ d : EReal) := by
  have hi : (i 2).val < 32 := (i 2).isLt
  rw [View.readAt_eq_ld, harg9.read_unread]
  refine (View.ld_unit_apply_of x6 (k0_off3 i) S640x128.size (k0_off3_inb i) (ix2 n d)
    (ix2 ⟨128 * (i 2).val - 512 + n.val, by omega⟩ d) fun a => ?_).trans (h6 _ d)
  obtain ⟨b0, b1⟩ := band_offset i
  match a with
  | ⟨0, _⟩ => exact congrArg (· + n.val) b0.symm
  | ⟨1, _⟩ => exact (Nat.zero_add _).symm.trans (congrArg (· + d.val) b1.symm)

include h0 h6 h7 in
theorem point_window (R : Fin 512) (d : Fin 128) :
    kernelRun0_A.sl.r_27 c i arg3 harg3 arg9 harg9 arg10 harg10 x0 x6 x7 (ix2 R d)
      = (average (recent (at_ i R)) (score scale (query Q R) KW) VW d : EReal) :=
  window (i 2) _ (query Q) (queries c arg3 harg3 x0 Q h0) _ R (at_ i R) ⟨by unfold at_; omega, at_lt i R⟩ (row_position i R) KW VW _ _
    (band i arg9 harg9 x6 KW h6) (band i arg10 harg10 x7 VW h7) d

include h1 in
theorem gates_read (r : Fin 128) (j : Fin 12) :
    View.readAt (Elt Ideal) arg4.view (Rect.unit ![0, 0, 0] S1x128x12.size inb_S1x128x12_S1x128x12_0_0_0).toLoadRect (harg4.unread x1) (ix3 0 r j)
      = (Γ r j : EReal) := by
  rw [View.readAt_eq_ld, harg4.read_unread, View.ld_unit_zero (S := S1x128x12) off3]
  exact h1 r j

include h0 h1 h2 h3 h4 h5 h6 h7 in
/-- The block of a grid point. -/
theorem block_apply (r : Fin 128) (g : Fin 4) (d : Fin 128) :
    out0_A_8 c i arg3 harg3 arg4 harg4 arg5 harg5 arg6 harg6 arg7 harg7 arg8 harg8 arg9 harg9 arg10 harg10 arg11 harg11 x0 x1 x2 x3 x4 x5 x6 x7
        (ix2 r ⟨128 * g.val + d.val, column_lt g d⟩)
      = (attend scale (128 * (i 2).val + r.val) (Q r) (Γ r) CK CV KS VS KW VW g d : EReal) := by
  let A : Fin 512 → Fin 128 → EReal := fun R => average (reach (at_ i R)) (score scale (query Q R) CK) CV
  let B : Fin 512 → Fin 128 → EReal := fun R => average (near (at_ i R) (mass scale (at_ i R) (Q (rowOf R)) CK)) (score scale (query Q R) KS) VS
  let W : Fin 512 → Fin 128 → EReal := fun R => average (recent (at_ i R)) (score scale (query Q R) KW) VW
  have hA := point_compressed c i arg3 harg3 arg5 harg5 arg6 harg6 x0 x2 x3 Q CK CV h0 h2 h3
  have hB := point_selected c i arg3 harg3 arg4 harg4 arg5 harg5 arg6 harg6 arg7 harg7 arg8 harg8 arg9 harg9 arg10 harg10 arg11 harg11 x0 x2 x4 x5
    Q CK KS VS h0 h2 h4 h5
  have hW := point_window c i arg3 harg3 arg9 harg9 arg10 harg10 x0 x6 x7 Q KW VW h0 h6 h7
  have hG := gates_read arg4 harg4 x1 Γ h1
  have hm : ∀ g r d, mixed Γ A B W g r d = attend scale (128 * (i 2).val + r.val) (Q r) (Γ r) CK CV KS VS KW VW g d := fun g r d => by
    unfold mixed attend
    simp only [A, B, W, at_, query, rowOf_stack, headOf_stack]
  have hcov := cover0_A_8 c i arg3 harg3 arg4 harg4 arg5 harg5 arg6 harg6 arg7 harg7 arg8 harg8 arg9 harg9 arg10 harg10 arg11 harg11
    x0 x1 x2 x3 x4 x5 x6 x7
  unfold out0_A_8
  rw [View.read_writes_eq_canon _ _ _ hcov]
  let G : S128x512.Idx → EReal := fun y => (mixed Γ A B W ⟨(y 1).val / 128, by have : (y 1).val < 512 := (y 1).isLt; omega⟩ (y 0)
    ⟨(y 1).val % 128, by omega⟩ : EReal)
  have hGm : ∀ (g : Fin 4) (r d : Fin 128) (y : S128x512.Idx), (y 0).val = r.val → (y 1).val = 128 * g.val + d.val →
      G y = (mixed Γ A B W g r d : EReal) := fun g r d y e0 e1 => by
    show (mixed Γ A B W _ _ _ : EReal) = _
    have a1 : (⟨(y 1).val / 128, by have : (y 1).val < 512 := (y 1).isLt; omega⟩ : Fin 4) = g := Fin.ext (by show (y 1).val / 128 = g.val; omega)
    have a2 : (⟨(y 1).val % 128, by omega⟩ : Fin 128) = d := Fin.ext (by show (y 1).val % 128 = d.val; omega)
    have a3 : y 0 = r := Fin.ext e0
    rw [a1, a2, a3]
  refine (View.canon_apply_of_pieces (Val := Elt Ideal) G _ ?_ _ (hcov _)).trans ((hGm g r d _ rfl rfl).trans (by rw [hm]))
  unfold kernelRun0_A
  dsimp only
  intro p hp
  simp only [List.mem_cons, List.not_mem_nil, or_false] at hp
  have hx : ∀ x : S128x128.Idx, ∃ r d : Fin 128, x = ix2 r d := fun x => ⟨x 0, x 1, (ix2_eta x).symm⟩
  rcases hp with rfl | rfl | rfl | rfl <;> intro x <;> obtain ⟨r, d, rfl⟩ := hx x
  · refine Eq.trans ?_ (hGm 3 r d _ (by show 0 + 1 * r.val = r.val; omega) (by show 384 + 1 * d.val = _; omega)).symm
    have h := fourth_head _ Γ hG _ _ A B W hA hB _ hW r d
    exact h
  · refine Eq.trans ?_ (hGm 2 r d _ (by show 0 + 1 * r.val = r.val; omega) (by show 256 + 1 * d.val = _; omega)).symm
    have h := third_head _ Γ hG _ _ A B W hA hB _ hW r d
    exact h
  · refine Eq.trans ?_ (hGm 1 r d _ (by show 0 + 1 * r.val = r.val; omega) (by show 128 + 1 * d.val = _; omega)).symm
    have h := second_head _ Γ hG _ _ A B W hA hB _ _ _ hW r d
    exact h
  · refine Eq.trans ?_ (hGm 0 r d _ (by show 0 + 1 * r.val = r.val; omega) (by show 0 + 1 * d.val = _; omega)).symm
    have h := first_head _ Γ hG _ _ A B W hA hB _ _ _ hW r d
    exact h

end Point

end Cert.KernelIdeal.Block
-- ==== Proof.RefCompressed.lean ====
module

public import proofs.«01_k».proof.Proof.Gen.ReferenceIdeal.Read
public import proofs.«01_k».proof.Proof.Loop

/-!
# The reference's compressed branch
-/

@[expose] public section

set_option maxRecDepth 16384

noncomputable section

namespace Cert.ReferenceIdeal.Reading

open Cert.ReferenceIdeal Cert.ReferenceIdeal.Gen Cert.ReferenceIdeal.Read Idealize.ShloMosaic Idealize.ShloMosaic.TcCoe
open Cert.Softmax Cert.Spec Idealize.ShloMosaic.WordCmp
open Cert.KernelIdeal.Block (and_iff or_iff)
open scoped Classical

/-- The entries of the eight arguments, by batch, position, key head, head and component. -/
structure Arrays where
  q : Fin 4 → Fin 4096 → Fin 2 → Fin 4 → Fin 128 → EReal
  γ : Fin 4 → Fin 4096 → Fin 2 → Fin 12 → EReal
  ck : Fin 4 → Fin 2 → Fin 256 → Fin 128 → EReal
  cv : Fin 4 → Fin 2 → Fin 256 → Fin 128 → EReal
  ks : Fin 4 → Fin 2 → Fin 4096 → Fin 128 → EReal
  vs : Fin 4 → Fin 2 → Fin 4096 → Fin 128 → EReal
  kw : Fin 4 → Fin 2 → Fin 4096 → Fin 128 → EReal
  vw : Fin 4 → Fin 2 → Fin 4096 → Fin 128 → EReal

variable (x0 : (⟨S16384x1024, .f32⟩ : BufTy).Contents (Elt Ideal)) (x2 x3 : (⟨S4x2x256x128, .f32⟩ : BufTy).Contents (Elt Ideal))
  (A : Arrays)

/-- The compressed keys in use. -/
def used {α : Type} (k : Fin 256 → α) (n : Fin 255) : α := k (n.castLE (by norm_num))

/-- The queries hold `A.q`. -/
def Queries : Prop := ∀ i : S4x4096x2x4x128.Idx, val_main_v0 (F := Ideal) x0 i = (A.q (i 0) (i 1) (i 2) (i 3) (i 4) : EReal)
/-- So do the compressed keys. -/
def Compressed : Prop := ∀ i : S4x2x255x128.Idx,
  val_main_v9 (F := Ideal) x2 i = (used (A.ck (i 0) (i 1)) (i 2) (i 3) : EReal)
/-- So do the compressed values. -/
def CompressedValues : Prop := ∀ i : S4x2x255x128.Idx,
  val_main_v10 (F := Ideal) x3 i = (used (A.cv (i 0) (i 1)) (i 2) (i 3) : EReal)

def reached (t : ℕ) (n : Fin 255) : Prop := 16 * n.val + 31 ≤ t

theorem reached_iff (t : ℕ) (n : Fin 255) : reached t n ↔ reach t (n.castLE (by norm_num)) :=
  ⟨fun h => ⟨h, n.isLt⟩, fun h => h.1⟩

theorem bit (j : S4096x255.Idx) : val_main_v27 (F := Ideal) j = 1#1 ↔ reached (j 0).val (j 1) := by
  have h0 : (j 0).val < 4096 := (j 0).isLt
  have h1 : (j 1).val < 255 := (j 1).isLt
  rw [val_main_v27_apply, val_main_v25_apply, val_main_v23_apply, val_main_v18_apply, val_main_v16_apply, val_main_v14_apply,
    val_main_v15_apply, val_main_c_apply, val_main_v17_apply, val_main_c_1_apply, val_main_v26_apply, val_main_v24_apply,
    val_main_v13_apply]
  show IntOp.cmpi .sle (IntOp.addi (IntOp.muli (BitVec.ofNat 32 (j 1).val) (BitVec.ofNat 32 16)) (BitVec.ofNat 32 31)) (BitVec.ofNat 32 (j 0).val) = 1#1 ↔ _
  rw [muli_ofNat, addi_ofNat, cmpi_sle_ofNat_eq_one_iff (by omega) (by omega)]
  show _ ↔ 16 * (j 1).val + 31 ≤ (j 0).val
  omega

theorem scored (h0 : Queries x0 A) (h2 : Compressed x2 A) (i : S4x2x4x4096x255.Idx) :
    val_main_v22 (F := Ideal) x0 x2 i
      = (score scale (A.q (i 0) (i 3) (i 1) (i 2)) (used (A.ck (i 0) (i 1))) (i 4 : Fin 255) : EReal) := by
  rw [val_main_v22_apply, val_main_v20_apply, val_main_v19_apply, val_main_v21_apply, val_main_cst_2_apply]
  show (∑ k : Fin 128, _) * Ideal.ofBits .f32 0x3DB504F3#32 = _
  rw [ofBits_scale, dot_eq _ _ _ _ (fun d => h2 _) (fun d => h0 _)]
  exact congrArg (· * (scale : EReal)) (Finset.sum_congr rfl fun d _ => mul_comm _ _)

theorem highest (j : S4x2x4x4096.Idx) :
    val_main_v29 (F := Ideal) x0 x2 j
      = Finset.univ.fold max (⊥ : EReal) fun n : Fin 255 => val_main_v28 (F := Ideal) x0 x2 (idx_main_v35 j n) := by
  unfold val_main_v29
  rw [Host.reduce_eq_fold_single FloatOps.maximumf _ _ reducesTo_S4x2x4x4096x255_S4x2x4x4096_d4 (by decide) h_S_,
    show val_main_cst_4 (F := Ideal) (Shape.Idx.first h_S_) = (⊥ : EReal) from ofBits_bot]
  generalize val_main_v28 (F := Ideal) x0 x2 = y
  refine congrArg (fun f => Finset.univ.fold max (⊥ : EReal) f) (funext fun n => congrArg y (funext fun a => Fin.ext ?_))
  match a with
  | ⟨0, _⟩ => rfl
  | ⟨1, _⟩ => rfl
  | ⟨2, _⟩ => rfl
  | ⟨3, _⟩ => rfl
  | ⟨4, _⟩ => rfl

theorem row30 (j : S4x2x4x4096.Idx) (n : Fin 255) : idx_main_v30 (idx_main_v31 (idx_main_v35 j n)) = j := funext fun a => by
  match a with
  | ⟨0, _⟩ => rfl
  | ⟨1, _⟩ => rfl
  | ⟨2, _⟩ => rfl
  | ⟨3, _⟩ => rfl

theorem row36 (j : S4x2x4x4096.Idx) (n : Fin 255) : idx_main_v36 (idx_main_v39 (idx_main_v35 j n)) = j := funext fun a => by
  match a with
  | ⟨0, _⟩ => rfl
  | ⟨1, _⟩ => rfl
  | ⟨2, _⟩ => rfl
  | ⟨3, _⟩ => rfl

theorem weighed_row (h0 : Queries x0 A) (h2 : Compressed x2 A) (j : S4x2x4x4096.Idx) (n : Fin 255) :
    val_main_v40 (F := Ideal) x0 x2 (idx_main_v35 j n)
      = (weight (reached (j 3).val) (score scale (A.q (j 0) (j 3) (j 1) (j 2)) (used (A.ck (j 0) (j 1)))) n : EReal) := by
  let c : Fin 255 → BitVec 1 := fun n => val_main_v27 (F := Ideal) (idx_main_call0_v1 (idx_main_v35 j n))
  let s : Fin 255 → EReal := fun n => val_main_v22 (F := Ideal) x0 x2 (idx_main_v35 j n)
  have hc : ∀ n, c n = 1#1 ↔ reached (j 3).val n := fun n => bit _
  have hs : ∀ n, s n = (score scale (A.q (j 0) (j 3) (j 1) (j 2)) (used (A.ck (j 0) (j 1))) n : EReal) := fun n => scored x0 x2 A h0 h2 _
  have h28 : ∀ n, val_main_v28 (F := Ideal) x0 x2 (idx_main_v35 j n) = Scalar.select (c n) (s n) ⊥ := fun n => by
    rw [val_main_v28_apply, val_main_call0_v1_apply, val_main_call0_v2_apply, val_main_call0_v0_apply, val_main_cst_3_apply]
    exact congrArg (Scalar.select (c n) (s n)) ofBits_bot
  have hM : val_main_v29 (F := Ideal) x0 x2 j = Finset.univ.fold max (⊥ : EReal) fun n => Scalar.select (c n) (s n) ⊥ :=
    (highest x0 x2 j).trans (congrArg (fun f => Finset.univ.fold max (⊥ : EReal) f) (funext h28))
  have h34 : ∀ n, val_main_v34 (F := Ideal) x0 x2 (idx_main_v35 j n)
      = Scalar.select (c n) (Ideal.exp (Scalar.select (c n) (s n) ⊥ - val_main_v29 (F := Ideal) x0 x2 j)) 0 := fun n => by
    rw [val_main_v34_apply, val_main_v33_apply, val_main_v32_apply, val_main_v31_apply, val_main_v30_apply, row30, h28,
      val_main_call1_v1_apply, val_main_call1_v2_apply, val_main_call1_v0_apply, val_main_cst_5_apply]
    exact congrArg (Scalar.select (c n) _) ofBits_zero
  have h39 : val_main_v39 (F := Ideal) x0 x2 (idx_main_v35 j n)
      = max (∑ n, Scalar.select (c n) (Ideal.exp (Scalar.select (c n) (s n) ⊥ - val_main_v29 (F := Ideal) x0 x2 j)) 0)
          (Ideal.ofBits .f32 0x0DA24260#32) := by
    rw [val_main_v39_apply, val_main_v38_apply, val_main_v36_apply, row36, val_main_v35_apply]
    rw [show val_main_cst_6 (F := Ideal) (Shape.Idx.first h_S_) = (0 : EReal) from ofBits_zero, zero_add]
    simp only [h34]
    rfl
  rw [val_main_v40_apply, h34, h39]
  exact (weight_eq c (reached (j 3).val) hc s _ hs _ hM n).trans (by congr)

theorem weighed (h0 : Queries x0 A) (h2 : Compressed x2 A) (i : S4x2x4x4096x255.Idx) :
    val_main_v40 (F := Ideal) x0 x2 i
      = (weight (reached (i 3).val) (score scale (A.q (i 0) (i 3) (i 1) (i 2)) (used (A.ck (i 0) (i 1)))) (i 4 : Fin 255) : EReal) := by
  have e : i = idx_main_v35 (ValueIdx.ix4 (i 0) (i 1) (i 2) (i 3)) (i 4) := funext fun a => by
    match a with
    | ⟨0, _⟩ => rfl
    | ⟨1, _⟩ => rfl
    | ⟨2, _⟩ => rfl
    | ⟨3, _⟩ => rfl
    | ⟨4, _⟩ => rfl
  exact (congrArg (val_main_v40 (F := Ideal) x0 x2) e).trans (weighed_row x0 x2 A h0 h2 _ _)

theorem cast_injective : Function.Injective (Fin.castLE (by norm_num : 255 ≤ 256)) := Fin.castLE_injective _

theorem in_use (t : ℕ) (n : Fin 256) (h : reach t n) : n ∈ Set.range (Fin.castLE (by norm_num : 255 ≤ 256)) := ⟨⟨n.val, h.2⟩, rfl⟩

theorem reached_eq (t : ℕ) : reached t = fun n => reach t (n.castLE (by norm_num)) := funext fun n => propext (reached_iff t n)

/-- Over the rows in use the weights are those over all rows. -/
theorem weight_used (t : ℕ) (x : Fin 128 → EReal) (k : Fin 256 → Fin 128 → EReal) (n : Fin 255) :
    weight (reached t) (score scale x (used k)) n = weight (reach t) (score scale x k) (n.castLE (by norm_num)) := by
  rw [reached_eq]
  exact weight_comp (Fin.castLE (by norm_num : 255 ≤ 256)) cast_injective (reach t) (score scale x k) (in_use t) n

/-- So is the average. -/
theorem mean_used (t : ℕ) (x : Fin 128 → EReal) (k : Fin 256 → Fin 128 → EReal) (v : Fin 256 → EReal) :
    mean (reached t) (score scale x (used k)) (used v) = mean (reach t) (score scale x k) v := by
  rw [reached_eq]
  exact mean_comp (Fin.castLE (by norm_num : 255 ≤ 256)) cast_injective (reach t) (score scale x k) (in_use t) v

/-- The compressed branch. -/
theorem compressed (h0 : Queries x0 A) (h2 : Compressed x2 A) (h3 : CompressedValues x3 A) (i : S4x4096x2x4x128.Idx) :
    val_main_v42 (F := Ideal) x0 x2 x3 i
      = (average (reach (i 1).val) (score scale (A.q (i 0) (i 1) (i 2) (i 3)) (A.ck (i 0) (i 2))) (A.cv (i 0) (i 2)) (i 4) : EReal) := by
  rw [val_main_v42_apply, val_main_v41_apply, dot_eq _ _ _ _ (fun n => h3 _) (fun n => weighed x0 x2 A h0 h2 _)]
  refine (Finset.sum_congr rfl fun n _ => mul_comm _ _).trans ?_
  refine (sum_weight (reached (i 1).val) (score scale (A.q (i 0) (i 1) (i 2) (i 3)) (used (A.ck (i 0) (i 2))))
    (used fun n => A.cv (i 0) (i 2) n (i 4))).trans ?_
  exact mean_used ..

end Cert.ReferenceIdeal.Reading
-- ==== Proof.RefChosen.lean ====
module

public import proofs.«01_k».proof.Proof.RefCompressed
public import Idealize.ShloMosaic.Lib.SortFacts

/-!
# The blocks the reference chooses, and their keys
-/

@[expose] public section

set_option maxRecDepth 16384

noncomputable section

namespace Cert.ReferenceIdeal.Reading

open Cert.ReferenceIdeal Cert.ReferenceIdeal.Gen Cert.ReferenceIdeal.Read Idealize.ShloMosaic Idealize.ShloMosaic.TcCoe
open Cert.Softmax Cert.Spec Idealize.ShloMosaic.WordCmp
open Cert.KernelIdeal.Block (and_iff or_iff)
open scoped Classical

variable (x0 : (⟨S16384x1024, .f32⟩ : BufTy).Contents (Elt Ideal)) (x2 : (⟨S4x2x256x128, .f32⟩ : BufTy).Contents (Elt Ideal))
  (A : Arrays)

theorem meets_bit (j : S255x64.Idx) :
    val_main_v65 (F := Ideal) j = 1#1 ↔ meets (Fin.castLE (by norm_num) (j 0 : Fin 255)) (j 1) := by
  have h0 : (j 0).val < 255 := (j 0).isLt
  have h1 : (j 1).val < 64 := (j 1).isLt
  have ea : IntOp.addi (IntOp.muli (BitVec.ofNat 32 (j 0).val) (BitVec.ofNat 32 16)) (BitVec.ofNat 32 32)
      = BitVec.ofNat 32 ((j 0).val * 16 + 32) := by rw [muli_ofNat, addi_ofNat]
  have eb : IntOp.muli (BitVec.ofNat 32 (j 1).val) (BitVec.ofNat 32 64) = BitVec.ofNat 32 ((j 1).val * 64) := muli_ofNat _ _
  have ec : IntOp.muli (IntOp.addi (BitVec.ofNat 32 (j 1).val) (BitVec.ofNat 32 1)) (BitVec.ofNat 32 64)
      = BitVec.ofNat 32 (((j 1).val + 1) * 64) := by rw [addi_ofNat, muli_ofNat]
  have ed : IntOp.muli (BitVec.ofNat 32 (j 0).val) (BitVec.ofNat 32 16) = BitVec.ofNat 32 ((j 0).val * 16) := muli_ofNat _ _
  rw [val_main_v65_apply, val_main_v55_apply, val_main_v53_apply, val_main_v48_apply, val_main_v45_apply, val_main_v47_apply,
    val_main_c_8_apply, val_main_v54_apply, val_main_v52_apply, val_main_v50_apply, val_main_v46_apply, val_main_v49_apply,
    val_main_c_9_apply, val_main_v51_apply, val_main_c_10_apply, val_main_v64_apply, val_main_v62_apply, val_main_v59_apply,
    val_main_v57_apply, val_main_v45_apply, val_main_v56_apply, val_main_c_11_apply, val_main_v58_apply, val_main_c_12_apply,
    val_main_v63_apply, val_main_v61_apply, val_main_v46_apply, val_main_v60_apply, val_main_c_13_apply]
  simp only [val_main_v44_apply, val_main_v43_apply]
  refine (and_iff (p := 16 * (j 0).val < ((j 1).val + 1) * 64) (q := 64 * (j 1).val < 16 * (j 0).val + 32) ?_ ?_).trans
    ⟨fun h => ⟨h.1, h.2, h0⟩, fun h => ⟨h.1, h.2.1⟩⟩
  · show IntOp.cmpi .slt (IntOp.muli (BitVec.ofNat 32 (j 0).val) (BitVec.ofNat 32 16))
      (IntOp.muli (IntOp.addi (BitVec.ofNat 32 (j 1).val) (BitVec.ofNat 32 1)) (BitVec.ofNat 32 64)) = 1#1 ↔ _
    rw [ec, ed, cmpi_slt_ofNat_eq_one_iff (by omega) (by omega)]
    omega
  · show IntOp.cmpi .sgt (IntOp.addi (IntOp.muli (BitVec.ofNat 32 (j 0).val) (BitVec.ofNat 32 16)) (BitVec.ofNat 32 32))
      (IntOp.muli (BitVec.ofNat 32 (j 1).val) (BitVec.ofNat 32 64)) = 1#1 ↔ _
    rw [ea, eb, cmpi_sgt_ofNat_eq_one_iff (by omega) (by omega)]
    omega

/-- A bit as a number. -/
theorem number_of_bit {c : BitVec 1} {p : Prop} [Decidable p] (h : c = 1#1 ↔ p) :
    FloatOps.uitofp (F := Ideal) .f32 c = ((if p then 1 else 0 : ℝ) : EReal) := by
  rcases BitVec.eq_zero_or_eq_one c with rfl | rfl
  · rw [if_neg (fun hp => absurd (h.mpr hp) (by decide))]; simp [FloatOps.uitofp]
  · rw [if_pos (h.mp rfl)]; simp [FloatOps.uitofp]

theorem overlaps (j : S255x64.Idx) :
    val_main_v66 (F := Ideal) j
      = ((if meets (Fin.castLE (by norm_num) (j 0 : Fin 255)) (j 1) then 1 else 0 : ℝ) : EReal) := by
  rw [val_main_v66_apply]
  exact number_of_bit (meets_bit j)

theorem four_heads (h0 : Queries x0 A) (h2 : Compressed x2 A) (i : S4x2x4096x255.Idx) :
    val_main_v67 (F := Ideal) x0 x2 i
      = (∑ g, weight (reach (i 2).val) (score scale (A.q (i 0) (i 2) (i 1) g) (A.ck (i 0) (i 1)))
          (Fin.castLE (by norm_num : 255 ≤ 256) (i 3)) : ℝ) := by
  rw [val_main_v67_apply, show val_main_cst_14 (F := Ideal) (Shape.Idx.first h_S_) = (0 : EReal) from ofBits_zero, zero_add]
  refine (Finset.sum_congr rfl fun g _ => ?_).trans (coe_sum _ _)
  rw [weighed x0 x2 A h0 h2]
  exact congrArg ((↑) : ℝ → EReal) (weight_used (i 2).val (A.q (i 0) (i 2) (i 1) g) (A.ck (i 0) (i 1)) (i 3))

/-- The weights of the blocks at a position. -/
def Arrays.mass (b : Fin 4) (k : Fin 2) (t : Fin 4096) : Fin 64 → ℝ := Spec.mass scale t.val (A.q b t k) (A.ck b k)

theorem massed (h0 : Queries x0 A) (h2 : Compressed x2 A) (i : S4x2x4096x64.Idx) :
    val_main_v68 (F := Ideal) x0 x2 i = (A.mass (i 0) (i 1) (i 2) (i 3) : EReal) := by
  rw [val_main_v68_apply, dot_real _ _ _ _ (fun n => four_heads x0 x2 A h0 h2 _) (fun n => overlaps _)]
  refine congrArg ((↑) : ℝ → EReal) ?_
  unfold Arrays.mass Spec.mass
  refine Fintype.sum_of_injective (Fin.castLE (by norm_num : 255 ≤ 256)) cast_injective _ _ (fun n hn => ?_) fun n => rfl
  rw [if_neg fun h => hn (in_use_of n h.2.2), mul_zero]
where
  in_use_of (n : Fin 256) (h : n.val < 255) : n ∈ Set.range (Fin.castLE (by norm_num : 255 ≤ 256)) := ⟨⟨n.val, h⟩, rfl⟩

theorem div_all : ∀ a : Fin 4096, IntOp.divsi .host (BitVec.ofNat 32 a.val) 64#32 = BitVec.ofNat 32 (a.val / 64) := by decide +kernel

theorem before_all : ∀ a j : Fin 64, IntOp.cmpi .eq (BitVec.ofNat 32 j.val) (IntOp.subi (BitVec.ofNat 32 a.val) 1#32) = 1#1 ↔ j.val + 1 = a.val := by
  decide +kernel

theorem present (i : S4096x1.Idx) : val_main_v71 (F := Ideal) i = BitVec.ofNat 32 ((i 0).val / 64) := by
  rw [val_main_v71_apply, val_main_v70_apply, val_main_v69_apply, val_main_c_15_apply, val_main_v13_apply]
  exact div_all (i 0)

theorem forced_bit (j : S4096x64.Idx) :
    val_main_v87 (F := Ideal) j = 1#1 ↔ (j 1).val = 0 ∨ (j 1).val = (j 0).val / 64 ∨ (j 1).val + 1 = (j 0).val / 64 := by
  have h0 : (j 0).val < 4096 := (j 0).isLt
  have h1 : (j 1).val < 64 := (j 1).isLt
  rw [val_main_v87_apply, val_main_v80_apply, val_main_v79_apply, val_main_v78_apply, val_main_v73_apply, val_main_v72_apply,
    val_main_c_16_apply, val_main_v77_apply, val_main_v75_apply, val_main_v74_apply, val_main_v76_apply, present,
    val_main_v86_apply, val_main_v84_apply, val_main_v83_apply, val_main_v85_apply, val_main_v82_apply, val_main_v81_apply,
    val_main_c_17_apply, present]
  simp only [val_main_v43_apply]
  refine (or_iff (or_iff (p := (j 1).val = 0) (q := (j 1).val = (j 0).val / 64) ?_ ?_) (q := (j 1).val + 1 = (j 0).val / 64) ?_).trans or_assoc
  · exact cmpi_eq_ofNat_eq_one_iff (w := 32) (a := (j 1).val) (b := 0) (by omega) (by omega)
  · exact cmpi_eq_ofNat_eq_one_iff (w := 32) (a := (j 1).val) (b := (j 0).val / 64) (by omega) (by omega)
  · exact before_all ⟨(j 0).val / 64, by omega⟩ (j 1)

theorem begun_bit (j : S4096x64.Idx) : val_main_v91 (F := Ideal) j = 1#1 ↔ (j 1).val ≤ (j 0).val / 64 := by
  have h0 : (j 0).val < 4096 := (j 0).isLt
  have h1 : (j 1).val < 64 := (j 1).isLt
  rw [val_main_v91_apply, val_main_v89_apply, val_main_v88_apply, val_main_v90_apply, present, val_main_v43_apply]
  exact cmpi_sle_ofNat_eq_one_iff (w := 32) (a := (j 1).val) (b := (j 0).val / 64) (by omega) (by omega)

theorem valued (h0 : Queries x0 A) (h2 : Compressed x2 A) (i : S4x2x4096x64.Idx) :
    val_main_v93 (F := Ideal) x0 x2 i = value (i 2).val (A.mass (i 0) (i 1) (i 2)) (i 3) := by
  rw [val_main_v93_apply, val_main_call3_v1_apply, val_main_call3_v2_apply, val_main_call3_v0_apply, val_main_cst_19_apply,
    val_main_v92_apply, val_main_call2_v1_apply, val_main_call2_v2_apply, val_main_call2_v0_apply, val_main_cst_18_apply,
    massed x0 x2 A h0 h2, select_iff (forced_bit _), select_iff (begun_bit _)]
  unfold value
  exact if_congr Iff.rfl ofBits_force (if_congr Iff.rfl rfl ofBits_last)

/-- Indices by their coordinates. -/
def at4 (b : Fin 4) (k : Fin 2) (t : Fin 4096) (j : Fin 64) : S4x2x4096x64.Idx := ValueIdx.ix4 b k t j
def at5 (b : Fin 4) (k : Fin 2) (t : Fin 4096) (j : Fin 16) (n : Fin 64) : S4x2x4096x16x64.Idx := ValueIdx.ix5 b k t j n
def place (j : Fin 16) : Fin 64 := j.castLE (by norm_num)

/-- The numbers a sort along an axis carries with it: where the sorted entries came from. -/
theorem carried (s : Shape) (d : ℕ) (hd : d < s.rank) (gt : EReal → EReal → BitVec 1) (x : s.Idx → EReal) (j : s.Idx) :
    (Host.sort2 s d (fun l r => gt l.1 r.1) x (fun i => if hd : d < s.rank then iotaInDim s 32 ⟨d, hd⟩ i else 0#32)).2 j
      = BitVec.ofNat 32 (sortedFrom (fun k k' : Fin (s.size ⟨d, hd⟩) => gt (x (j.along ⟨d, hd⟩ k)) (x (j.along ⟨d, hd⟩ k')) == 1#1)
          (j ⟨d, hd⟩)).val := by
  unfold Host.sort2
  rw [dif_pos hd]
  dsimp only
  rw [dif_pos hd]
  unfold iotaInDim Shape.Idx.along
  rw [Function.update_self]

/-- The places of the greatest along the last axis. -/
theorem greatest (gt : EReal → EReal → BitVec 1) (y : S4x2x4096x64.Idx → EReal) (i : S4x2x4096x16.Idx) :
    (Host.topK S4x2x4096x16 3 gt y sliceFits_S4x2x4096x64_S4x2x4096x16).2 i
      = BitVec.ofNat 32 (sortedFrom (fun k k' : Fin 64 => gt (y (at4 (i 0) (i 1) (i 2) k)) (y (at4 (i 0) (i 1) (i 2) k')) == 1#1)
          (place (i 3))).val := by
  show extractStridedSlice S4x2x4096x16 (fun _ => 0) (Host.sort2 S4x2x4096x64 3 (fun l r => gt l.1 r.1) y
    (fun i => if hd : 3 < S4x2x4096x64.rank then iotaInDim S4x2x4096x64 32 ⟨3, hd⟩ i else 0#32)).2
    sliceFits_S4x2x4096x64_S4x2x4096x16 i = _
  refine (extractStridedSlice_apply _ _ sliceFits_S4x2x4096x64_S4x2x4096x16 i (at4 (i 0) (i 1) (i 2) (place (i 3))) fun a => ?_).trans ?_
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  · have ea : ∀ k : Fin 64, (at4 (i 0) (i 1) (i 2) (place (i 3))).along (3 : Fin 4) k = at4 (i 0) (i 1) (i 2) k := fun k => funext fun a => by
      match a with
      | ⟨0, _⟩ => rfl
      | ⟨1, _⟩ => rfl
      | ⟨2, _⟩ => rfl
      | ⟨3, _⟩ => rfl
    refine (carried S4x2x4096x64 3 (by decide) gt y _).trans ?_
    refine congrArg (fun f : Fin 64 → Fin 64 → Bool => BitVec.ofNat 32 (sortedFrom f (place (i 3))).val) ?_
    exact funext fun k => funext fun k' => congrArg₂ (fun u v => gt (y u) (y v) == 1#1) (ea k) (ea k')

/-- The chosen blocks, as the reference numbers them. -/
theorem chosen (h0 : Queries x0 A) (h2 : Compressed x2 A) (i : S4x2x4096x16.Idx) :
    val_main_indices (F := Ideal) x0 x2 i
      = BitVec.ofNat 32 (block (i 2).val (A.mass (i 0) (i 1) (i 2)) (i 3)).val := by
  have hb : (fun k k' : Fin 64 => FloatOps.cmpfTotal (F := Ideal) (φ := .f32) .gt (val_main_v93 (F := Ideal) x0 x2 (at4 (i 0) (i 1) (i 2) k))
        (val_main_v93 (F := Ideal) x0 x2 (at4 (i 0) (i 1) (i 2) k')) == 1#1)
      = fun k k' => decide (value (i 2).val (A.mass (i 0) (i 1) (i 2)) k' < value (i 2).val (A.mass (i 0) (i 1) (i 2)) k) :=
    funext fun k => funext fun k' => by
      rw [valued x0 x2 A h0 h2, valued x0 x2 A h0 h2]
      show (BitVec.ofBool (decide (value (i 2).val (A.mass (i 0) (i 1) (i 2)) k' < value (i 2).val (A.mass (i 0) (i 1) (i 2)) k)) == 1#1) = _
      by_cases h : value (i 2).val (A.mass (i 0) (i 1) (i 2)) k' < value (i 2).val (A.mass (i 0) (i 1) (i 2)) k
      · simp [h]
      · simp [h]
  unfold val_main_indices
  refine (greatest _ _ i).trans ?_
  exact congrArg (fun f : Fin 64 → Fin 64 → Bool => BitVec.ofNat 32 (sortedFrom f (place (i 3))).val) hb

/-- The key at place `m` among the keys of the chosen blocks. -/
def key (t : ℕ) (w : Fin 64 → ℝ) (m : Fin 1024) : Fin 4096 :=
  ⟨64 * (block t w ⟨m.val / 64, by omega⟩).val + m.val % 64, by have := (block t w ⟨m.val / 64, by omega⟩).isLt; omega⟩

theorem block_injective (t : ℕ) (w : Fin 64 → ℝ) : Function.Injective (block t w) := fun a b h =>
  Fin.castLE_injective (by norm_num) (sortedFrom_injective _ h)

theorem key_injective (t : ℕ) (w : Fin 64 → ℝ) : Function.Injective (key t w) := fun a b h => by
  have e := congrArg Fin.val h
  simp only [key] at e
  have hb : block t w ⟨a.val / 64, by omega⟩ = block t w ⟨b.val / 64, by omega⟩ := Fin.ext (by omega)
  have := congrArg Fin.val (block_injective t w hb)
  simp only at this
  exact Fin.ext (by omega)

theorem near_key (t : ℕ) (w : Fin 64 → ℝ) (m : Fin 1024) : near t w (key t w m) ↔ (key t w m).val ≤ t :=
  ⟨fun h => h.2, fun h => ⟨⟨⟨m.val / 64, by omega⟩, by simp only [key]; omega⟩, h⟩⟩

theorem near_range (t : ℕ) (w : Fin 64 → ℝ) (k : Fin 4096) (h : near t w k) : k ∈ Set.range (key t w) := by
  obtain ⟨⟨j, hj⟩, _⟩ := h
  have hk := k.isLt
  refine ⟨⟨64 * j.val + k.val % 64, by omega⟩, Fin.ext ?_⟩
  have e : (⟨(64 * j.val + k.val % 64) / 64, by omega⟩ : Fin 16) = j := Fin.ext (by show (64 * j.val + k.val % 64) / 64 = j.val; omega)
  simp only [key]
  rw [e, hj]
  omega

theorem numbered (h0 : Queries x0 A) (h2 : Compressed x2 A) (i : S4x2x4096x1024.Idx) :
    val_main_v102 (F := Ideal) x0 x2 i = BitVec.ofNat 32 (key (i 2).val (A.mass (i 0) (i 1) (i 2)) (i 3)).val := by
  have l0 : (i 0).val < 4 := (i 0).isLt
  have l1 : (i 1).val < 2 := (i 1).isLt
  have l2 : (i 2).val < 4096 := (i 2).isLt
  have l3 : (i 3).val < 1024 := (i 3).isLt
  have e : idx_main_v102 i = at5 (i 0) (i 1) (i 2) ⟨(i 3).val / 64, by omega⟩ ⟨(i 3).val % 64, by omega⟩ :=
    funext fun a => Fin.ext (by
      match a with
      | ⟨0, _⟩ => show ((((i 0).val * 2 + (i 1).val) * 4096 + (i 2).val) * 1024 + (i 3).val) / 8388608 = (i 0).val; omega
      | ⟨1, _⟩ => show ((((i 0).val * 2 + (i 1).val) * 4096 + (i 2).val) * 1024 + (i 3).val) / 4194304 % 2 = (i 1).val; omega
      | ⟨2, _⟩ => show ((((i 0).val * 2 + (i 1).val) * 4096 + (i 2).val) * 1024 + (i 3).val) / 1024 % 4096 = (i 2).val; omega
      | ⟨3, _⟩ => show ((((i 0).val * 2 + (i 1).val) * 4096 + (i 2).val) * 1024 + (i 3).val) / 64 % 16 = (i 3).val / 64; omega
      | ⟨4, _⟩ => show ((((i 0).val * 2 + (i 1).val) * 4096 + (i 2).val) * 1024 + (i 3).val) % 64 = (i 3).val % 64; omega)
  rw [val_main_v102_apply, e, val_main_v101_apply, val_main_v99_apply, val_main_v96_apply, val_main_v94_apply, chosen x0 x2 A h0 h2,
    val_main_v95_apply, val_main_c_20_apply, val_main_v100_apply, val_main_v98_apply, val_main_v97_apply]
  show IntOp.addi (IntOp.muli (BitVec.ofNat 32 (block (i 2).val (A.mass (i 0) (i 1) (i 2)) ⟨(i 3).val / 64, _⟩).val) (BitVec.ofNat 32 64))
    (BitVec.ofNat 32 ((i 3).val % 64)) = _
  rw [muli_ofNat, addi_ofNat]
  exact congrArg (BitVec.ofNat 32) (congrArg (· + (i 3).val % 64) (Nat.mul_comm _ _))

end Cert.ReferenceIdeal.Reading
-- ==== Proof.RefSelected.lean ====
module

public import proofs.«01_k».proof.Proof.RefChosen

/-!
# The reference's attention over the chosen blocks
-/

@[expose] public section

set_option maxRecDepth 16384

noncomputable section

namespace Cert.ReferenceIdeal.Reading

open Cert.ReferenceIdeal Cert.ReferenceIdeal.Gen Cert.ReferenceIdeal.Read Idealize.ShloMosaic Idealize.ShloMosaic.TcCoe
open Cert.Softmax Cert.Spec Idealize.ShloMosaic.WordCmp
open scoped Classical

variable (x0 : (⟨S16384x1024, .f32⟩ : BufTy).Contents (Elt Ideal)) (x2 : (⟨S4x2x256x128, .f32⟩ : BufTy).Contents (Elt Ideal))
  (x4 x5 : (⟨S16384x256, .f32⟩ : BufTy).Contents (Elt Ideal)) (A : Arrays)

/-- The keys of the blocks hold `A.ks`. -/
def SelectedKeys : Prop := ∀ i : S4x2x4096x128.Idx, val_main_v104 (F := Ideal) x4 i = (A.ks (i 0) (i 1) (i 2) (i 3) : EReal)
/-- So do their values. -/
def SelectedValues : Prop := ∀ i : S4x2x4096x128.Idx, val_main_v130 (F := Ideal) x5 i = (A.vs (i 0) (i 1) (i 2) (i 3) : EReal)

/-- An entry of one batch's keys. -/
def entry (b : Fin 4) (h : Fin 2) (n : Fin 4096) (d : Fin 128) : S4x2x4096x128.Idx := ValueIdx.ix4 b h n d

/-- The place of a row's number among the numbers to be gathered. -/
def numberAt (b : Fin 4) (h : Fin 2) (t : Fin 4096) (m : Fin 1024) : S4x2x4096x1024x1.Idx := fun a => match a with
  | ⟨0, _⟩ => b
  | ⟨1, _⟩ => h
  | ⟨2, _⟩ => t
  | ⟨3, _⟩ => m
  | ⟨4, _⟩ => (0 : Fin 1)

local notation "rows" => gather_S4x2x4096x128_S4x2x4096x1024x1_S4x2x4096x1024x128_4_2_01_01_2_4_111128

/-- Gathered rows: the row whose number stands at the place. -/
theorem gathered {α : Type} (x : S4x2x4096x128.Idx → α) (idx : IVec S4x2x4096x1024x1 32) (y : S4x2x4096x1024x128.Idx) (k : Fin 4096)
    (h : idx (numberAt (y 0) (y 1) (y 2) (y 3)) = BitVec.ofNat 32 k.val) :
    Host.gather rows x idx y = x (entry (y 0) (y 1) k (y 4)) := by
  have hk : min (BitVec.ofNat 32 k.val).toInt.toNat 4095 = k.val := by
    have := k.isLt
    rw [BitVec.toInt_ofNat', Int.bmod_def]
    omega
  unfold Host.gather
  refine congrArg x (funext fun a => Fin.ext ?_)
  show (rows).start y idx a + (rows).batchCoord y a + (rows).offCoord y a = _
  have four : a = 0 ∨ a = 1 ∨ a = 2 ∨ a = 3 := by
    match a with
    | ⟨0, _⟩ => exact .inl rfl
    | ⟨1, _⟩ => exact .inr (.inl rfl)
    | ⟨2, _⟩ => exact .inr (.inr (.inl rfl))
    | ⟨3, _⟩ => exact .inr (.inr (.inr rfl))
  rcases four with rfl | rfl | rfl | rfl
  · rw [GatherDims.start_batching _ _ _ _ (show (0 : Fin 4) ∈ (rows).operandBatchingDims by decide),
      GatherDims.offCoord_eq_zero _ _ _ (show (0 : Fin 4) ∉ (rows).sKept by decide)]
    simp only [Nat.zero_add, Nat.add_zero]
    unfold GatherDims.batchCoord
    rw [dif_pos (show (0 : Fin 4) ∈ (rows).operandBatchingDims by decide)]
    rfl
  · rw [GatherDims.start_batching _ _ _ _ (show (1 : Fin 4) ∈ (rows).operandBatchingDims by decide),
      GatherDims.offCoord_eq_zero _ _ _ (show (1 : Fin 4) ∉ (rows).sKept by decide)]
    simp only [Nat.zero_add, Nat.add_zero]
    unfold GatherDims.batchCoord
    rw [dif_pos (show (1 : Fin 4) ∈ (rows).operandBatchingDims by decide)]
    rfl
  · rw [GatherDims.batchCoord_eq_zero _ _ _ (show (2 : Fin 4) ∉ (rows).operandBatchingDims by decide),
      GatherDims.offCoord_eq_zero _ _ _ (show (2 : Fin 4) ∉ (rows).sKept by decide)]
    simp only [Nat.add_zero]
    unfold GatherDims.start
    rw [dif_pos (show (2 : Fin 4) ∈ (rows).startIndexMap by decide)]
    refine Eq.trans ?_ hk
    refine congrArg (fun w : BitVec 32 => min w.toInt.toNat 4095) ((congrArg idx (funext fun b => Fin.ext ?_)).trans h)
    match b with
    | ⟨0, _⟩ => rfl
    | ⟨1, _⟩ => rfl
    | ⟨2, _⟩ => rfl
    | ⟨3, _⟩ => rfl
    | ⟨4, _⟩ => rfl
  · rw [GatherDims.batchCoord_eq_zero _ _ _ (show (3 : Fin 4) ∉ (rows).operandBatchingDims by decide)]
    unfold GatherDims.start GatherDims.offCoord
    rw [dif_neg (show (3 : Fin 4) ∉ (rows).startIndexMap by decide), dif_pos (show (3 : Fin 4) ∈ (rows).sKept by decide)]
    simp only [Nat.zero_add]
    rfl

/-- The key at place `m` for a position. -/
def Arrays.key (b : Fin 4) (h : Fin 2) (t : Fin 4096) (m : Fin 1024) : Fin 4096 := Reading.key t.val (A.mass b h t) m

theorem selected_key (h0 : Queries x0 A) (h2 : Compressed x2 A) (h4 : SelectedKeys x4 A) (y : S4x2x4096x1024x128.Idx) :
    val_main_v106 (F := Ideal) x0 x2 x4 y = (A.ks (y 0) (y 1) (A.key (y 0) (y 1) (y 2) (y 3)) (y 4) : EReal) := by
  unfold val_main_v106
  refine (gathered _ _ y (A.key (y 0) (y 1) (y 2) (y 3)) ?_).trans (h4 _)
  rw [val_main_v105_apply]
  exact numbered x0 x2 A h0 h2 _

theorem selected_value (h0 : Queries x0 A) (h2 : Compressed x2 A) (h5 : SelectedValues x5 A) (y : S4x2x4096x1024x128.Idx) :
    val_main_v132 (F := Ideal) x0 x2 x5 y = (A.vs (y 0) (y 1) (A.key (y 0) (y 1) (y 2) (y 3)) (y 4) : EReal) := by
  unfold val_main_v132
  refine (gathered _ _ y (A.key (y 0) (y 1) (y 2) (y 3)) ?_).trans (h5 _)
  rw [val_main_v131_apply]
  exact numbered x0 x2 A h0 h2 _

theorem near_bit (h0 : Queries x0 A) (h2 : Compressed x2 A) (j : S4x2x4096x1024.Idx) :
    val_main_v114 (F := Ideal) x0 x2 j = 1#1 ↔ near (j 2).val (A.mass (j 0) (j 1) (j 2)) (A.key (j 0) (j 1) (j 2) (j 3)) := by
  have hk := (A.key (j 0) (j 1) (j 2) (j 3)).isLt
  have ht : (j 2).val < 4096 := (j 2).isLt
  rw [val_main_v114_apply, numbered x0 x2 A h0 h2, val_main_v113_apply, val_main_v112_apply, val_main_v111_apply, val_main_v13_apply]
  exact (cmpi_sle_ofNat_eq_one_iff (a := (A.key (j 0) (j 1) (j 2) (j 3)).val) (b := (j 2).val) (w := 32) (by omega) (by omega)).trans
    (near_key _ _ _).symm

theorem selected_scored (h0 : Queries x0 A) (h2 : Compressed x2 A) (h4 : SelectedKeys x4 A) (i : S4x2x4x4096x1024.Idx) :
    val_main_v110 (F := Ideal) x0 x2 x4 i
      = (score scale (A.q (i 0) (i 3) (i 1) (i 2)) (A.ks (i 0) (i 1)) (A.key (i 0) (i 1) (i 3) (i 4)) : EReal) := by
  rw [val_main_v110_apply, val_main_v108_apply, val_main_v107_apply, val_main_v109_apply, val_main_cst_21_apply]
  show (∑ k : Fin 128, _) * Ideal.ofBits .f32 0x3DB504F3#32 = _
  rw [ofBits_scale, dot_eq _ _ _ _ (fun d => selected_key x0 x2 x4 A h0 h2 h4 _) (fun d => h0 _)]
  exact congrArg (· * (scale : EReal)) (Finset.sum_congr rfl fun d _ => mul_comm _ _)

theorem selected_highest (j : S4x2x4x4096.Idx) :
    val_main_v117 (F := Ideal) x0 x2 x4 j
      = Finset.univ.fold max (⊥ : EReal) fun n : Fin 1024 => val_main_v116 (F := Ideal) x0 x2 x4 (idx_main_v123 j n) := by
  unfold val_main_v117
  rw [Host.reduce_eq_fold_single FloatOps.maximumf _ _ reducesTo_S4x2x4x4096x1024_S4x2x4x4096_d4 (by decide) h_S_,
    show val_main_cst_23 (F := Ideal) (Shape.Idx.first h_S_) = (⊥ : EReal) from ofBits_bot]
  generalize val_main_v116 (F := Ideal) x0 x2 x4 = y
  refine congrArg (fun f => Finset.univ.fold max (⊥ : EReal) f) (funext fun n => congrArg y (funext fun a => Fin.ext ?_))
  match a with
  | ⟨0, _⟩ => rfl
  | ⟨1, _⟩ => rfl
  | ⟨2, _⟩ => rfl
  | ⟨3, _⟩ => rfl
  | ⟨4, _⟩ => rfl

theorem row118 (j : S4x2x4x4096.Idx) (n : Fin 1024) : idx_main_v118 (idx_main_v119 (idx_main_v123 j n)) = j := funext fun a => by
  match a with
  | ⟨0, _⟩ => rfl
  | ⟨1, _⟩ => rfl
  | ⟨2, _⟩ => rfl
  | ⟨3, _⟩ => rfl

theorem row124 (j : S4x2x4x4096.Idx) (n : Fin 1024) : idx_main_v124 (idx_main_v127 (idx_main_v123 j n)) = j := funext fun a => by
  match a with
  | ⟨0, _⟩ => rfl
  | ⟨1, _⟩ => rfl
  | ⟨2, _⟩ => rfl
  | ⟨3, _⟩ => rfl

/-- The weight of place `m` at a position. -/
def Arrays.placed (b : Fin 4) (h : Fin 2) (g : Fin 4) (t : Fin 4096) (m : Fin 1024) : ℝ :=
  weight (fun m => near t.val (A.mass b h t) (A.key b h t m)) (fun m => score scale (A.q b t h g) (A.ks b h) (A.key b h t m)) m

theorem selected_weighed_row (h0 : Queries x0 A) (h2 : Compressed x2 A) (h4 : SelectedKeys x4 A) (j : S4x2x4x4096.Idx) (n : Fin 1024) :
    val_main_v128 (F := Ideal) x0 x2 x4 (idx_main_v123 j n) = (A.placed (j 0) (j 1) (j 2) (j 3) n : EReal) := by
  let c : Fin 1024 → BitVec 1 := fun n => val_main_v115 (F := Ideal) x0 x2 (idx_main_call4_v1 (idx_main_v123 j n))
  let s : Fin 1024 → EReal := fun n => val_main_v110 (F := Ideal) x0 x2 x4 (idx_main_v123 j n)
  have hc : ∀ n, c n = 1#1 ↔ near (j 3).val (A.mass (j 0) (j 1) (j 3)) (A.key (j 0) (j 1) (j 3) n) := fun n => by
    show val_main_v115 (F := Ideal) x0 x2 _ = 1#1 ↔ _
    rw [val_main_v115_apply]
    exact near_bit x0 x2 A h0 h2 _
  have hs : ∀ n, s n = (score scale (A.q (j 0) (j 3) (j 1) (j 2)) (A.ks (j 0) (j 1)) (A.key (j 0) (j 1) (j 3) n) : EReal) :=
    fun n => selected_scored x0 x2 x4 A h0 h2 h4 _
  have h28 : ∀ n, val_main_v116 (F := Ideal) x0 x2 x4 (idx_main_v123 j n) = Scalar.select (c n) (s n) ⊥ := fun n => by
    rw [val_main_v116_apply, val_main_call4_v1_apply, val_main_call4_v2_apply, val_main_call4_v0_apply, val_main_cst_22_apply]
    exact congrArg (Scalar.select (c n) (s n)) ofBits_bot
  have hM : val_main_v117 (F := Ideal) x0 x2 x4 j = Finset.univ.fold max (⊥ : EReal) fun n => Scalar.select (c n) (s n) ⊥ :=
    (selected_highest x0 x2 x4 j).trans (congrArg (fun f => Finset.univ.fold max (⊥ : EReal) f) (funext h28))
  have h34 : ∀ n, val_main_v122 (F := Ideal) x0 x2 x4 (idx_main_v123 j n)
      = Scalar.select (c n) (Ideal.exp (Scalar.select (c n) (s n) ⊥ - val_main_v117 (F := Ideal) x0 x2 x4 j)) 0 := fun n => by
    rw [val_main_v122_apply, val_main_v121_apply, val_main_v120_apply, val_main_v119_apply, val_main_v118_apply, row118, h28,
      val_main_call5_v1_apply, val_main_call5_v2_apply, val_main_call5_v0_apply, val_main_cst_24_apply]
    exact congrArg (Scalar.select (c n) _) ofBits_zero
  have h39 : val_main_v127 (F := Ideal) x0 x2 x4 (idx_main_v123 j n)
      = max (∑ n, Scalar.select (c n) (Ideal.exp (Scalar.select (c n) (s n) ⊥ - val_main_v117 (F := Ideal) x0 x2 x4 j)) 0)
          (Ideal.ofBits .f32 0x0DA24260#32) := by
    rw [val_main_v127_apply, val_main_v126_apply, val_main_v124_apply, row124, val_main_v123_apply]
    rw [show val_main_cst_25 (F := Ideal) (Shape.Idx.first h_S_) = (0 : EReal) from ofBits_zero, zero_add]
    simp only [h34]
    rfl
  rw [val_main_v128_apply, h34, h39]
  exact (weight_eq c (fun n => near (j 3).val (A.mass (j 0) (j 1) (j 3)) (A.key (j 0) (j 1) (j 3) n)) hc s _ hs _
    hM n).trans (by unfold Arrays.placed; congr)

theorem selected_weighed (h0 : Queries x0 A) (h2 : Compressed x2 A) (h4 : SelectedKeys x4 A) (i : S4x2x4x4096x1024.Idx) :
    val_main_v128 (F := Ideal) x0 x2 x4 i = (A.placed (i 0) (i 1) (i 2) (i 3) (i 4) : EReal) := by
  have e : i = idx_main_v123 (ValueIdx.ix4 (i 0) (i 1) (i 2) (i 3)) (i 4) := funext fun a => by
    match a with
    | ⟨0, _⟩ => rfl
    | ⟨1, _⟩ => rfl
    | ⟨2, _⟩ => rfl
    | ⟨3, _⟩ => rfl
    | ⟨4, _⟩ => rfl
  exact (congrArg (val_main_v128 (F := Ideal) x0 x2 x4) e).trans (selected_weighed_row x0 x2 x4 A h0 h2 h4 _ _)

theorem placed_sum (b : Fin 4) (h : Fin 2) (g : Fin 4) (t : Fin 4096) (d : Fin 128) :
    ∑ m, (A.placed b h g t m : EReal) * A.vs b h (A.key b h t m) d
      = average (near t.val (A.mass b h t)) (score scale (A.q b t h g) (A.ks b h)) (A.vs b h) d :=
  (sum_weight (fun m => near t.val (A.mass b h t) (A.key b h t m)) (fun m => score scale (A.q b t h g) (A.ks b h) (A.key b h t m))
    (fun m => A.vs b h (A.key b h t m) d)).trans
    (mean_comp (A.key b h t) (key_injective _ _) (near t.val (A.mass b h t)) (score scale (A.q b t h g) (A.ks b h)) (near_range _ _)
      fun n => A.vs b h n d)

/-- The chosen blocks. -/
theorem selected (h0 : Queries x0 A) (h2 : Compressed x2 A) (h4 : SelectedKeys x4 A) (h5 : SelectedValues x5 A) (i : S4x4096x2x4x128.Idx) :
    val_main_v133 (F := Ideal) x0 x2 x4 x5 i
      = (average (near (i 1).val (A.mass (i 0) (i 2) (i 1))) (score scale (A.q (i 0) (i 1) (i 2) (i 3)) (A.ks (i 0) (i 2))) (A.vs (i 0) (i 2))
          (i 4) : EReal) := by
  rw [val_main_v133_apply, dot_eq _ _ _ _ (fun n => selected_weighed x0 x2 x4 A h0 h2 h4 _) (fun n => selected_value x0 x2 x5 A h0 h2 h5 _)]
  exact (placed_sum A (i 0) (i 2) (i 3) (i 1) (i 4))

end Cert.ReferenceIdeal.Reading
-- ==== Proof.RefWindow.lean ====
module

public import proofs.«01_k».proof.Proof.RefCompressed

/-!
# The reference's window
-/

@[expose] public section

set_option maxRecDepth 16384

noncomputable section

namespace Cert.ReferenceIdeal.Reading

open Cert.ReferenceIdeal Cert.ReferenceIdeal.Gen Cert.ReferenceIdeal.Read Idealize.ShloMosaic Idealize.ShloMosaic.TcCoe
open Cert.Softmax Cert.Spec Idealize.ShloMosaic.WordCmp
open Cert.KernelIdeal.Block (and_iff later_iff)
open scoped Classical

variable (x0 : (⟨S16384x1024, .f32⟩ : BufTy).Contents (Elt Ideal)) (x6 x7 : (⟨S16384x256, .f32⟩ : BufTy).Contents (Elt Ideal))
  (A : Arrays)

/-- The window's keys hold `A.kw`. -/
def WindowKeys : Prop := ∀ i : S4x4096x2x128.Idx, val_main_v11 (F := Ideal) x6 i = (A.kw (i 0) (i 2) (i 1) (i 3) : EReal)
/-- So do its values. -/
def WindowValues : Prop := ∀ i : S4x4096x2x128.Idx, val_main_v12 (F := Ideal) x7 i = (A.vw (i 0) (i 2) (i 1) (i 3) : EReal)

theorem recent_bit (j : S4096x4096.Idx) : val_main_v146 (F := Ideal) j = 1#1 ↔ recent (j 0).val (j 1) := by
  have h0 : (j 0).val < 4096 := (j 0).isLt
  have h1 : (j 1).val < 4096 := (j 1).isLt
  rw [val_main_v146_apply, val_main_v138_apply, val_main_v136_apply, val_main_v134_apply, val_main_v137_apply, val_main_v135_apply,
    val_main_v145_apply, val_main_v143_apply, val_main_v139_apply, val_main_v144_apply, val_main_v142_apply, val_main_v140_apply,
    val_main_v141_apply, val_main_c_27_apply]
  simp only [val_main_v13_apply]
  refine and_iff ?_ ?_
  · exact cmpi_sle_ofNat_eq_one_iff (a := (j 1).val) (b := (j 0).val) (w := 32) (by omega) (by omega)
  · exact later_iff (j 1).val (j 0).val (by omega) (by omega)

theorem window_scored (h0 : Queries x0 A) (h6 : WindowKeys x6 A) (i : S4x2x4x4096x4096.Idx) :
    val_main_v150 (F := Ideal) x0 x6 i
      = (score scale (A.q (i 0) (i 3) (i 1) (i 2)) (A.kw (i 0) (i 1)) (i 4 : Fin 4096) : EReal) := by
  rw [val_main_v150_apply, val_main_v148_apply, val_main_v147_apply, val_main_v149_apply, val_main_cst_28_apply]
  show (∑ k : Fin 128, _) * Ideal.ofBits .f32 0x3DB504F3#32 = _
  rw [ofBits_scale, dot_eq _ _ _ _ (fun d => h6 _) (fun d => h0 _)]
  exact congrArg (· * (scale : EReal)) (Finset.sum_congr rfl fun d _ => mul_comm _ _)

theorem window_highest (j : S4x2x4x4096.Idx) :
    val_main_v152 (F := Ideal) x0 x6 j
      = Finset.univ.fold max (⊥ : EReal) fun n : Fin 4096 => val_main_v151 (F := Ideal) x0 x6 (idx_main_v158 j n) := by
  unfold val_main_v152
  rw [Host.reduce_eq_fold_single FloatOps.maximumf _ _ reducesTo_S4x2x4x4096x4096_S4x2x4x4096_d4 (by decide) h_S_,
    show val_main_cst_30 (F := Ideal) (Shape.Idx.first h_S_) = (⊥ : EReal) from ofBits_bot]
  generalize val_main_v151 (F := Ideal) x0 x6 = y
  refine congrArg (fun f => Finset.univ.fold max (⊥ : EReal) f) (funext fun n => congrArg y (funext fun a => Fin.ext ?_))
  match a with
  | ⟨0, _⟩ => rfl
  | ⟨1, _⟩ => rfl
  | ⟨2, _⟩ => rfl
  | ⟨3, _⟩ => rfl
  | ⟨4, _⟩ => rfl

theorem row153 (j : S4x2x4x4096.Idx) (n : Fin 4096) : idx_main_v153 (idx_main_v154 (idx_main_v158 j n)) = j := funext fun a => by
  match a with
  | ⟨0, _⟩ => rfl
  | ⟨1, _⟩ => rfl
  | ⟨2, _⟩ => rfl
  | ⟨3, _⟩ => rfl

theorem row159 (j : S4x2x4x4096.Idx) (n : Fin 4096) : idx_main_v159 (idx_main_v162 (idx_main_v158 j n)) = j := funext fun a => by
  match a with
  | ⟨0, _⟩ => rfl
  | ⟨1, _⟩ => rfl
  | ⟨2, _⟩ => rfl
  | ⟨3, _⟩ => rfl

theorem window_weighed_row (h0 : Queries x0 A) (h6 : WindowKeys x6 A) (j : S4x2x4x4096.Idx) (n : Fin 4096) :
    val_main_v163 (F := Ideal) x0 x6 (idx_main_v158 j n)
      = (weight (recent (j 3).val) (score scale (A.q (j 0) (j 3) (j 1) (j 2)) (A.kw (j 0) (j 1))) n : EReal) := by
  let c : Fin 4096 → BitVec 1 := fun n => val_main_v146 (F := Ideal) (idx_main_call6_v1 (idx_main_v158 j n))
  let s : Fin 4096 → EReal := fun n => val_main_v150 (F := Ideal) x0 x6 (idx_main_v158 j n)
  have hc : ∀ n, c n = 1#1 ↔ recent (j 3).val n := fun n => recent_bit _
  have hs : ∀ n, s n = (score scale (A.q (j 0) (j 3) (j 1) (j 2)) (A.kw (j 0) (j 1)) n : EReal) := fun n => window_scored x0 x6 A h0 h6 _
  have h28 : ∀ n, val_main_v151 (F := Ideal) x0 x6 (idx_main_v158 j n) = Scalar.select (c n) (s n) ⊥ := fun n => by
    rw [val_main_v151_apply, val_main_call6_v1_apply, val_main_call6_v2_apply, val_main_call6_v0_apply, val_main_cst_29_apply]
    exact congrArg (Scalar.select (c n) (s n)) ofBits_bot
  have hM : val_main_v152 (F := Ideal) x0 x6 j = Finset.univ.fold max (⊥ : EReal) fun n => Scalar.select (c n) (s n) ⊥ :=
    (window_highest x0 x6 j).trans (congrArg (fun f => Finset.univ.fold max (⊥ : EReal) f) (funext h28))
  have h34 : ∀ n, val_main_v157 (F := Ideal) x0 x6 (idx_main_v158 j n)
      = Scalar.select (c n) (Ideal.exp (Scalar.select (c n) (s n) ⊥ - val_main_v152 (F := Ideal) x0 x6 j)) 0 := fun n => by
    rw [val_main_v157_apply, val_main_v156_apply, val_main_v155_apply, val_main_v154_apply, val_main_v153_apply, row153, h28,
      val_main_call7_v1_apply, val_main_call7_v2_apply, val_main_call7_v0_apply, val_main_cst_31_apply]
    exact congrArg (Scalar.select (c n) _) ofBits_zero
  have h39 : val_main_v162 (F := Ideal) x0 x6 (idx_main_v158 j n)
      = max (∑ n, Scalar.select (c n) (Ideal.exp (Scalar.select (c n) (s n) ⊥ - val_main_v152 (F := Ideal) x0 x6 j)) 0)
          (Ideal.ofBits .f32 0x0DA24260#32) := by
    rw [val_main_v162_apply, val_main_v161_apply, val_main_v159_apply, row159, val_main_v158_apply]
    rw [show val_main_cst_32 (F := Ideal) (Shape.Idx.first h_S_) = (0 : EReal) from ofBits_zero, zero_add]
    simp only [h34]
    rfl
  rw [val_main_v163_apply, h34, h39]
  exact (weight_eq c (recent (j 3).val) hc s _ hs _ hM n).trans (by congr)

theorem window_weighed (h0 : Queries x0 A) (h6 : WindowKeys x6 A) (i : S4x2x4x4096x4096.Idx) :
    val_main_v163 (F := Ideal) x0 x6 i
      = (weight (recent (i 3).val) (score scale (A.q (i 0) (i 3) (i 1) (i 2)) (A.kw (i 0) (i 1))) (i 4 : Fin 4096) : EReal) := by
  have e : i = idx_main_v158 (ValueIdx.ix4 (i 0) (i 1) (i 2) (i 3)) (i 4) := funext fun a => by
    match a with
    | ⟨0, _⟩ => rfl
    | ⟨1, _⟩ => rfl
    | ⟨2, _⟩ => rfl
    | ⟨3, _⟩ => rfl
    | ⟨4, _⟩ => rfl
  exact (congrArg (val_main_v163 (F := Ideal) x0 x6) e).trans (window_weighed_row x0 x6 A h0 h6 _ _)

/-- The window. -/
theorem windowed (h0 : Queries x0 A) (h6 : WindowKeys x6 A) (h7 : WindowValues x7 A) (i : S4x4096x2x4x128.Idx) :
    val_main_v165 (F := Ideal) x0 x6 x7 i
      = (average (recent (i 1).val) (score scale (A.q (i 0) (i 1) (i 2) (i 3)) (A.kw (i 0) (i 2))) (A.vw (i 0) (i 2)) (i 4) : EReal) := by
  rw [val_main_v165_apply, val_main_v164_apply, dot_eq _ _ _ _ (fun n => h7 _) (fun n => window_weighed x0 x6 A h0 h6 _)]
  refine (Finset.sum_congr rfl fun n _ => mul_comm _ _).trans ?_
  exact sum_weight (recent (i 1).val) (score scale (A.q (i 0) (i 1) (i 2) (i 3)) (A.kw (i 0) (i 2))) (fun n => A.vw (i 0) (i 2) n (i 4))

end Cert.ReferenceIdeal.Reading
-- ==== Proof.RefValue.lean ====
module

public import proofs.«01_k».proof.Proof.RefSelected
public import proofs.«01_k».proof.Proof.RefWindow

/-!
# The reference's result

The gates, the entries of the eight arrays, and each element of the result from them.
-/

@[expose] public section

set_option maxRecDepth 16384

noncomputable section

namespace Cert.ReferenceIdeal.Reading

open Cert.ReferenceIdeal Cert.ReferenceIdeal.Gen Cert.ReferenceIdeal.Read Idealize.ShloMosaic Idealize.ShloMosaic.TcCoe
open Cert.Softmax Cert.Spec
open scoped Classical

variable (x0 : (⟨S16384x1024, .f32⟩ : BufTy).Contents (Elt Ideal)) (x1 : (⟨S2x16384x12, .f32⟩ : BufTy).Contents (Elt Ideal))
  (x2 x3 : (⟨S4x2x256x128, .f32⟩ : BufTy).Contents (Elt Ideal)) (x4 x5 x6 x7 : (⟨S16384x256, .f32⟩ : BufTy).Contents (Elt Ideal))

/-- The row of a position of a batch. -/
def rowAt (b : Fin 4) (t : Fin 4096) : Fin 16384 := ⟨4096 * b.val + t.val, by omega⟩
/-- The column of a head's component. -/
def columnAt (h : Fin 2) (g : Fin 4) (d : Fin 128) : Fin 1024 := ⟨512 * h.val + (128 * g.val + d.val), by omega⟩
/-- The column of a key head's component. -/
def keyColumn (h : Fin 2) (d : Fin 128) : Fin 256 := ⟨128 * h.val + d.val, by omega⟩

/-- The entries of the eight arrays. -/
def arrays : Arrays where
  q b t h g d := x0 (ix2 (rowAt b t) (columnAt h g d))
  γ b t h j := x1 (ix3 h (rowAt b t) j)
  ck b h n d := x2 (ix4 b h n d)
  cv b h n d := x3 (ix4 b h n d)
  ks b h n d := x4 (ix2 (rowAt b n) (keyColumn h d))
  vs b h n d := x5 (ix2 (rowAt b n) (keyColumn h d))
  kw b h n d := x6 (ix2 (rowAt b n) (keyColumn h d))
  vw b h n d := x7 (ix2 (rowAt b n) (keyColumn h d))

theorem entry_eq {s : Shape} (x : s.Idx → EReal) {i j : s.Idx} (h : i = j) : x i = x j := congrArg x h

local notation "𝔸" => arrays x0 x1 x2 x3 x4 x5 x6 x7

theorem queries : Queries x0 𝔸 := fun i => by
  have l0 : (i 0).val < 4 := (i 0).isLt
  have l1 : (i 1).val < 4096 := (i 1).isLt
  have l2 : (i 2).val < 2 := (i 2).isLt
  have l3 : (i 3).val < 4 := (i 3).isLt
  have l4 : (i 4).val < 128 := (i 4).isLt
  rw [val_main_v0_apply]
  refine entry_eq (i := _) x0 (j := ix2 (rowAt (i 0) (i 1)) (columnAt (i 2) (i 3) (i 4))) (funext fun a => Fin.ext ?_)
  match a with
  | ⟨0, _⟩ =>
    show (((((i 0).val * 4096 + (i 1).val) * 2 + (i 2).val) * 4 + (i 3).val) * 128 + (i 4).val) / 1024 = 4096 * (i 0).val + (i 1).val
    omega
  | ⟨1, _⟩ =>
    show (((((i 0).val * 4096 + (i 1).val) * 2 + (i 2).val) * 4 + (i 3).val) * 128 + (i 4).val) % 1024
      = 512 * (i 2).val + (128 * (i 3).val + (i 4).val)
    omega

theorem compressed_keys : Compressed x2 𝔸 := fun i => by
  rw [val_main_v9_apply]
  refine entry_eq (i := _) x2 (j := ix4 (i 0) (i 1) (Fin.castLE (by norm_num : 255 ≤ 256) (i 2)) (i 3)) (funext fun a => Fin.ext ?_)
  match a with
  | ⟨0, _⟩ => rfl
  | ⟨1, _⟩ => rfl
  | ⟨2, _⟩ => rfl
  | ⟨3, _⟩ => rfl

theorem compressed_values : CompressedValues x3 𝔸 := fun i => by
  rw [val_main_v10_apply]
  refine entry_eq (i := _) x3 (j := ix4 (i 0) (i 1) (Fin.castLE (by norm_num : 255 ≤ 256) (i 2)) (i 3)) (funext fun a => Fin.ext ?_)
  match a with
  | ⟨0, _⟩ => rfl
  | ⟨1, _⟩ => rfl
  | ⟨2, _⟩ => rfl
  | ⟨3, _⟩ => rfl

/-- A row of keys of all batches and heads read as batch, position, head and component. -/
theorem key_index (b : Fin 4) (t : Fin 4096) (h : Fin 2) (d : Fin 128) :
    (((b.val * 4096 + t.val) * 2 + h.val) * 128 + d.val) / 256 = (rowAt b t).val
      ∧ (((b.val * 4096 + t.val) * 2 + h.val) * 128 + d.val) % 256 = (keyColumn h d).val := by
  unfold rowAt keyColumn
  constructor <;> simp only <;> omega

theorem selected_keys : SelectedKeys x4 𝔸 := fun i => by
  rw [val_main_v104_apply, val_main_v103_apply]
  refine entry_eq (i := _) x4 (j := ix2 (rowAt (i 0) (i 2)) (keyColumn (i 1) (i 3))) (funext fun a => Fin.ext ?_)
  match a with
  | ⟨0, _⟩ => exact (key_index (i 0) (i 2) (i 1) (i 3)).1
  | ⟨1, _⟩ => exact (key_index (i 0) (i 2) (i 1) (i 3)).2

theorem selected_values : SelectedValues x5 𝔸 := fun i => by
  rw [val_main_v130_apply, val_main_v129_apply]
  refine entry_eq (i := _) x5 (j := ix2 (rowAt (i 0) (i 2)) (keyColumn (i 1) (i 3))) (funext fun a => Fin.ext ?_)
  match a with
  | ⟨0, _⟩ => exact (key_index (i 0) (i 2) (i 1) (i 3)).1
  | ⟨1, _⟩ => exact (key_index (i 0) (i 2) (i 1) (i 3)).2

theorem window_keys : WindowKeys x6 𝔸 := fun i => by
  rw [val_main_v11_apply]
  refine entry_eq (i := _) x6 (j := ix2 (rowAt (i 0) (i 1)) (keyColumn (i 2) (i 3))) (funext fun a => Fin.ext ?_)
  match a with
  | ⟨0, _⟩ => exact (key_index (i 0) (i 1) (i 2) (i 3)).1
  | ⟨1, _⟩ => exact (key_index (i 0) (i 1) (i 2) (i 3)).2

theorem window_values : WindowValues x7 𝔸 := fun i => by
  rw [val_main_v12_apply]
  refine entry_eq (i := _) x7 (j := ix2 (rowAt (i 0) (i 1)) (keyColumn (i 2) (i 3))) (funext fun a => Fin.ext ?_)
  match a with
  | ⟨0, _⟩ => exact (key_index (i 0) (i 1) (i 2) (i 3)).1
  | ⟨1, _⟩ => exact (key_index (i 0) (i 1) (i 2) (i 3)).2

/-- The gate's number among a key head's twelve. -/
def gateAt (g : Fin 4) (k : Fin 3) : Fin 12 := ⟨3 * g.val + k.val, by omega⟩

theorem gate_value (y : S2x16384x12.Idx) : val_main_v6 (F := Ideal) x1 y = gate (x1 y) := by
  rw [val_main_v6_apply, val_main_v5_apply, val_main_cst_0_apply, val_main_v4_apply, val_main_v3_apply, val_main_cst_apply,
    val_main_v2_apply, val_main_v1_apply]
  show Ideal.div (Ideal.ofBits .f32 0x3F800000#32) (Ideal.ofBits .f32 0x3F800000#32 + Ideal.exp (-(x1 y : EReal))) = _
  rw [ofBits_one]
  rfl

theorem gates (i : S4x4096x2x4x3.Idx) :
    val_main_v8 (F := Ideal) x1 i = (gate ((𝔸).γ (i 0) (i 1) (i 2) (gateAt (i 3) (i 4))) : EReal) := by
  have l0 : (i 0).val < 4 := (i 0).isLt
  have l1 : (i 1).val < 4096 := (i 1).isLt
  have l2 : (i 2).val < 2 := (i 2).isLt
  have l3 : (i 3).val < 4 := (i 3).isLt
  have l4 : (i 4).val < 3 := (i 4).isLt
  have e : idx_main_v7 (idx_main_v8 i) = ix3 (i 2) (rowAt (i 0) (i 1)) (gateAt (i 3) (i 4)) := funext fun a => Fin.ext (by
    match a with
    | ⟨0, _⟩ =>
      show (((((i 2).val * 4 + (i 0).val) * 4096 + (i 1).val) * 4 + (i 3).val) * 3 + (i 4).val) / 196608 = (i 2).val
      omega
    | ⟨1, _⟩ =>
      show (((((i 2).val * 4 + (i 0).val) * 4096 + (i 1).val) * 4 + (i 3).val) * 3 + (i 4).val) / 12 % 16384 = 4096 * (i 0).val + (i 1).val
      omega
    | ⟨2, _⟩ =>
      show (((((i 2).val * 4 + (i 0).val) * 4096 + (i 1).val) * 4 + (i 3).val) * 3 + (i 4).val) % 12 = 3 * (i 3).val + (i 4).val
      omega)
  rw [val_main_v8_apply, val_main_v7_apply]
  exact (congrArg (val_main_v6 (F := Ideal) x1) e).trans (gate_value x1 _)

/-- One element of the result, by its row and column. -/
def attention (A : Arrays) (ρ : Fin 16384) (κ : Fin 1024) : EReal :=
  let b : Fin 4 := ⟨ρ.val / 4096, by omega⟩
  let t : Fin 4096 := ⟨ρ.val % 4096, by omega⟩
  let h : Fin 2 := ⟨κ.val / 512, by omega⟩
  attend scale t.val (A.q b t h) (A.γ b t h) (A.ck b h) (A.cv b h) (A.ks b h) (A.vs b h) (A.kw b h) (A.vw b h)
    ⟨κ.val / 128 % 4, by omega⟩ ⟨κ.val % 128, by omega⟩

/-- One element of the result, by batch, position, key head, head and component. -/
theorem heads (i : S4x4096x2x4x128.Idx) :
    val_main_v176 (F := Ideal) x0 x1 x2 x3 x4 x5 x6 x7 i
      = (attend scale (i 1).val ((𝔸).q (i 0) (i 1) (i 2)) ((𝔸).γ (i 0) (i 1) (i 2)) ((𝔸).ck (i 0) (i 2)) ((𝔸).cv (i 0) (i 2))
          ((𝔸).ks (i 0) (i 2)) ((𝔸).vs (i 0) (i 2)) ((𝔸).kw (i 0) (i 2)) ((𝔸).vw (i 0) (i 2)) (i 3) (i 4) : EReal) := by
  have hq := queries x0 x1 x2 x3 x4 x5 x6 x7
  have hc := compressed_keys x0 x1 x2 x3 x4 x5 x6 x7
  rw [val_main_v176_apply, val_main_v172_apply, val_main_v168_apply, val_main_v167_apply, val_main_v166_apply,
    compressed x0 x2 x3 𝔸 hq hc (compressed_values x0 x1 x2 x3 x4 x5 x6 x7),
    val_main_v171_apply, val_main_v170_apply, val_main_v169_apply,
    selected x0 x2 x4 x5 𝔸 hq hc (selected_keys x0 x1 x2 x3 x4 x5 x6 x7) (selected_values x0 x1 x2 x3 x4 x5 x6 x7),
    val_main_v175_apply, val_main_v174_apply, val_main_v173_apply,
    windowed x0 x6 x7 𝔸 hq (window_keys x0 x1 x2 x3 x4 x5 x6 x7) (window_values x0 x1 x2 x3 x4 x5 x6 x7),
    gates x0 x1 x2 x3 x4 x5 x6 x7, gates x0 x1 x2 x3 x4 x5 x6 x7, gates x0 x1 x2 x3 x4 x5 x6 x7]
  rfl

/-- The reference's result. -/
theorem result (i : S16384x1024.Idx) :
    val_main_v177 (F := Ideal) x0 x1 x2 x3 x4 x5 x6 x7 i = (attention 𝔸 (i 0) (i 1) : EReal) := by
  have l0 : (i 0).val < 16384 := (i 0).isLt
  have l1 : (i 1).val < 1024 := (i 1).isLt
  let j : S4x4096x2x4x128.Idx := fun a => match a with
    | ⟨0, _⟩ => (⟨(i 0).val / 4096, by omega⟩ : Fin 4)
    | ⟨1, _⟩ => (⟨(i 0).val % 4096, by omega⟩ : Fin 4096)
    | ⟨2, _⟩ => (⟨(i 1).val / 512, by omega⟩ : Fin 2)
    | ⟨3, _⟩ => (⟨(i 1).val / 128 % 4, by omega⟩ : Fin 4)
    | ⟨4, _⟩ => (⟨(i 1).val % 128, by omega⟩ : Fin 128)
  have e : idx_main_v177 i = j := funext fun a => Fin.ext (by
    match a with
    | ⟨0, _⟩ => show ((i 0).val * 1024 + (i 1).val) / 4194304 = (i 0).val / 4096; omega
    | ⟨1, _⟩ => show ((i 0).val * 1024 + (i 1).val) / 1024 % 4096 = (i 0).val % 4096; omega
    | ⟨2, _⟩ => show ((i 0).val * 1024 + (i 1).val) / 512 % 2 = (i 1).val / 512; omega
    | ⟨3, _⟩ => show ((i 0).val * 1024 + (i 1).val) / 128 % 4 = (i 1).val / 128 % 4; omega
    | ⟨4, _⟩ => show ((i 0).val * 1024 + (i 1).val) % 128 = (i 1).val % 128; omega)
  rw [val_main_v177_apply, e]
  exact heads x0 x1 x2 x3 x4 x5 x6 x7 j

end Cert.ReferenceIdeal.Reading
-- ==== Proof.Attention.lean ====
/-
  The attention, from queries, gates, keys and values to results: the kernel's blocks are read from the whole arrays,
  each block is the attention of 128 positions and the four heads of one key head, and the blocks cover the result. The
  reference's result is the same function of the same entries.
-/
module

public import proofs.«01_k».proof.Proof.Result
public import proofs.«01_k».proof.Proof.RefValue
public import Idealize.ShloMosaic.Lib.Claim
public import Idealize.ShloMosaic.Lib.ReduceAll
public import proofs.«01_k».proof.Defs
public import proofs.«01_k».proof.Proof.Gen.ReferenceIdeal

@[expose] public section

set_option maxRecDepth 16384

noncomputable section

namespace Cert.KernelIdeal.Attention

open Cert.KernelIdeal Cert.KernelIdeal.Gen Idealize.ShloMosaic Idealize.ShloMosaic.TcCoe Idealize.SL.Sem
open Idealize.ShloMosaic.Pipeline (Dat Cfg Window)
open Cert.Spec
open Cert.ReferenceIdeal.Reading (Arrays arrays rowAt columnAt keyColumn attention)

variable (m : (ℓ : Loc nD τ sig) → Buf (Elt Ideal) ℓ)

/-! ## Where the windows stand -/

theorem point_lt (t : Fin cfg0.N) : t.val < 256 := lt_of_lt_of_eq t.isLt (show cfg0.N = 256 from N_0)

/-- The batch of a point. -/
def batch (t : Fin cfg0.N) : Fin 4 := ⟨t.val / 64, by have := point_lt t; omega⟩
/-- The key head of a point. -/
def keyHead (t : Fin cfg0.N) : Fin 2 := ⟨t.val / 32 % 2, by omega⟩
/-- The positions of a point. -/
def position (t : Fin cfg0.N) (r : Fin 128) : Fin 4096 := ⟨128 * (t.val % 32) + r.val, by omega⟩

/-- The point's blocks of queries, of gates and of the result. -/
theorem row_windows : ∀ t : Fin cfg0.N, win0_0.index t (0 : Fin 2) = 32 * (t.val / 64) + t.val % 32 ∧ win0_0.index t (1 : Fin 2) = t.val / 32 % 2
    ∧ win0_1.index t (0 : Fin 3) = t.val / 32 % 2 ∧ win0_1.index t (1 : Fin 3) = 32 * (t.val / 64) + t.val % 32 ∧ win0_1.index t (2 : Fin 3) = 0
    ∧ win0_8.index t (0 : Fin 2) = 32 * (t.val / 64) + t.val % 32 ∧ win0_8.index t (1 : Fin 2) = t.val / 32 % 2
    ∧ (grid0.coords t 2).val = t.val % 32 :=
  (by decide +kernel : ∀ t : Fin grid0.N, _)

/-- Its blocks of compressed keys and values. -/
theorem compressed_windows : ∀ t : Fin cfg0.N, win0_2.index t (0 : Fin 4) = t.val / 64 ∧ win0_2.index t (1 : Fin 4) = t.val / 32 % 2
    ∧ win0_2.index t (2 : Fin 4) = 0 ∧ win0_2.index t (3 : Fin 4) = 0
    ∧ win0_3.index t (0 : Fin 4) = t.val / 64 ∧ win0_3.index t (1 : Fin 4) = t.val / 32 % 2
    ∧ win0_3.index t (2 : Fin 4) = 0 ∧ win0_3.index t (3 : Fin 4) = 0 :=
  (by decide +kernel : ∀ t : Fin grid0.N, _)

/-- Its blocks of keys and values. -/
theorem key_windows : ∀ t : Fin cfg0.N, win0_4.index t (0 : Fin 2) = t.val / 64 ∧ win0_4.index t (1 : Fin 2) = t.val / 32 % 2
    ∧ win0_5.index t (0 : Fin 2) = t.val / 64 ∧ win0_5.index t (1 : Fin 2) = t.val / 32 % 2
    ∧ win0_6.index t (0 : Fin 2) = t.val / 64 ∧ win0_6.index t (1 : Fin 2) = t.val / 32 % 2
    ∧ win0_7.index t (0 : Fin 2) = t.val / 64 ∧ win0_7.index t (1 : Fin 2) = t.val / 32 % 2 :=
  (by decide +kernel : ∀ t : Fin grid0.N, _)

/-! ## The blocks of a point -/

/-- The entries of the launch's arguments. -/
def args (c : Dev nD) : Arrays :=
  arrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem queries_at (c : Dev nD) (t : Fin cfg0.N) (r : Fin 128) (g : Fin 4) (d : Fin 128) :
    (iblk m c 0 t : Vec Ideal S128x512 .f32) (ix2 r ⟨128 * g.val + d.val, Block.column_lt g d⟩)
      = ((args m c).q (batch t) (position t r) (keyHead t) g d : EReal) := by
  obtain ⟨h0, h1, -⟩ := row_windows t
  refine Eq.trans ?_ (congrFun (V_main_arg0 m c) (ix2 (rowAt (batch t) (position t r)) (columnAt (keyHead t) g d)))
  show V m c main_arg0 _ = V m c main_arg0 _
  congr 1
  funext a
  apply Fin.ext
  match a with
  | ⟨0, _⟩ => show win0_0.index t 0 * 128 + 1 * r.val = 4096 * (t.val / 64) + (128 * (t.val % 32) + r.val); rw [h0]; omega
  | ⟨1, _⟩ => show win0_0.index t 1 * 512 + 1 * (128 * g.val + d.val) = 512 * (t.val / 32 % 2) + (128 * g.val + d.val); rw [h1]; omega

theorem gates_at (c : Dev nD) (t : Fin cfg0.N) (r : Fin 128) (j : Fin 12) :
    (iblk m c 1 t : Vec Ideal S1x128x12 .f32) (ix3 0 r j) = ((args m c).γ (batch t) (position t r) (keyHead t) j : EReal) := by
  obtain ⟨-, -, h0, h1, h2, -⟩ := row_windows t
  refine Eq.trans ?_ (congrFun (V_main_arg1 m c) (ix3 (keyHead t) (rowAt (batch t) (position t r)) j))
  show V m c main_arg1 _ = V m c main_arg1 _
  congr 1
  funext a
  apply Fin.ext
  match a with
  | ⟨0, _⟩ => show win0_1.index t 0 * 1 + 1 * 0 = t.val / 32 % 2; rw [h0]; omega
  | ⟨1, _⟩ => show win0_1.index t 1 * 128 + 1 * r.val = 4096 * (t.val / 64) + (128 * (t.val % 32) + r.val); rw [h1]; omega
  | ⟨2, _⟩ => show win0_1.index t 2 * 12 + 1 * j.val = j.val; rw [h2]; omega

theorem compressed_keys_at (c : Dev nD) (t : Fin cfg0.N) (n : Fin 256) (d : Fin 128) :
    (iblk m c 2 t : Vec Ideal S1x1x256x128 .f32) (ix4 0 0 n d) = ((args m c).ck (batch t) (keyHead t) n d : EReal) := by
  obtain ⟨h0, h1, h2, h3, -⟩ := compressed_windows t
  refine Eq.trans ?_ (congrFun (V_main_arg2 m c) (ix4 (batch t) (keyHead t) n d))
  show V m c main_arg2 _ = V m c main_arg2 _
  congr 1
  funext a
  apply Fin.ext
  match a with
  | ⟨0, _⟩ => show win0_2.index t 0 * 1 + 1 * 0 = t.val / 64; rw [h0]; omega
  | ⟨1, _⟩ => show win0_2.index t 1 * 1 + 1 * 0 = t.val / 32 % 2; rw [h1]; omega
  | ⟨2, _⟩ => show win0_2.index t 2 * 256 + 1 * n.val = n.val; rw [h2]; omega
  | ⟨3, _⟩ => show win0_2.index t 3 * 128 + 1 * d.val = d.val; rw [h3]; omega

theorem compressed_values_at (c : Dev nD) (t : Fin cfg0.N) (n : Fin 256) (d : Fin 128) :
    (iblk m c 3 t : Vec Ideal S1x1x256x128 .f32) (ix4 0 0 n d) = ((args m c).cv (batch t) (keyHead t) n d : EReal) := by
  obtain ⟨-, -, -, -, h0, h1, h2, h3⟩ := compressed_windows t
  refine Eq.trans ?_ (congrFun (V_main_arg3 m c) (ix4 (batch t) (keyHead t) n d))
  show V m c main_arg3 _ = V m c main_arg3 _
  congr 1
  funext a
  apply Fin.ext
  match a with
  | ⟨0, _⟩ => show win0_3.index t 0 * 1 + 1 * 0 = t.val / 64; rw [h0]; omega
  | ⟨1, _⟩ => show win0_3.index t 1 * 1 + 1 * 0 = t.val / 32 % 2; rw [h1]; omega
  | ⟨2, _⟩ => show win0_3.index t 2 * 256 + 1 * n.val = n.val; rw [h2]; omega
  | ⟨3, _⟩ => show win0_3.index t 3 * 128 + 1 * d.val = d.val; rw [h3]; omega

theorem selected_keys_at (c : Dev nD) (t : Fin cfg0.N) (n : Fin 4096) (d : Fin 128) :
    (iblk m c 4 t : Vec Ideal S4096x128 .f32) (ix2 n d) = ((args m c).ks (batch t) (keyHead t) n d : EReal) := by
  obtain ⟨h0, h1, -⟩ := key_windows t
  refine Eq.trans ?_ (congrFun (V_main_arg4 m c) (ix2 (rowAt (batch t) n) (keyColumn (keyHead t) d)))
  show V m c main_arg4 _ = V m c main_arg4 _
  congr 1
  funext a
  apply Fin.ext
  match a with
  | ⟨0, _⟩ => show win0_4.index t 0 * 4096 + 1 * n.val = 4096 * (t.val / 64) + n.val; rw [h0]; omega
  | ⟨1, _⟩ => show win0_4.index t 1 * 128 + 1 * d.val = 128 * (t.val / 32 % 2) + d.val; rw [h1]; omega

theorem selected_values_at (c : Dev nD) (t : Fin cfg0.N) (n : Fin 4096) (d : Fin 128) :
    (iblk m c 5 t : Vec Ideal S4096x128 .f32) (ix2 n d) = ((args m c).vs (batch t) (keyHead t) n d : EReal) := by
  obtain ⟨-, -, h0, h1, -⟩ := key_windows t
  refine Eq.trans ?_ (congrFun (V_main_arg5 m c) (ix2 (rowAt (batch t) n) (keyColumn (keyHead t) d)))
  show V m c main_arg5 _ = V m c main_arg5 _
  congr 1
  funext a
  apply Fin.ext
  match a with
  | ⟨0, _⟩ => show win0_5.index t 0 * 4096 + 1 * n.val = 4096 * (t.val / 64) + n.val; rw [h0]; omega
  | ⟨1, _⟩ => show win0_5.index t 1 * 128 + 1 * d.val = 128 * (t.val / 32 % 2) + d.val; rw [h1]; omega

theorem window_keys_at (c : Dev nD) (t : Fin cfg0.N) (n : Fin 4096) (d : Fin 128) :
    (iblk m c 6 t : Vec Ideal S4096x128 .f32) (ix2 n d) = ((args m c).kw (batch t) (keyHead t) n d : EReal) := by
  obtain ⟨-, -, -, -, h0, h1, -⟩ := key_windows t
  refine Eq.trans ?_ (congrFun (V_main_arg6 m c) (ix2 (rowAt (batch t) n) (keyColumn (keyHead t) d)))
  show V m c main_arg6 _ = V m c main_arg6 _
  congr 1
  funext a
  apply Fin.ext
  match a with
  | ⟨0, _⟩ => show win0_6.index t 0 * 4096 + 1 * n.val = 4096 * (t.val / 64) + n.val; rw [h0]; omega
  | ⟨1, _⟩ => show win0_6.index t 1 * 128 + 1 * d.val = 128 * (t.val / 32 % 2) + d.val; rw [h1]; omega

theorem window_values_at (c : Dev nD) (t : Fin cfg0.N) (n : Fin 4096) (d : Fin 128) :
    (iblk m c 7 t : Vec Ideal S4096x128 .f32) (ix2 n d) = ((args m c).vw (batch t) (keyHead t) n d : EReal) := by
  obtain ⟨-, -, -, -, -, -, h0, h1⟩ := key_windows t
  refine Eq.trans ?_ (congrFun (V_main_arg7 m c) (ix2 (rowAt (batch t) n) (keyColumn (keyHead t) d)))
  show V m c main_arg7 _ = V m c main_arg7 _
  congr 1
  funext a
  apply Fin.ext
  match a with
  | ⟨0, _⟩ => show win0_7.index t 0 * 4096 + 1 * n.val = 4096 * (t.val / 64) + n.val; rw [h0]; omega
  | ⟨1, _⟩ => show win0_7.index t 1 * 128 + 1 * d.val = 128 * (t.val / 32 % 2) + d.val; rw [h1]; omega

/-! ## The whole array -/

/-- The attention of the launch's arguments. -/
abbrev product (c : Dev nD) : Buf (Elt Ideal) ((c : Thread nD τ).loc main_v0) :=
  fun i : S16384x1024.Idx => (attention (args m c) (i 0) (i 1) : EReal)

/-- An element of the attention, by batch, position, key head, head and component. -/
theorem attention_at (A : Arrays) (b : Fin 4) (t : Fin 4096) (h : Fin 2) (g : Fin 4) (d : Fin 128) :
    attention A (rowAt b t) (columnAt h g d)
      = attend scale t.val (A.q b t h) (A.γ b t h) (A.ck b h) (A.cv b h) (A.ks b h) (A.vs b h) (A.kw b h) (A.vw b h) g d := by
  have eb : (⟨(rowAt b t).val / 4096, by omega⟩ : Fin 4) = b := Fin.ext (by show (4096 * b.val + t.val) / 4096 = b.val; omega)
  have et : (⟨(rowAt b t).val % 4096, by omega⟩ : Fin 4096) = t := Fin.ext (by show (4096 * b.val + t.val) % 4096 = t.val; omega)
  have eh : (⟨(columnAt h g d).val / 512, by omega⟩ : Fin 2) = h := Fin.ext (by show (512 * h.val + (128 * g.val + d.val)) / 512 = h.val; omega)
  have eg : (⟨(columnAt h g d).val / 128 % 4, by omega⟩ : Fin 4) = g :=
    Fin.ext (by show (512 * h.val + (128 * g.val + d.val)) / 128 % 4 = g.val; omega)
  have ed : (⟨(columnAt h g d).val % 128, by omega⟩ : Fin 128) = d := Fin.ext (by show (512 * h.val + (128 * g.val + d.val)) % 128 = d.val; omega)
  unfold attention
  simp only [eb, et, eh, eg, ed]
  rw [show (rowAt b t).val % 4096 = t.val from congrArg Fin.val et]

/-- Two blocks with the same elements are one. -/
theorem ext_heads {α : Type} {f g : S128x512.Idx → α}
    (h : ∀ (r : Fin 128) (k : Fin 4) (d : Fin 128), f (ix2 r ⟨128 * k.val + d.val, Block.column_lt k d⟩) = g (ix2 r ⟨128 * k.val + d.val, Block.column_lt k d⟩)) :
    f = g :=
  funext fun j => by
    have l1 : (j 1).val < 512 := (j 1).isLt
    have e : j = ix2 (j 0) (⟨128 * (⟨(j 1).val / 128, by omega⟩ : Fin 4).val + (⟨(j 1).val % 128, by omega⟩ : Fin 128).val, by
        show 128 * ((j 1).val / 128) + (j 1).val % 128 < 512; omega⟩ : Fin 512) := funext fun a => Fin.ext (by
      match a with
      | ⟨0, _⟩ => rfl
      | ⟨1, _⟩ => show (j 1).val = 128 * ((j 1).val / 128) + (j 1).val % 128; omega)
    rw [e]
    exact h _ _ _

/-- A point writes back its block of the attention. -/
theorem written_back (c : Dev nD) (t : Fin cfg0.N) :
    (dats m 0 c).flushed 8 t = ((cfg0.win 8).blk t).view.read (Elt Ideal) (product m c) := by
  rw [Value.flushed8_A]
  obtain ⟨-, -, -, -, -, h0, h1, h2⟩ := row_windows t
  refine ext_heads fun r g d => ?_
  refine (Block.block_apply c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (iblk m c 0 t) (iblk m c 1 t) (iblk m c 2 t) (iblk m c 3 t)
    (iblk m c 4 t) (iblk m c 5 t) (iblk m c 6 t) (iblk m c 7 t)
    (fun r => (args m c).q (batch t) (position t r) (keyHead t)) (fun r => (args m c).γ (batch t) (position t r) (keyHead t))
    ((args m c).ck (batch t) (keyHead t)) ((args m c).cv (batch t) (keyHead t)) ((args m c).ks (batch t) (keyHead t))
    ((args m c).vs (batch t) (keyHead t)) ((args m c).kw (batch t) (keyHead t)) ((args m c).vw (batch t) (keyHead t))
    (queries_at m c t) (gates_at m c t) (compressed_keys_at m c t) (compressed_values_at m c t) (selected_keys_at m c t) (selected_values_at m c t)
    (window_keys_at m c t) (window_values_at m c t) r g d).trans ?_
  rw [h2]
  refine ((attention_at (args m c) (batch t) (position t r) (keyHead t) g d).symm).trans ?_
  show product m c (ix2 (rowAt (batch t) (position t r)) (columnAt (keyHead t) g d)) = product m c _
  congr 1
  funext a
  apply Fin.ext
  match a with
  | ⟨0, _⟩ => show 4096 * (t.val / 64) + (128 * (t.val % 32) + r.val) = win0_8.index t 0 * 128 + 1 * r.val; rw [h0]; omega
  | ⟨1, _⟩ => show 512 * (t.val / 32 % 2) + (128 * g.val + d.val) = win0_8.index t 1 * 512 + 1 * (128 * g.val + d.val); rw [h1]; omega

theorem flushes : ∀ t : Fin cfg0.N, (cfg0.win 8).flush t = true :=
  (by decide +kernel : ∀ t : Fin grid0.N, win0_8.flush t = true)

/-- Every element lies in the block of some point. -/
theorem covers (i : S16384x1024.Idx) : ∃ t : Fin cfg0.N, (cfg0.win 8).flush t = true ∧ i ∈ ((cfg0.win 8).blk t).view.set := by
  have l0 : (i 0).val < 16384 := (i 0).isLt
  have l1 : (i 1).val < 1024 := (i 1).isLt
  let t : Fin cfg0.N := ⟨64 * ((i 0).val / 4096) + 32 * ((i 1).val / 512) + (i 0).val % 4096 / 128, lt_of_lt_of_eq (by omega) N_0.symm⟩
  have et : t.val = 64 * ((i 0).val / 4096) + 32 * ((i 1).val / 512) + (i 0).val % 4096 / 128 := rfl
  obtain ⟨-, -, -, -, -, h0, h1, -⟩ := row_windows t
  refine ⟨t, flushes t, ?_⟩
  show i ∈ ((View.whole main_v0).slice (win0_8.rect t)).set
  rw [View.set_slice_whole, Rect.mem_set_unit]
  intro a
  match a with
  | ⟨0, _⟩ =>
    show win0_8.index t (0 : Fin 2) * 128 ≤ (i 0).val ∧ (i 0).val < win0_8.index t (0 : Fin 2) * 128 + 128
    omega
  | ⟨1, _⟩ =>
    show win0_8.index t (1 : Fin 2) * 512 ≤ (i 1).val ∧ (i 1).val < win0_8.index t (1 : Fin 2) * 512 + 512
    omega

theorem array (c : Dev nD) : (dats m 0 c).arrAt 8 cfg0.N = product m c :=
  (dats m 0 c).arrAt_eq_of_cover 8 _ (fun t _ => written_back m c t) covers

/-! ## The claim -/

/-- The kernel's launch and the reference's end with one array, the attention. -/
theorem same_result : Cert.algebraic_KernelIdeal_ReferenceIdeal (hKernelIdeal := Gen.facts)
    (hReferenceIdeal := Cert.ReferenceIdeal.Gen.facts) := by
  intro m g m' g' _ hagree
  refine ⟨product m, ?_, ?_⟩
  · exact (θ_run _ _ _).mono (fun r h c => ⟨(h c).1.trans (array m c), (h c).2⟩) (Value.run_blocks m g)
  · refine (θ_run _ _ _).mono (fun r h c => ⟨?_, (h c).2⟩) (Cert.ReferenceIdeal.Value.run m' g')
    refine (h c).1.trans ((Cert.ReferenceIdeal.Read.val_main_v177_eq _).trans ?_)
    obtain ⟨a0, a1, a2, a3, a4, a5, a6, a7⟩ := hagree c
    show Cert.ReferenceIdeal.Read.val_main_v177 (F := Ideal) (m' (c.tc.loc Cert.ReferenceIdeal.main_arg0))
      (m' (c.tc.loc Cert.ReferenceIdeal.main_arg1))
      (m' (c.tc.loc Cert.ReferenceIdeal.main_arg2))
      (m' (c.tc.loc Cert.ReferenceIdeal.main_arg3))
      (m' (c.tc.loc Cert.ReferenceIdeal.main_arg4))
      (m' (c.tc.loc Cert.ReferenceIdeal.main_arg5))
      (m' (c.tc.loc Cert.ReferenceIdeal.main_arg6))
      (m' (c.tc.loc Cert.ReferenceIdeal.main_arg7))
      = product m c
    rw [a0, a1, a2, a3, a4, a5, a6, a7]
    exact funext fun i => Cert.ReferenceIdeal.Reading.result _ _ _ _ _ _ _ _ i

end Cert.KernelIdeal.Attention

end
-- ==== Proof.Heads.lean ====
/-
  The heads' rotation, one tile of 256 rows at a time. A head is 128 columns: it may be divided by its root mean square and
  scaled, and its first 32 columns are turned in pairs by an angle that depends on the row's position. The kernel turns
  with three tables over all 128 columns and two rotations of the columns; here each of its tiles is read as the formula.
-/
module

public import proofs.«01_k».proof.Proof.Gen.Kernel3Ideal.Value
public import proofs.«01_k».proof.Proof.Gen.Reference3Ideal.Read
public import Idealize.ShloMosaic.Lib.Pointwise
public import Idealize.ShloMosaic.Lib.KernelVsHost
public import Idealize.ShloMosaic.Lib.StableHlo.RunRead
public import Idealize.ShloMosaic.Lib.Claim
public import proofs.«01_k».proof.Proof.Gen.Kernel3

@[expose] public section

set_option maxRecDepth 16384

noncomputable section

namespace Cert.Kernel3Ideal.Heads

open Cert.Kernel3Ideal Cert.Kernel3Ideal.Gen Idealize.ShloMosaic Idealize.ShloMosaic.TcCoe Idealize.SL.Sem
open Idealize.ShloMosaic.Pipeline (Dat Cfg Window)

/-! ## The formula -/

/-- A head divided by its root mean square and scaled by `g`. -/
def normal (x g : Fin 128 → EReal) (d : Fin 128) : EReal :=
  x d * Ideal.rsqrt (Ideal.div (∑ k, x k * x k) (Ideal.ofBits .f32 0x43000000#32) + Ideal.ofBits .f32 0x358637BD#32) * g d

/-- A head whose column `d < 16` is turned with column `d + 16`, by cosines `C` and sines `S`. -/
def turned (C S : Fin 16 → EReal) (x : Fin 128 → EReal) (d : Fin 128) : EReal :=
  if h : d.val < 16 then x d * C ⟨d.val, h⟩ - x (d + 16) * S ⟨d.val, h⟩
  else if h : d.val < 32 then x (d - 16) * S ⟨d.val - 16, by omega⟩ + x d * C ⟨d.val - 16, by omega⟩
  else x d

/-! ## A tile -/

section Tile

variable {F : FTy → Type} [FloatOps F]

/-- The kernel's turn of a tile, with tables `c`, `a`, `b`. -/
def turn (c a b x : FVec F S256x128 .f32) : FVec F S256x128 .f32 :=
  addf (addf (mulf x c) (mulf (dynamicRotate 1 112#32 none x rotates_S256x128_d1) a)) (mulf (dynamicRotate 1 16#32 none x rotates_S256x128_d1) b)

/-- The kernel's scaling of a tile. -/
def scaled (x : FVec F S256x128 .f32) (g : FVec F S1x128 .f32) : FVec F S256x128 .f32 :=
  mulf (mulf x (broadcastTo S256x128 (rsqrt (addf (divf (shapeCast S256x1 (multiReduction .add [1] S256 (mulf x x) 0x00000000#32
    reduces_S256x128_S256 (.inl rfl) rfl) shapeCasts_S256_S256x1) (broadcast S256x1 (Scalar.ofBits .f32 0x43000000#32)))
    (broadcast S256x1 (Scalar.ofBits .f32 0x358637BD#32)))) broadcasts_S256x1_S256x128))
    (broadcastTo S256x128 (shapeCast S1x128 g shapeCasts_S1x128_S1x128) broadcasts_S1x128_S256x128)

end Tile

theorem turn_apply (c a b x : FVec Ideal S256x128 .f32) (r : Fin 256) (d : Fin 128) :
    turn c a b x (ix2 r d) = (x (ix2 r d) * c (ix2 r d) + x (ix2 r (d + 16)) * a (ix2 r d) + x (ix2 r (d - 16)) * b (ix2 r d) : EReal) := by
  have e1 : dynamicRotate 1 112#32 none x rotates_S256x128_d1 (ix2 r d) = x (ix2 r (d + 16)) :=
    dynamicRotate_apply 1 _ x _ _ _ fun q => by
      match q with
      | ⟨0, _⟩ => rfl
      | ⟨1, _⟩ => show (d + 16).val = (d.val + 128 - 112) % 128; rw [Fin.val_add]; show (d.val + 16) % 128 = _; omega
  have e2 : dynamicRotate 1 16#32 none x rotates_S256x128_d1 (ix2 r d) = x (ix2 r (d - 16)) :=
    dynamicRotate_apply 1 _ x _ _ _ fun q => by
      match q with
      | ⟨0, _⟩ => rfl
      | ⟨1, _⟩ => show (d - 16).val = (d.val + 128 - 16) % 128; rw [Fin.val_sub]; show (128 - 16 + d.val) % 128 = _; omega
  show x (ix2 r d) * c (ix2 r d) + dynamicRotate 1 112#32 none x rotates_S256x128_d1 (ix2 r d) * a (ix2 r d)
    + dynamicRotate 1 16#32 none x rotates_S256x128_d1 (ix2 r d) * b (ix2 r d) = _
  rw [e1, e2]

theorem scaled_apply (x : FVec Ideal S256x128 .f32) (g : FVec Ideal S1x128 .f32) (r : Fin 256) (d : Fin 128) :
    scaled x g (ix2 r d) = normal (fun k => x (ix2 r k)) (fun k => g (ix2 0 k)) d := by
  unfold scaled normal
  pointwise

/-- A tile turned with tables that hold cosines and sines. -/
theorem turn_tables (c a b : FVec Ideal S256x128 .f32) (x : FVec Ideal S256x128 .f32) (C S : Fin 16 → EReal) (X : Fin 128 → EReal) (r : Fin 256)
    (hc : ∀ d, c (ix2 r d) = if h : d.val < 16 then C ⟨d.val, h⟩ else if h : d.val < 32 then C ⟨d.val - 16, by omega⟩ else 1)
    (ha : ∀ d, a (ix2 r d) = if h : d.val < 16 then - S ⟨d.val, h⟩ else 0)
    (hb : ∀ d, b (ix2 r d) = if h : d.val < 16 then 0 else if h : d.val < 32 then S ⟨d.val - 16, by omega⟩ else 0)
    (hx : ∀ d, x (ix2 r d) = X d) (d : Fin 128) :
    turn c a b x (ix2 r d) = turned C S X d := by
  rw [turn_apply, hc, ha, hb, hx, hx, hx]
  unfold turned
  by_cases h : d.val < 16
  · simp only [dif_pos h, mul_zero, add_zero, mul_neg, sub_eq_add_neg]
  · by_cases h' : d.val < 32
    · simp only [dif_neg h, dif_pos h', mul_zero, add_zero]
      exact add_comm _ _
    · simp only [dif_neg h, dif_neg h', mul_zero, add_zero, mul_one]

/-! ## The tables -/

section Tables

variable {F : FTy → Type} [FloatOps F]

/-- The angles: the position times a power of the base. -/
def angles : FVec F S4096x16 .f32 :=
  mulf (broadcastInDim S4096x16 ![0, 1] bcast_S4096x1_S4096x16_0_1 (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x48F42400#32))
        (Host.divf (Host.negf (addf (broadcastInDim S16 ![] bcast_S_S16 (constant S_ .f32 0x00000000#32))
          (mulf (broadcastInDim S16 ![] bcast_S_S16 (constant S_ .f32 0x40000000#32)) (sitofp .f32 (iotaInDim S16 32 0)))))
          (broadcastInDim S16 ![] bcast_S_S16 (constant S_ .f32 0x42000000#32))))))

def cosines : FVec F S4096x16 .f32 := Host.cos angles
def sines : FVec F S4096x16 .f32 := Host.sin angles

def cosTable : FVec F S4096x128 .f32 :=
  concatenate S4096x128 1 [⟨S4096x16, cosines⟩, ⟨S4096x16, cosines⟩,
    ⟨S4096x96, broadcastInDim S4096x96 ![] bcast_S_S4096x96 (constant S_ .f32 0x3F800000#32)⟩] concatenates_S4096x16_S4096x16_S4096x96_S4096x128_d1

def fromAbove : FVec F S4096x128 .f32 :=
  concatenate S4096x128 1 [⟨S4096x16, Host.negf sines⟩,
    ⟨S4096x112, broadcastInDim S4096x112 ![] bcast_S_S4096x112 (constant S_ .f32 0x00000000#32)⟩] concatenates_S4096x16_S4096x112_S4096x128_d1

def fromBelow : FVec F S4096x128 .f32 :=
  concatenate S4096x128 1 [⟨S4096x16, broadcastInDim S4096x16 ![] bcast_S_S4096x16 (constant S_ .f32 0x00000000#32)⟩, ⟨S4096x16, sines⟩,
    ⟨S4096x96, broadcastInDim S4096x96 ![] bcast_S_S4096x96 (constant S_ .f32 0x00000000#32)⟩] concatenates_S4096x16_S4096x16_S4096x96_S4096x128_d1

variable (m : (ℓ : Loc nD τ sig) → Buf (Elt F) ℓ)

set_option maxHeartbeats 2000000 in
theorem V_cos (c : Dev nD) : (V m c main_v20 : Vec F S4096x128 .f32) = cosTable := by
  unfold V
  simp only [hostOps0]
  after_results_simp
  try dsimp only [Matrix.cons_val]
  try after_results_simp
  rfl

set_option maxHeartbeats 2000000 in
theorem V_above (c : Dev nD) : (V m c main_v23 : Vec F S4096x128 .f32) = fromAbove := by
  unfold V
  simp only [hostOps0]
  after_results_simp
  try dsimp only [Matrix.cons_val]
  try after_results_simp
  rfl

set_option maxHeartbeats 2000000 in
theorem V_below (c : Dev nD) : (V m c main_v26 : Vec F S4096x128 .f32) = fromBelow := by
  unfold V
  simp only [hostOps0]
  after_results_simp
  try dsimp only [Matrix.cons_val]
  try after_results_simp
  rfl

end Tables

/-! ## The tables' entries -/

/-- Two entries of one row differ in the column alone. -/
theorem off {a b b' : ℕ} (p : Fin a) (k : Fin b') (d : Fin b) : ∀ (q : Fin (⟨2, ![a, b']⟩ : Shape).rank)
    (_ : q.cast rfl ≠ (1 : Fin (⟨2, ![a, b]⟩ : Shape).rank)), (ix2 p k q).val = (ix2 p d (q.cast rfl)).val := by
  intro q hq
  match q with
  | ⟨0, _⟩ => rfl
  | ⟨1, _⟩ => exact absurd rfl hq

/-- One entry of three column blocks side by side. -/
theorem beside3 (x : FVec Ideal S4096x16 .f32) (y : FVec Ideal S4096x16 .f32) (z : FVec Ideal S4096x96 .f32) (p : Fin 4096) (d : Fin 128) :
    concatenate S4096x128 1 [⟨S4096x16, x⟩, ⟨S4096x16, y⟩, ⟨S4096x96, z⟩] concatenates_S4096x16_S4096x16_S4096x96_S4096x128_d1 (ix2 p d)
      = if h : d.val < 16 then x (ix2 p ⟨d.val, h⟩) else if h : d.val < 32 then y (ix2 p ⟨d.val - 16, by omega⟩)
        else z (ix2 p ⟨d.val - 32, by omega⟩) := by
  split
  · next h => exact concatenate_apply_piece (t := S4096x128) 1 [⟨S4096x16, x⟩, ⟨S4096x16, y⟩, ⟨S4096x96, z⟩] _ (ix2 p d) 0 (show 0 < 3 by decide) S4096x16 x rfl rfl 0 rfl (ix2 p _) (off p _ _) (by show 0 + d.val = d.val; omega)
  · split
    · next h h' => exact concatenate_apply_piece (t := S4096x128) 1 [⟨S4096x16, x⟩, ⟨S4096x16, y⟩, ⟨S4096x96, z⟩] _ (ix2 p d) 1 (show 1 < 3 by decide) S4096x16 y rfl rfl 16 rfl (ix2 p _) (off p _ _) (by show 16 + (d.val - 16) = d.val; omega)
    · next h h' => exact concatenate_apply_piece (t := S4096x128) 1 [⟨S4096x16, x⟩, ⟨S4096x16, y⟩, ⟨S4096x96, z⟩] _ (ix2 p d) 2 (show 2 < 3 by decide) S4096x96 z rfl rfl 32 rfl (ix2 p _) (off p _ _) (by show 32 + (d.val - 32) = d.val; omega)

/-- … and of two. -/
theorem beside2 (x : FVec Ideal S4096x16 .f32) (z : FVec Ideal S4096x112 .f32) (p : Fin 4096) (d : Fin 128) :
    concatenate S4096x128 1 [⟨S4096x16, x⟩, ⟨S4096x112, z⟩] concatenates_S4096x16_S4096x112_S4096x128_d1 (ix2 p d)
      = if h : d.val < 16 then x (ix2 p ⟨d.val, h⟩) else z (ix2 p ⟨d.val - 16, by omega⟩) := by
  split
  · next h => exact concatenate_apply_piece (t := S4096x128) 1 [⟨S4096x16, x⟩, ⟨S4096x112, z⟩] _ (ix2 p d) 0 (show 0 < 2 by decide) S4096x16 x rfl rfl 0 rfl (ix2 p _) (off p _ _) (by show 0 + d.val = d.val; omega)
  · next h => exact concatenate_apply_piece (t := S4096x128) 1 [⟨S4096x16, x⟩, ⟨S4096x112, z⟩] _ (ix2 p d) 1 (show 1 < 2 by decide) S4096x112 z rfl rfl 16 rfl (ix2 p _) (off p _ _) (by show 16 + (d.val - 16) = d.val; omega)

/-- The cosines and sines at a position. -/
abbrev cosAt (p : Fin 4096) (k : Fin 16) : EReal := cosines (F := Ideal) (ix2 p k)
abbrev sinAt (p : Fin 4096) (k : Fin 16) : EReal := sines (F := Ideal) (ix2 p k)

theorem cosTable_apply (p : Fin 4096) (d : Fin 128) : cosTable (F := Ideal) (ix2 p d)
    = if h : d.val < 16 then cosAt p ⟨d.val, h⟩ else if h : d.val < 32 then cosAt p ⟨d.val - 16, by omega⟩ else 1 := by
  unfold cosTable
  rw [beside3]
  split
  · rfl
  · split
    · rfl
    · pointwise

theorem fromAbove_apply (p : Fin 4096) (d : Fin 128) : fromAbove (F := Ideal) (ix2 p d)
    = if h : d.val < 16 then - sinAt p ⟨d.val, h⟩ else 0 := by
  unfold fromAbove
  rw [beside2]
  split
  · rfl
  · pointwise

theorem fromBelow_apply (p : Fin 4096) (d : Fin 128) : fromBelow (F := Ideal) (ix2 p d)
    = if h : d.val < 16 then 0 else if h : d.val < 32 then sinAt p ⟨d.val - 16, by omega⟩ else 0 := by
  unfold fromBelow
  rw [beside3]
  split
  · pointwise
  · split
    · rfl
    · pointwise

end Cert.Kernel3Ideal.Heads

end
-- ==== Proof.HeadBlocks.lean ====
/-
  The blocks the kernel leaves for the heads: at each of its 64 points seven blocks of 256 rows, a head's 128 columns in
  each store. Every element of every block is read as the formula of the block's own rows, gains and tables.
-/
module

public import proofs.«01_k».proof.Proof.Heads
public import Idealize.ShloMosaic.Lib.Pipeline.ValueKit.Tiles

@[expose] public section

set_option maxRecDepth 16384

noncomputable section

namespace Cert.Kernel3Ideal.Heads

open Cert.Kernel3Ideal Cert.Kernel3Ideal.Gen Idealize.ShloMosaic Idealize.ShloMosaic.TcCoe Idealize.SL.Sem
open Idealize.ShloMosaic.Pipeline (Dat Cfg Window)

theorem head_lt {n : ℕ} (h : Fin n) (d : Fin 128) : 128 * h.val + d.val < 128 * n := by omega

theorem pair_lt {k : ℕ} (h : k < 32) : k - 16 < 16 := by omega

theorem off2 : (![0, 0] : Fin 2 → Nat) = fun _ => 0 := funext fun a => by fin_cases a <;> rfl

/-- A block whose entries are those of `n` heads side by side. -/
abbrev beside {n : ℕ} (Y : Fin 256 → Fin n → Fin 128 → EReal) (y : Shape.Idx ⟨2, ![256, 128 * n]⟩) : EReal :=
  Y (y 0) ⟨(y 1).val / 128, by have : (y 1).val < 128 * n := (y 1).isLt; omega⟩ ⟨(y 1).val % 128, by omega⟩

theorem beside_at {n : ℕ} (Y : Fin 256 → Fin n → Fin 128 → EReal) (h : Fin n) (r : Fin 256) (d : Fin 128) (y : Shape.Idx ⟨2, ![256, 128 * n]⟩)
    (e0 : (y 0).val = r.val) (e1 : (y 1).val = 128 * h.val + d.val) : beside Y y = Y r h d := by
  have a1 : (⟨(y 1).val / 128, by have : (y 1).val < 128 * n := (y 1).isLt; omega⟩ : Fin n) = h := Fin.ext (by show (y 1).val / 128 = h.val; omega)
  have a2 : (⟨(y 1).val % 128, by omega⟩ : Fin 128) = d := Fin.ext (by show (y 1).val % 128 = d.val; omega)
  have a3 : y 0 = r := Fin.ext e0
  unfold beside
  rw [a1, a2, a3]

section Point

variable (c : Dev nD) (i : grid0.Coords)
  (arg1 : Memref sig .tc .vmem S256x2560 .f32) (harg1 : arg1.IsWhole) (arg2 : Memref sig .tc .vmem S256x128 .f32) (harg2 : arg2.IsWhole)
  (arg3 : Memref sig .tc .vmem S256x128 .f32) (harg3 : arg3.IsWhole) (arg4 : Memref sig .tc .vmem S256x128 .f32) (harg4 : arg4.IsWhole)
  (arg5 : Memref sig .tc .vmem S1x128 .f32) (harg5 : arg5.IsWhole) (arg6 : Memref sig .tc .vmem S1x128 .f32) (harg6 : arg6.IsWhole)
  (arg7 : Memref sig .tc .vmem S1x128 .f32) (harg7 : arg7.IsWhole) (arg8 : Memref sig .tc .vmem S256x1024 .f32) (harg8 : arg8.IsWhole)
  (arg9 : Memref sig .tc .vmem S256x256 .f32) (harg9 : arg9.IsWhole) (arg10 : Memref sig .tc .vmem S256x256 .f32) (harg10 : arg10.IsWhole)
  (arg11 : Memref sig .tc .vmem S256x256 .f32) (harg11 : arg11.IsWhole) (arg12 : Memref sig .tc .vmem S256x256 .f32) (harg12 : arg12.IsWhole)
  (arg13 : Memref sig .tc .vmem S256x256 .f32) (harg13 : arg13.IsWhole) (arg14 : Memref sig .tc .vmem S256x256 .f32) (harg14 : arg14.IsWhole)
  (x0 : Vec Ideal S256x2560 .f32) (x1 x2 x3 : Vec Ideal S256x128 .f32) (x4 x5 x6 : Vec Ideal S1x128 .f32)
  (X : Fin 256 → Fin 20 → Fin 128 → EReal) (C S : Fin 256 → Fin 16 → EReal) (g4 g5 g6 : Fin 128 → EReal)
  (h0 : ∀ r (k : Fin 20) (d : Fin 128), x0 (ix2 r ⟨128 * k.val + d.val, head_lt k d⟩) = (X r k d : EReal))
  (h1 : ∀ r d, x1 (ix2 r d) = if h : d.val < 16 then C r ⟨d.val, h⟩ else if h : d.val < 32 then C r ⟨d.val - 16, pair_lt h⟩ else 1)
  (h2 : ∀ r d, x2 (ix2 r d) = if h : d.val < 16 then - S r ⟨d.val, h⟩ else 0)
  (h3 : ∀ r d, x3 (ix2 r d) = if h : d.val < 16 then 0 else if h : d.val < 32 then S r ⟨d.val - 16, pair_lt h⟩ else 0)
  (h4 : ∀ d, x4 (ix2 0 d) = (g4 d : EReal)) (h5 : ∀ d, x5 (ix2 0 d) = (g5 d : EReal)) (h6 : ∀ d, x6 (ix2 0 d) = (g6 d : EReal))

/-- A head's columns as they are read. -/
abbrev readHead (off : Fin 2 → ℕ) (inb : ∀ a, off a + S256x128.size a ≤ S256x2560.size a) : Vec Ideal S256x128 .f32 :=
  View.readAt (Elt Ideal) arg1.view (Rect.unit (s := S256x2560) off S256x128.size inb).toLoadRect (harg1.unread x0)

/-- A table as it is read. -/
abbrev readTable (arg : Memref sig .tc .vmem S256x128 .f32) (harg : arg.IsWhole) (x : Vec Ideal S256x128 .f32)
    (inb : ∀ a, (![0, 0] : Fin 2 → ℕ) a + S256x128.size a ≤ S256x128.size a) : Vec Ideal S256x128 .f32 :=
  shapeCast S256x128 (View.readAt (Elt Ideal) arg.view (Rect.unit (s := S256x128) ![0, 0] S256x128.size inb).toLoadRect (harg.unread x)) shapeCasts_S256x128_S256x128

/-- The gains as they are read. -/
abbrev readGains (arg : Memref sig .tc .vmem S1x128 .f32) (harg : arg.IsWhole) (x : Vec Ideal S1x128 .f32)
    (inb : ∀ a, (![0, 0] : Fin 2 → ℕ) a + S1x128.size a ≤ S1x128.size a) : Vec Ideal S1x128 .f32 :=
  View.readAt (Elt Ideal) arg.view (Rect.unit (s := S1x128) ![0, 0] S1x128.size inb).toLoadRect (harg.unread x)

theorem readTable_eq (arg : Memref sig .tc .vmem S256x128 .f32) (harg : arg.IsWhole) (x : Vec Ideal S256x128 .f32) (inb) :
    readTable arg harg x inb = x := by
  refine (shapeCast_self _ _).trans ?_
  rw [View.readAt_eq_ld, harg.read_unread, View.ld_unit_zero (S := S256x128) off2]

theorem readGains_eq (arg : Memref sig .tc .vmem S1x128 .f32) (harg : arg.IsWhole) (x : Vec Ideal S1x128 .f32) (inb) :
    readGains arg harg x inb = x := by
  unfold readGains
  rw [View.readAt_eq_ld, harg.read_unread, View.ld_unit_zero (S := S1x128) off2]

include h0 in
theorem head_read (k : Fin 20) (inb) (r : Fin 256) (d : Fin 128) : readHead arg1 harg1 x0 ![0, 128 * k.val] inb (ix2 r d) = X r k d := by
  unfold readHead
  rw [View.readAt_eq_ld, harg1.read_unread]
  refine (View.ld_unit_apply_of x0 _ _ inb (ix2 r d) (ix2 r ⟨128 * k.val + d.val, by omega⟩) fun a => ?_).trans (h0 r k d)
  match a with
  | ⟨0, _⟩ => show r.val = 0 + r.val; omega
  | ⟨1, _⟩ => rfl

include h0 h1 h2 h3 in
/-- A head turned. -/
theorem plain_tile (k : Fin 20) (inb i1 i2 i3) (r : Fin 256) (d : Fin 128) :
    turn (F := Ideal) (readTable arg2 harg2 x1 i1) (readTable arg3 harg3 x2 i2) (readTable arg4 harg4 x3 i3) (readHead arg1 harg1 x0 ![0, 128 * k.val] inb) (ix2 r d)
      = turned (C r) (S r) (X r k) d := by
  rw [readTable_eq, readTable_eq, readTable_eq]
  exact turn_tables _ _ _ _ _ _ _ r (h1 r) (h2 r) (h3 r) (head_read arg1 harg1 x0 X h0 k inb r) d

include h0 h1 h2 h3 in
/-- A head scaled and turned. -/
theorem scaled_tile (arg : Memref sig .tc .vmem S1x128 .f32) (harg : arg.IsWhole) (y : Vec Ideal S1x128 .f32) (g : Fin 128 → EReal)
    (hg : ∀ d, y (ix2 0 d) = (g d : EReal)) (k : Fin 20) (inb i1 i2 i3 ig) (r : Fin 256) (d : Fin 128) :
    turn (F := Ideal) (readTable arg2 harg2 x1 i1) (readTable arg3 harg3 x2 i2) (readTable arg4 harg4 x3 i3)
        (scaled (F := Ideal) (readHead arg1 harg1 x0 ![0, 128 * k.val] inb) (readGains arg harg y ig)) (ix2 r d)
      = turned (C r) (S r) (normal (X r k) g) d := by
  rw [readTable_eq, readTable_eq, readTable_eq, readGains_eq]
  refine turn_tables _ _ _ _ _ _ _ r (h1 r) (h2 r) (h3 r) (fun d => ?_) d
  rw [scaled_apply]
  simp only [head_read arg1 harg1 x0 X h0 k inb r, hg]

include h0 h1 h2 h3 h4 in
/-- The queries. -/
theorem queries_block (r : Fin 256) (h : Fin 8) (d : Fin 128) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
        (ix2 r ⟨128 * h.val + d.val, head_lt h d⟩)
      = (turned (C r) (S r) (normal (X r ⟨0 + h.val, by omega⟩) g4) d : EReal) := by
  have hcov := cover0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
  unfold out0_A_7
  rw [View.read_writes_eq_canon _ _ _ hcov]
  let Y : Fin 256 → Fin 8 → Fin 128 → EReal := fun r h d => turned (C r) (S r) (normal (X r ⟨0 + h.val, by omega⟩) g4) d
  refine (View.canon_apply_of_pieces (Val := Elt Ideal) (beside (n := 8) Y) _ ?_ _ (hcov _)).trans (beside_at Y h r d _ rfl rfl)
  unfold kernelRun0_A
  dsimp only
  intro p hp
  simp only [List.mem_cons, List.not_mem_nil, or_false] at hp
  have hx : ∀ x : S256x128.Idx, ∃ (r : Fin 256) (d : Fin 128), x = ix2 r d := fun x => ⟨x 0, x 1, (ix2_eta x).symm⟩
  have key := scaled_tile arg1 harg1 arg2 harg2 arg3 harg3 arg4 harg4 x0 x1 x2 x3 X C S h0 h1 h2 h3 arg5 harg5 x4 g4 h4
  rcases hp with rfl | rfl | rfl | rfl | rfl | rfl | rfl | rfl <;> intro x <;> obtain ⟨r, d, rfl⟩ := hx x
  · refine Eq.trans ?_ (beside_at Y 7 r d _ (by show 0 + 1 * r.val = r.val; omega) (by show 896 + 1 * d.val = _; omega)).symm
    exact key 7 _ _ _ _ _ r d
  · refine Eq.trans ?_ (beside_at Y 6 r d _ (by show 0 + 1 * r.val = r.val; omega) (by show 768 + 1 * d.val = _; omega)).symm
    exact key 6 _ _ _ _ _ r d
  · refine Eq.trans ?_ (beside_at Y 5 r d _ (by show 0 + 1 * r.val = r.val; omega) (by show 640 + 1 * d.val = _; omega)).symm
    exact key 5 _ _ _ _ _ r d
  · refine Eq.trans ?_ (beside_at Y 4 r d _ (by show 0 + 1 * r.val = r.val; omega) (by show 512 + 1 * d.val = _; omega)).symm
    exact key 4 _ _ _ _ _ r d
  · refine Eq.trans ?_ (beside_at Y 3 r d _ (by show 0 + 1 * r.val = r.val; omega) (by show 384 + 1 * d.val = _; omega)).symm
    exact key 3 _ _ _ _ _ r d
  · refine Eq.trans ?_ (beside_at Y 2 r d _ (by show 0 + 1 * r.val = r.val; omega) (by show 256 + 1 * d.val = _; omega)).symm
    exact key 2 _ _ _ _ _ r d
  · refine Eq.trans ?_ (beside_at Y 1 r d _ (by show 0 + 1 * r.val = r.val; omega) (by show 128 + 1 * d.val = _; omega)).symm
    exact key 1 _ _ _ _ _ r d
  · refine Eq.trans ?_ (beside_at Y 0 r d _ (by show 0 + 1 * r.val = r.val; omega) (by show 0 + 1 * d.val = _; omega)).symm
    exact key 0 _ _ _ _ _ r d

include h0 h1 h2 h3 in
/-- The keys to be compressed. -/
theorem cmp_keys_block (r : Fin 256) (h : Fin 2) (d : Fin 128) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
        (ix2 r ⟨128 * h.val + d.val, head_lt h d⟩)
      = (turned (C r) (S r) (X r ⟨8 + h.val, by omega⟩) d : EReal) := by
  have hcov := cover0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
  unfold out0_A_8
  rw [View.read_writes_eq_canon _ _ _ hcov]
  let Y : Fin 256 → Fin 2 → Fin 128 → EReal := fun r h d => turned (C r) (S r) (X r ⟨8 + h.val, by omega⟩) d
  refine (View.canon_apply_of_pieces (Val := Elt Ideal) (beside (n := 2) Y) _ ?_ _ (hcov _)).trans (beside_at Y h r d _ rfl rfl)
  unfold kernelRun0_A
  dsimp only
  intro p hp
  simp only [List.mem_cons, List.not_mem_nil, or_false] at hp
  have hx : ∀ x : S256x128.Idx, ∃ (r : Fin 256) (d : Fin 128), x = ix2 r d := fun x => ⟨x 0, x 1, (ix2_eta x).symm⟩
  have key := plain_tile arg1 harg1 arg2 harg2 arg3 harg3 arg4 harg4 x0 x1 x2 x3 X C S h0 h1 h2 h3
  rcases hp with rfl | rfl <;> intro x <;> obtain ⟨r, d, rfl⟩ := hx x
  · refine Eq.trans ?_ (beside_at Y 1 r d _ (by show 0 + 1 * r.val = r.val; omega) (by show 128 + 1 * d.val = _; omega)).symm
    exact key 9 _ _ _ _ r d
  · refine Eq.trans ?_ (beside_at Y 0 r d _ (by show 0 + 1 * r.val = r.val; omega) (by show 0 + 1 * d.val = _; omega)).symm
    exact key 8 _ _ _ _ r d

include h0 in
/-- The values to be compressed. -/
theorem cmp_values_block (r : Fin 256) (h : Fin 2) (d : Fin 128) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
        (ix2 r ⟨128 * h.val + d.val, head_lt h d⟩)
      = (X r ⟨10 + h.val, by omega⟩ d : EReal) := by
  have hcov := cover0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
  unfold out0_A_9
  rw [View.read_writes_eq_canon _ _ _ hcov]
  let Y : Fin 256 → Fin 2 → Fin 128 → EReal := fun r h d => X r ⟨10 + h.val, by omega⟩ d
  refine (View.canon_apply_of_pieces (Val := Elt Ideal) (beside (n := 2) Y) _ ?_ _ (hcov _)).trans (beside_at Y h r d _ rfl rfl)
  unfold kernelRun0_A
  dsimp only
  intro p hp
  simp only [List.mem_cons, List.not_mem_nil, or_false] at hp
  have hx : ∀ x : S256x128.Idx, ∃ (r : Fin 256) (d : Fin 128), x = ix2 r d := fun x => ⟨x 0, x 1, (ix2_eta x).symm⟩
  have key := head_read arg1 harg1 x0 X h0
  rcases hp with rfl | rfl <;> intro x <;> obtain ⟨r, d, rfl⟩ := hx x
  · refine Eq.trans ?_ (beside_at Y 1 r d _ (by show 0 + 1 * r.val = r.val; omega) (by show 128 + 1 * d.val = _; omega)).symm
    exact key 11 _ r d
  · refine Eq.trans ?_ (beside_at Y 0 r d _ (by show 0 + 1 * r.val = r.val; omega) (by show 0 + 1 * d.val = _; omega)).symm
    exact key 10 _ r d

include h0 h1 h2 h3 h5 in
/-- The keys of the selection. -/
theorem slc_keys_block (r : Fin 256) (h : Fin 2) (d : Fin 128) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
        (ix2 r ⟨128 * h.val + d.val, head_lt h d⟩)
      = (turned (C r) (S r) (normal (X r ⟨12 + h.val, by omega⟩) g5) d : EReal) := by
  have hcov := cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
  unfold out0_A_10
  rw [View.read_writes_eq_canon _ _ _ hcov]
  let Y : Fin 256 → Fin 2 → Fin 128 → EReal := fun r h d => turned (C r) (S r) (normal (X r ⟨12 + h.val, by omega⟩) g5) d
  refine (View.canon_apply_of_pieces (Val := Elt Ideal) (beside (n := 2) Y) _ ?_ _ (hcov _)).trans (beside_at Y h r d _ rfl rfl)
  unfold kernelRun0_A
  dsimp only
  intro p hp
  simp only [List.mem_cons, List.not_mem_nil, or_false] at hp
  have hx : ∀ x : S256x128.Idx, ∃ (r : Fin 256) (d : Fin 128), x = ix2 r d := fun x => ⟨x 0, x 1, (ix2_eta x).symm⟩
  have key := scaled_tile arg1 harg1 arg2 harg2 arg3 harg3 arg4 harg4 x0 x1 x2 x3 X C S h0 h1 h2 h3 arg6 harg6 x5 g5 h5
  rcases hp with rfl | rfl <;> intro x <;> obtain ⟨r, d, rfl⟩ := hx x
  · refine Eq.trans ?_ (beside_at Y 1 r d _ (by show 0 + 1 * r.val = r.val; omega) (by show 128 + 1 * d.val = _; omega)).symm
    exact key 13 _ _ _ _ _ r d
  · refine Eq.trans ?_ (beside_at Y 0 r d _ (by show 0 + 1 * r.val = r.val; omega) (by show 0 + 1 * d.val = _; omega)).symm
    exact key 12 _ _ _ _ _ r d

include h0 in
/-- The values of the selection. -/
theorem slc_values_block (r : Fin 256) (h : Fin 2) (d : Fin 128) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
        (ix2 r ⟨128 * h.val + d.val, head_lt h d⟩)
      = (X r ⟨14 + h.val, by omega⟩ d : EReal) := by
  have hcov := cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
  unfold out0_A_11
  rw [View.read_writes_eq_canon _ _ _ hcov]
  let Y : Fin 256 → Fin 2 → Fin 128 → EReal := fun r h d => X r ⟨14 + h.val, by omega⟩ d
  refine (View.canon_apply_of_pieces (Val := Elt Ideal) (beside (n := 2) Y) _ ?_ _ (hcov _)).trans (beside_at Y h r d _ rfl rfl)
  unfold kernelRun0_A
  dsimp only
  intro p hp
  simp only [List.mem_cons, List.not_mem_nil, or_false] at hp
  have hx : ∀ x : S256x128.Idx, ∃ (r : Fin 256) (d : Fin 128), x = ix2 r d := fun x => ⟨x 0, x 1, (ix2_eta x).symm⟩
  have key := head_read arg1 harg1 x0 X h0
  rcases hp with rfl | rfl <;> intro x <;> obtain ⟨r, d, rfl⟩ := hx x
  · refine Eq.trans ?_ (beside_at Y 1 r d _ (by show 0 + 1 * r.val = r.val; omega) (by show 128 + 1 * d.val = _; omega)).symm
    exact key 15 _ r d
  · refine Eq.trans ?_ (beside_at Y 0 r d _ (by show 0 + 1 * r.val = r.val; omega) (by show 0 + 1 * d.val = _; omega)).symm
    exact key 14 _ r d

include h0 h1 h2 h3 h6 in
/-- The keys of the window. -/
theorem win_keys_block (r : Fin 256) (h : Fin 2) (d : Fin 128) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
        (ix2 r ⟨128 * h.val + d.val, head_lt h d⟩)
      = (turned (C r) (S r) (normal (X r ⟨16 + h.val, by omega⟩) g6) d : EReal) := by
  have hcov := cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
  unfold out0_A_12
  rw [View.read_writes_eq_canon _ _ _ hcov]
  let Y : Fin 256 → Fin 2 → Fin 128 → EReal := fun r h d => turned (C r) (S r) (normal (X r ⟨16 + h.val, by omega⟩) g6) d
  refine (View.canon_apply_of_pieces (Val := Elt Ideal) (beside (n := 2) Y) _ ?_ _ (hcov _)).trans (beside_at Y h r d _ rfl rfl)
  unfold kernelRun0_A
  dsimp only
  intro p hp
  simp only [List.mem_cons, List.not_mem_nil, or_false] at hp
  have hx : ∀ x : S256x128.Idx, ∃ (r : Fin 256) (d : Fin 128), x = ix2 r d := fun x => ⟨x 0, x 1, (ix2_eta x).symm⟩
  have key := scaled_tile arg1 harg1 arg2 harg2 arg3 harg3 arg4 harg4 x0 x1 x2 x3 X C S h0 h1 h2 h3 arg7 harg7 x6 g6 h6
  rcases hp with rfl | rfl <;> intro x <;> obtain ⟨r, d, rfl⟩ := hx x
  · refine Eq.trans ?_ (beside_at Y 1 r d _ (by show 0 + 1 * r.val = r.val; omega) (by show 128 + 1 * d.val = _; omega)).symm
    exact key 17 _ _ _ _ _ r d
  · refine Eq.trans ?_ (beside_at Y 0 r d _ (by show 0 + 1 * r.val = r.val; omega) (by show 0 + 1 * d.val = _; omega)).symm
    exact key 16 _ _ _ _ _ r d

include h0 in
/-- The values of the window. -/
theorem win_values_block (r : Fin 256) (h : Fin 2) (d : Fin 128) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
        (ix2 r ⟨128 * h.val + d.val, head_lt h d⟩)
      = (X r ⟨18 + h.val, by omega⟩ d : EReal) := by
  have hcov := cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
  unfold out0_A_13
  rw [View.read_writes_eq_canon _ _ _ hcov]
  let Y : Fin 256 → Fin 2 → Fin 128 → EReal := fun r h d => X r ⟨18 + h.val, by omega⟩ d
  refine (View.canon_apply_of_pieces (Val := Elt Ideal) (beside (n := 2) Y) _ ?_ _ (hcov _)).trans (beside_at Y h r d _ rfl rfl)
  unfold kernelRun0_A
  dsimp only
  intro p hp
  simp only [List.mem_cons, List.not_mem_nil, or_false] at hp
  have hx : ∀ x : S256x128.Idx, ∃ (r : Fin 256) (d : Fin 128), x = ix2 r d := fun x => ⟨x 0, x 1, (ix2_eta x).symm⟩
  have key := head_read arg1 harg1 x0 X h0
  rcases hp with rfl | rfl <;> intro x <;> obtain ⟨r, d, rfl⟩ := hx x
  · refine Eq.trans ?_ (beside_at Y 1 r d _ (by show 0 + 1 * r.val = r.val; omega) (by show 128 + 1 * d.val = _; omega)).symm
    exact key 19 _ r d
  · refine Eq.trans ?_ (beside_at Y 0 r d _ (by show 0 + 1 * r.val = r.val; omega) (by show 0 + 1 * d.val = _; omega)).symm
    exact key 18 _ r d

end Point

end Cert.Kernel3Ideal.Heads

end
-- ==== Proof.HeadReference.lean ====
/-
  The reference's heads: every element of its seven results, read as the formula of its row of the projected columns and of
  its head's gains.
-/
module

public import proofs.«01_k».proof.Proof.Heads

@[expose] public section

set_option maxRecDepth 16384

noncomputable section

namespace Cert.Kernel3Ideal.Heads

open Cert.Kernel3Ideal Cert.Kernel3Ideal.Gen Idealize.ShloMosaic Idealize.ShloMosaic.TcCoe Idealize.SL.Sem
open Cert.Reference3Ideal.Read

/-- Two entries of one head differ in the column alone. -/
theorem off4 {n w w' : ℕ} (b : Fin 4) (p : Fin 4096) (h : Fin n) (k : Fin w') (d : Fin w) : ∀ (q : Fin (⟨4, ![4, 4096, n, w']⟩ : Shape).rank)
    (_ : q.cast rfl ≠ (3 : Fin (⟨4, ![4, 4096, n, w]⟩ : Shape).rank)), (ix4 b p h k q).val = (ix4 b p h d (q.cast rfl)).val := by
  intro q hq
  match q with
  | ⟨0, _⟩ => rfl
  | ⟨1, _⟩ => rfl
  | ⟨2, _⟩ => rfl
  | ⟨3, _⟩ => exact absurd rfl hq

/-- One entry of three column blocks of heads side by side. -/
theorem beside4 {n : ℕ} (x y : Shape.Idx ⟨4, ![4, 4096, n, 16]⟩ → EReal) (z : Shape.Idx ⟨4, ![4, 4096, n, 96]⟩ → EReal)
    (hc : Shape.Concatenates (([⟨⟨4, ![4, 4096, n, 16]⟩, x⟩, ⟨⟨4, ![4, 4096, n, 16]⟩, y⟩, ⟨⟨4, ![4, 4096, n, 96]⟩, z⟩] :
      List ((s : Shape) × (s.Idx → EReal))).map (·.1)) ⟨4, ![4, 4096, n, 128]⟩ 3) (b : Fin 4) (p : Fin 4096) (h : Fin n) (d : Fin 128) :
    concatenate ⟨4, ![4, 4096, n, 128]⟩ 3 [⟨⟨4, ![4, 4096, n, 16]⟩, x⟩, ⟨⟨4, ![4, 4096, n, 16]⟩, y⟩, ⟨⟨4, ![4, 4096, n, 96]⟩, z⟩] hc (ix4 b p h d)
      = if e : d.val < 16 then x (ix4 b p h ⟨d.val, e⟩) else if e : d.val < 32 then y (ix4 b p h ⟨d.val - 16, by omega⟩)
        else z (ix4 b p h ⟨d.val - 32, by omega⟩) := by
  split
  · next e => exact concatenate_apply_piece (t := ⟨4, ![4, 4096, n, 128]⟩) 3 [⟨⟨4, ![4, 4096, n, 16]⟩, x⟩, ⟨⟨4, ![4, 4096, n, 16]⟩, y⟩, ⟨⟨4, ![4, 4096, n, 96]⟩, z⟩] hc (ix4 b p h d) 0 (show 0 < 3 by decide) ⟨4, ![4, 4096, n, 16]⟩ x rfl rfl 0 rfl (ix4 b p h _) (off4 b p h _ _) (by show 0 + d.val = d.val; omega)
  · split
    · next e e' => exact concatenate_apply_piece (t := ⟨4, ![4, 4096, n, 128]⟩) 3 [⟨⟨4, ![4, 4096, n, 16]⟩, x⟩, ⟨⟨4, ![4, 4096, n, 16]⟩, y⟩, ⟨⟨4, ![4, 4096, n, 96]⟩, z⟩] hc (ix4 b p h d) 1 (show 1 < 3 by decide) ⟨4, ![4, 4096, n, 16]⟩ y rfl rfl 16 rfl (ix4 b p h _) (off4 b p h _ _) (by show 16 + (d.val - 16) = d.val; omega)
    · next e e' => exact concatenate_apply_piece (t := ⟨4, ![4, 4096, n, 128]⟩) 3 [⟨⟨4, ![4, 4096, n, 16]⟩, x⟩, ⟨⟨4, ![4, 4096, n, 16]⟩, y⟩, ⟨⟨4, ![4, 4096, n, 96]⟩, z⟩] hc (ix4 b p h d) 2 (show 2 < 3 by decide) ⟨4, ![4, 4096, n, 96]⟩ z rfl rfl 32 rfl (ix4 b p h _) (off4 b p h _ _) (by show 32 + (d.val - 32) = d.val; omega)

/-- Two indices of four coordinates are one when the coordinates are. -/
theorem same4 {a b c d : ℕ} (i j : Shape.Idx ⟨4, ![a, b, c, d]⟩) (h0 : (i 0).val = (j 0).val) (h1 : (i 1).val = (j 1).val)
    (h2 : (i 2).val = (j 2).val) (h3 : (i 3).val = (j 3).val) : i = j := funext fun q => Fin.ext (by
  match q with
  | ⟨0, _⟩ => exact h0
  | ⟨1, _⟩ => exact h1
  | ⟨2, _⟩ => exact h2
  | ⟨3, _⟩ => exact h3)

theorem same2 {a b : ℕ} (i j : Shape.Idx ⟨2, ![a, b]⟩) (h0 : (i 0).val = (j 0).val) (h1 : (i 1).val = (j 1).val) : i = j :=
  funext fun q => Fin.ext (by
    match q with
    | ⟨0, _⟩ => exact h0
    | ⟨1, _⟩ => exact h1)

theorem zero_first (s : EReal) : Ideal.ofBits .f32 0x00000000#32 + s = s := by
  rw [show Ideal.ofBits .f32 0x00000000#32 = 0 from Ideal.ofBits_zero .f32]
  exact zero_add s

theorem above (d : Fin 128) (h : d.val < 16) : (d + 16).val = 16 + d.val := by
  rw [Fin.val_add]; show (d.val + 16) % 128 = _; omega
theorem below (d : Fin 128) (h : ¬ d.val < 16) : (d - 16).val = d.val - 16 := by
  rw [Fin.val_sub]; show (128 - 16 + d.val) % 128 = _; omega

variable (x0 : FVec Ideal S16384x2688 .f32) (x1 x2 x3 : FVec Ideal S128 .f32)

/-- The row of a position of a sequence, and head `k`'s columns in it. -/
abbrev rowAt (b : Fin 4) (p : Fin 4096) : Fin 16384 := ⟨4096 * b.val + p.val, by omega⟩
abbrev columns (R : Fin 16384) (k : Fin 20) (d : Fin 128) : EReal := x0 (ix2 R ⟨128 * k.val + d.val, by omega⟩)

/-- The queries among the projected columns. -/
theorem queries_split (b : Fin 4) (p : Fin 4096) (h : Fin 8) (d : Fin 128) :
    val_main_v1 (F := Ideal) x0 (ix4 b p h d) = columns x0 (rowAt b p) ⟨0 + h.val, by omega⟩ d := by
  rw [val_main_v1_apply, val_main_v0_apply]
  refine congrArg x0 (same2 _ _ ?_ ?_)
  · show (((b.val * 4096 + p.val) * 8 + h.val) * 128 + d.val) / 1024 = 4096 * b.val + p.val
    omega
  · show (((b.val * 4096 + p.val) * 8 + h.val) * 128 + d.val) % 1024 = 128 * (0 + h.val) + d.val
    omega

/-- The keys to be compressed. -/
theorem cmp_keys_split (b : Fin 4) (p : Fin 4096) (h : Fin 2) (d : Fin 128) :
    val_main_v3 (F := Ideal) x0 (ix4 b p h d) = columns x0 (rowAt b p) ⟨8 + h.val, by omega⟩ d := by
  rw [val_main_v3_apply, val_main_v2_apply]
  refine congrArg x0 (same2 _ _ ?_ ?_)
  · show (((b.val * 4096 + p.val) * 2 + h.val) * 128 + d.val) / 256 = 4096 * b.val + p.val
    omega
  · show 1024 + (((b.val * 4096 + p.val) * 2 + h.val) * 128 + d.val) % 256 = 128 * (8 + h.val) + d.val
    omega

/-- The values to be compressed. -/
theorem cmp_values_split (b : Fin 4) (p : Fin 4096) (h : Fin 2) (d : Fin 128) :
    val_main_v5 (F := Ideal) x0 (ix4 b p h d) = columns x0 (rowAt b p) ⟨10 + h.val, by omega⟩ d := by
  rw [val_main_v5_apply, val_main_v4_apply]
  refine congrArg x0 (same2 _ _ ?_ ?_)
  · show (((b.val * 4096 + p.val) * 2 + h.val) * 128 + d.val) / 256 = 4096 * b.val + p.val
    omega
  · show 1280 + (((b.val * 4096 + p.val) * 2 + h.val) * 128 + d.val) % 256 = 128 * (10 + h.val) + d.val
    omega

/-- The keys of the selection. -/
theorem slc_keys_split (b : Fin 4) (p : Fin 4096) (h : Fin 2) (d : Fin 128) :
    val_main_v7 (F := Ideal) x0 (ix4 b p h d) = columns x0 (rowAt b p) ⟨12 + h.val, by omega⟩ d := by
  rw [val_main_v7_apply, val_main_v6_apply]
  refine congrArg x0 (same2 _ _ ?_ ?_)
  · show (((b.val * 4096 + p.val) * 2 + h.val) * 128 + d.val) / 256 = 4096 * b.val + p.val
    omega
  · show 1536 + (((b.val * 4096 + p.val) * 2 + h.val) * 128 + d.val) % 256 = 128 * (12 + h.val) + d.val
    omega

/-- The values of the selection. -/
theorem slc_values_split (b : Fin 4) (p : Fin 4096) (h : Fin 2) (d : Fin 128) :
    val_main_v9 (F := Ideal) x0 (ix4 b p h d) = columns x0 (rowAt b p) ⟨14 + h.val, by omega⟩ d := by
  rw [val_main_v9_apply, val_main_v8_apply]
  refine congrArg x0 (same2 _ _ ?_ ?_)
  · show (((b.val * 4096 + p.val) * 2 + h.val) * 128 + d.val) / 256 = 4096 * b.val + p.val
    omega
  · show 1792 + (((b.val * 4096 + p.val) * 2 + h.val) * 128 + d.val) % 256 = 128 * (14 + h.val) + d.val
    omega

/-- The keys of the window. -/
theorem win_keys_split (b : Fin 4) (p : Fin 4096) (h : Fin 2) (d : Fin 128) :
    val_main_v11 (F := Ideal) x0 (ix4 b p h d) = columns x0 (rowAt b p) ⟨16 + h.val, by omega⟩ d := by
  rw [val_main_v11_apply, val_main_v10_apply]
  refine congrArg x0 (same2 _ _ ?_ ?_)
  · show (((b.val * 4096 + p.val) * 2 + h.val) * 128 + d.val) / 256 = 4096 * b.val + p.val
    omega
  · show 2048 + (((b.val * 4096 + p.val) * 2 + h.val) * 128 + d.val) % 256 = 128 * (16 + h.val) + d.val
    omega

/-- The values of the window. -/
theorem win_values_split (b : Fin 4) (p : Fin 4096) (h : Fin 2) (d : Fin 128) :
    val_main_v13 (F := Ideal) x0 (ix4 b p h d) = columns x0 (rowAt b p) ⟨18 + h.val, by omega⟩ d := by
  rw [val_main_v13_apply, val_main_v12_apply]
  refine congrArg x0 (same2 _ _ ?_ ?_)
  · show (((b.val * 4096 + p.val) * 2 + h.val) * 128 + d.val) / 256 = 4096 * b.val + p.val
    omega
  · show 2304 + (((b.val * 4096 + p.val) * 2 + h.val) * 128 + d.val) % 256 = 128 * (18 + h.val) + d.val
    omega

/-- The queries, scaled. -/
theorem queries_normal (b : Fin 4) (p : Fin 4096) (h : Fin 8) (d : Fin 128) :
    val_main_v26 (F := Ideal) x0 x1 (ix4 b p h d) = normal (columns x0 (rowAt b p) ⟨0 + h.val, by omega⟩) (fun k => x1 (ix1 k)) d := by
  rw [val_main_v26_apply, val_main_v23_apply, val_main_v22_apply, val_main_v21_apply, val_main_v20_apply, val_main_v18_apply, val_main_v16_apply, val_main_v15_apply,
    val_main_v17_apply, val_main_v19_apply, val_main_v25_apply, val_main_v24_apply, val_main_cst_apply, val_main_cst_0_apply, val_main_cst_1_apply]
  have e1 : ∀ k : Fin 128, idx_main_v15 (idx_main_v16 (idx_main_v22 (ix4 b p h d))) k = ix4 b p h k := fun k => same4 _ _ rfl rfl rfl rfl
  have e2 : idx_main_v24 (idx_main_v25 (ix4 b p h d)) = ix1 d := funext fun q => Fin.ext (by
    match q with
    | ⟨0, _⟩ => rfl)
  simp only [e1, e2, val_main_v14_apply, queries_split x0]
  unfold normal
  show _ * Ideal.rsqrt (Ideal.div (Ideal.ofBits .f32 0x00000000#32 + _) _ + _) * _ = _
  rw [zero_first]
  rfl

/-- The keys of the selection, scaled. -/
theorem slc_keys_normal (b : Fin 4) (p : Fin 4096) (h : Fin 2) (d : Fin 128) :
    val_main_v109 (F := Ideal) x0 x2 (ix4 b p h d) = normal (columns x0 (rowAt b p) ⟨12 + h.val, by omega⟩) (fun k => x2 (ix1 k)) d := by
  rw [val_main_v109_apply, val_main_v106_apply, val_main_v105_apply, val_main_v104_apply, val_main_v103_apply, val_main_v101_apply, val_main_v99_apply, val_main_v98_apply,
    val_main_v100_apply, val_main_v102_apply, val_main_v108_apply, val_main_v107_apply, val_main_cst_10_apply, val_main_cst_11_apply, val_main_cst_12_apply]
  have e1 : ∀ k : Fin 128, idx_main_v98 (idx_main_v99 (idx_main_v105 (ix4 b p h d))) k = ix4 b p h k := fun k => same4 _ _ rfl rfl rfl rfl
  have e2 : idx_main_v107 (idx_main_v108 (ix4 b p h d)) = ix1 d := funext fun q => Fin.ext (by
    match q with
    | ⟨0, _⟩ => rfl)
  simp only [e1, e2, val_main_v97_apply, slc_keys_split x0]
  unfold normal
  show _ * Ideal.rsqrt (Ideal.div (Ideal.ofBits .f32 0x00000000#32 + _) _ + _) * _ = _
  rw [zero_first]
  rfl

/-- The keys of the window, scaled. -/
theorem win_keys_normal (b : Fin 4) (p : Fin 4096) (h : Fin 2) (d : Fin 128) :
    val_main_v157 (F := Ideal) x0 x3 (ix4 b p h d) = normal (columns x0 (rowAt b p) ⟨16 + h.val, by omega⟩) (fun k => x3 (ix1 k)) d := by
  rw [val_main_v157_apply, val_main_v154_apply, val_main_v153_apply, val_main_v152_apply, val_main_v151_apply, val_main_v149_apply, val_main_v147_apply, val_main_v146_apply,
    val_main_v148_apply, val_main_v150_apply, val_main_v156_apply, val_main_v155_apply, val_main_cst_17_apply, val_main_cst_18_apply, val_main_cst_19_apply]
  have e1 : ∀ k : Fin 128, idx_main_v146 (idx_main_v147 (idx_main_v153 (ix4 b p h d))) k = ix4 b p h k := fun k => same4 _ _ rfl rfl rfl rfl
  have e2 : idx_main_v155 (idx_main_v156 (ix4 b p h d)) = ix1 d := funext fun q => Fin.ext (by
    match q with
    | ⟨0, _⟩ => rfl)
  simp only [e1, e2, val_main_v145_apply, win_keys_split x0]
  unfold normal
  show _ * Ideal.rsqrt (Ideal.div (Ideal.ofBits .f32 0x00000000#32 + _) _ + _) * _ = _
  rw [zero_first]
  rfl

/-- The queries, turned. -/
theorem queries_rotated (b : Fin 4) (p : Fin 4096) (h : Fin 8) (d : Fin 128) :
    val_main_v61 (F := Ideal) x0 x1 (ix4 b p h d) = turned (cosAt p) (sinAt p) (fun k => val_main_v26 (F := Ideal) x0 x1 (ix4 b p h k)) d := by
  unfold val_main_v61 turned
  refine (beside4 (n := 8) _ _ _ _ b p h d).trans ?_
  split
  · next e =>
    rw [val_main_v55_apply, val_main_v52_apply, val_main_v54_apply, val_main_v48_apply, val_main_v49_apply, val_main_v51_apply, val_main_v53_apply, val_main_v45_apply, val_main_v47_apply,
      same4 (idx_main_v48 _) (ix4 b p h d) rfl rfl rfl rfl, same4 (idx_main_v49 _) (ix4 b p h (d + 16)) rfl rfl rfl (above d e).symm,
      same2 (idx_main_v45 _) (ix2 p ⟨d.val, e⟩) rfl rfl, same2 (idx_main_v47 _) (ix2 p ⟨d.val, e⟩) rfl rfl]
    rfl
  · split
    · next e e' =>
      rw [val_main_v60_apply, val_main_v57_apply, val_main_v59_apply, val_main_v48_apply, val_main_v49_apply, val_main_v56_apply, val_main_v58_apply, val_main_v45_apply, val_main_v47_apply,
        same4 (idx_main_v48 _) (ix4 b p h (d - 16)) rfl rfl rfl (below d e).symm, same4 (idx_main_v49 _) (ix4 b p h d) rfl rfl rfl (show 16 + (d.val - 16) = d.val by omega),
        same2 (idx_main_v45 _) (ix2 p ⟨d.val - 16, by omega⟩) rfl rfl, same2 (idx_main_v47 _) (ix2 p ⟨d.val - 16, by omega⟩) rfl rfl]
      rfl
    · next e e' =>
      rw [val_main_v50_apply, same4 (idx_main_v50 _) (ix4 b p h d) rfl rfl rfl (show 32 + (d.val - 32) = d.val by omega)]

/-- The keys to be compressed, turned. -/
theorem cmp_keys_rotated (b : Fin 4) (p : Fin 4096) (h : Fin 2) (d : Fin 128) :
    val_main_v96 (F := Ideal) x0 (ix4 b p h d) = turned (cosAt p) (sinAt p) (fun k => val_main_v3 (F := Ideal) x0 (ix4 b p h k)) d := by
  unfold val_main_v96 turned
  refine (beside4 (n := 2) _ _ _ _ b p h d).trans ?_
  split
  · next e =>
    rw [val_main_v90_apply, val_main_v87_apply, val_main_v89_apply, val_main_v83_apply, val_main_v84_apply, val_main_v86_apply, val_main_v88_apply, val_main_v80_apply, val_main_v82_apply,
      same4 (idx_main_v83 _) (ix4 b p h d) rfl rfl rfl rfl, same4 (idx_main_v84 _) (ix4 b p h (d + 16)) rfl rfl rfl (above d e).symm,
      same2 (idx_main_v80 _) (ix2 p ⟨d.val, e⟩) rfl rfl, same2 (idx_main_v82 _) (ix2 p ⟨d.val, e⟩) rfl rfl]
    rfl
  · split
    · next e e' =>
      rw [val_main_v95_apply, val_main_v92_apply, val_main_v94_apply, val_main_v83_apply, val_main_v84_apply, val_main_v91_apply, val_main_v93_apply, val_main_v80_apply, val_main_v82_apply,
        same4 (idx_main_v83 _) (ix4 b p h (d - 16)) rfl rfl rfl (below d e).symm, same4 (idx_main_v84 _) (ix4 b p h d) rfl rfl rfl (show 16 + (d.val - 16) = d.val by omega),
        same2 (idx_main_v80 _) (ix2 p ⟨d.val - 16, by omega⟩) rfl rfl, same2 (idx_main_v82 _) (ix2 p ⟨d.val - 16, by omega⟩) rfl rfl]
      rfl
    · next e e' =>
      rw [val_main_v85_apply, same4 (idx_main_v85 _) (ix4 b p h d) rfl rfl rfl (show 32 + (d.val - 32) = d.val by omega)]

/-- The keys of the selection, turned. -/
theorem slc_keys_rotated (b : Fin 4) (p : Fin 4096) (h : Fin 2) (d : Fin 128) :
    val_main_v144 (F := Ideal) x0 x2 (ix4 b p h d) = turned (cosAt p) (sinAt p) (fun k => val_main_v109 (F := Ideal) x0 x2 (ix4 b p h k)) d := by
  unfold val_main_v144 turned
  refine (beside4 (n := 2) _ _ _ _ b p h d).trans ?_
  split
  · next e =>
    rw [val_main_v138_apply, val_main_v135_apply, val_main_v137_apply, val_main_v131_apply, val_main_v132_apply, val_main_v134_apply, val_main_v136_apply, val_main_v128_apply, val_main_v130_apply,
      same4 (idx_main_v131 _) (ix4 b p h d) rfl rfl rfl rfl, same4 (idx_main_v132 _) (ix4 b p h (d + 16)) rfl rfl rfl (above d e).symm,
      same2 (idx_main_v128 _) (ix2 p ⟨d.val, e⟩) rfl rfl, same2 (idx_main_v130 _) (ix2 p ⟨d.val, e⟩) rfl rfl]
    rfl
  · split
    · next e e' =>
      rw [val_main_v143_apply, val_main_v140_apply, val_main_v142_apply, val_main_v131_apply, val_main_v132_apply, val_main_v139_apply, val_main_v141_apply, val_main_v128_apply, val_main_v130_apply,
        same4 (idx_main_v131 _) (ix4 b p h (d - 16)) rfl rfl rfl (below d e).symm, same4 (idx_main_v132 _) (ix4 b p h d) rfl rfl rfl (show 16 + (d.val - 16) = d.val by omega),
        same2 (idx_main_v128 _) (ix2 p ⟨d.val - 16, by omega⟩) rfl rfl, same2 (idx_main_v130 _) (ix2 p ⟨d.val - 16, by omega⟩) rfl rfl]
      rfl
    · next e e' =>
      rw [val_main_v133_apply, same4 (idx_main_v133 _) (ix4 b p h d) rfl rfl rfl (show 32 + (d.val - 32) = d.val by omega)]

/-- The keys of the window, turned. -/
theorem win_keys_rotated (b : Fin 4) (p : Fin 4096) (h : Fin 2) (d : Fin 128) :
    val_main_v192 (F := Ideal) x0 x3 (ix4 b p h d) = turned (cosAt p) (sinAt p) (fun k => val_main_v157 (F := Ideal) x0 x3 (ix4 b p h k)) d := by
  unfold val_main_v192 turned
  refine (beside4 (n := 2) _ _ _ _ b p h d).trans ?_
  split
  · next e =>
    rw [val_main_v186_apply, val_main_v183_apply, val_main_v185_apply, val_main_v179_apply, val_main_v180_apply, val_main_v182_apply, val_main_v184_apply, val_main_v176_apply, val_main_v178_apply,
      same4 (idx_main_v179 _) (ix4 b p h d) rfl rfl rfl rfl, same4 (idx_main_v180 _) (ix4 b p h (d + 16)) rfl rfl rfl (above d e).symm,
      same2 (idx_main_v176 _) (ix2 p ⟨d.val, e⟩) rfl rfl, same2 (idx_main_v178 _) (ix2 p ⟨d.val, e⟩) rfl rfl]
    rfl
  · split
    · next e e' =>
      rw [val_main_v191_apply, val_main_v188_apply, val_main_v190_apply, val_main_v179_apply, val_main_v180_apply, val_main_v187_apply, val_main_v189_apply, val_main_v176_apply, val_main_v178_apply,
        same4 (idx_main_v179 _) (ix4 b p h (d - 16)) rfl rfl rfl (below d e).symm, same4 (idx_main_v180 _) (ix4 b p h d) rfl rfl rfl (show 16 + (d.val - 16) = d.val by omega),
        same2 (idx_main_v176 _) (ix2 p ⟨d.val - 16, by omega⟩) rfl rfl, same2 (idx_main_v178 _) (ix2 p ⟨d.val - 16, by omega⟩) rfl rfl]
      rfl
    · next e e' =>
      rw [val_main_v181_apply, same4 (idx_main_v181 _) (ix4 b p h d) rfl rfl rfl (show 32 + (d.val - 32) = d.val by omega)]

/-- One element of the queries. -/
theorem queries_at (R : Fin 16384) (h : Fin 8) (d : Fin 128) :
    val_main_v193 (F := Ideal) x0 x1 (ix2 R ⟨128 * h.val + d.val, by omega⟩)
      = turned (cosAt ⟨R.val % 4096, Nat.mod_lt _ (by decide)⟩) (sinAt ⟨R.val % 4096, Nat.mod_lt _ (by decide)⟩) (normal (columns x0 R ⟨0 + h.val, by omega⟩) (fun k => x1 (ix1 k))) d := by
  have hR : rowAt ⟨R.val / 4096, by omega⟩ ⟨R.val % 4096, Nat.mod_lt _ (by decide)⟩ = R := Fin.ext (by show 4096 * (R.val / 4096) + R.val % 4096 = R.val; omega)
  rw [val_main_v193_apply, same4 (idx_main_v193 _) (ix4 (⟨R.val / 4096, by omega⟩ : Fin 4) (⟨R.val % 4096, Nat.mod_lt _ (by decide)⟩ : Fin 4096) h d)
    (by show (R.val * 1024 + (128 * h.val + d.val)) / 4194304 = R.val / 4096; omega)
    (by show (R.val * 1024 + (128 * h.val + d.val)) / 1024 % 4096 = R.val % 4096; omega)
    (by show (R.val * 1024 + (128 * h.val + d.val)) / 128 % 8 = h.val; omega)
    (by show (R.val * 1024 + (128 * h.val + d.val)) % 128 = d.val; omega)]
  rw [queries_rotated]
  simp only [queries_normal x0, hR]

/-- One element of the keys to be compressed. -/
theorem cmp_keys_at (R : Fin 16384) (h : Fin 2) (d : Fin 128) :
    val_main_v194 (F := Ideal) x0 (ix2 R ⟨128 * h.val + d.val, by omega⟩)
      = turned (cosAt ⟨R.val % 4096, Nat.mod_lt _ (by decide)⟩) (sinAt ⟨R.val % 4096, Nat.mod_lt _ (by decide)⟩) (columns x0 R ⟨8 + h.val, by omega⟩) d := by
  have hR : rowAt ⟨R.val / 4096, by omega⟩ ⟨R.val % 4096, Nat.mod_lt _ (by decide)⟩ = R := Fin.ext (by show 4096 * (R.val / 4096) + R.val % 4096 = R.val; omega)
  rw [val_main_v194_apply, same4 (idx_main_v194 _) (ix4 (⟨R.val / 4096, by omega⟩ : Fin 4) (⟨R.val % 4096, Nat.mod_lt _ (by decide)⟩ : Fin 4096) h d)
    (by show (R.val * 256 + (128 * h.val + d.val)) / 1048576 = R.val / 4096; omega)
    (by show (R.val * 256 + (128 * h.val + d.val)) / 256 % 4096 = R.val % 4096; omega)
    (by show (R.val * 256 + (128 * h.val + d.val)) / 128 % 2 = h.val; omega)
    (by show (R.val * 256 + (128 * h.val + d.val)) % 128 = d.val; omega)]
  rw [cmp_keys_rotated]
  simp only [cmp_keys_split x0, hR]

/-- One element of the values to be compressed. -/
theorem cmp_values_at (R : Fin 16384) (h : Fin 2) (d : Fin 128) :
    val_main_v195 (F := Ideal) x0 (ix2 R ⟨128 * h.val + d.val, by omega⟩)
      = columns x0 R ⟨10 + h.val, by omega⟩ d := by
  have hR : rowAt ⟨R.val / 4096, by omega⟩ ⟨R.val % 4096, Nat.mod_lt _ (by decide)⟩ = R := Fin.ext (by show 4096 * (R.val / 4096) + R.val % 4096 = R.val; omega)
  rw [val_main_v195_apply, same4 (idx_main_v195 _) (ix4 (⟨R.val / 4096, by omega⟩ : Fin 4) (⟨R.val % 4096, Nat.mod_lt _ (by decide)⟩ : Fin 4096) h d)
    (by show (R.val * 256 + (128 * h.val + d.val)) / 1048576 = R.val / 4096; omega)
    (by show (R.val * 256 + (128 * h.val + d.val)) / 256 % 4096 = R.val % 4096; omega)
    (by show (R.val * 256 + (128 * h.val + d.val)) / 128 % 2 = h.val; omega)
    (by show (R.val * 256 + (128 * h.val + d.val)) % 128 = d.val; omega)]
  rw [cmp_values_split x0, hR]

/-- One element of the keys of the selection. -/
theorem slc_keys_at (R : Fin 16384) (h : Fin 2) (d : Fin 128) :
    val_main_v196 (F := Ideal) x0 x2 (ix2 R ⟨128 * h.val + d.val, by omega⟩)
      = turned (cosAt ⟨R.val % 4096, Nat.mod_lt _ (by decide)⟩) (sinAt ⟨R.val % 4096, Nat.mod_lt _ (by decide)⟩) (normal (columns x0 R ⟨12 + h.val, by omega⟩) (fun k => x2 (ix1 k))) d := by
  have hR : rowAt ⟨R.val / 4096, by omega⟩ ⟨R.val % 4096, Nat.mod_lt _ (by decide)⟩ = R := Fin.ext (by show 4096 * (R.val / 4096) + R.val % 4096 = R.val; omega)
  rw [val_main_v196_apply, same4 (idx_main_v196 _) (ix4 (⟨R.val / 4096, by omega⟩ : Fin 4) (⟨R.val % 4096, Nat.mod_lt _ (by decide)⟩ : Fin 4096) h d)
    (by show (R.val * 256 + (128 * h.val + d.val)) / 1048576 = R.val / 4096; omega)
    (by show (R.val * 256 + (128 * h.val + d.val)) / 256 % 4096 = R.val % 4096; omega)
    (by show (R.val * 256 + (128 * h.val + d.val)) / 128 % 2 = h.val; omega)
    (by show (R.val * 256 + (128 * h.val + d.val)) % 128 = d.val; omega)]
  rw [slc_keys_rotated]
  simp only [slc_keys_normal x0, hR]

/-- One element of the values of the selection. -/
theorem slc_values_at (R : Fin 16384) (h : Fin 2) (d : Fin 128) :
    val_main_v197 (F := Ideal) x0 (ix2 R ⟨128 * h.val + d.val, by omega⟩)
      = columns x0 R ⟨14 + h.val, by omega⟩ d := by
  have hR : rowAt ⟨R.val / 4096, by omega⟩ ⟨R.val % 4096, Nat.mod_lt _ (by decide)⟩ = R := Fin.ext (by show 4096 * (R.val / 4096) + R.val % 4096 = R.val; omega)
  rw [val_main_v197_apply, same4 (idx_main_v197 _) (ix4 (⟨R.val / 4096, by omega⟩ : Fin 4) (⟨R.val % 4096, Nat.mod_lt _ (by decide)⟩ : Fin 4096) h d)
    (by show (R.val * 256 + (128 * h.val + d.val)) / 1048576 = R.val / 4096; omega)
    (by show (R.val * 256 + (128 * h.val + d.val)) / 256 % 4096 = R.val % 4096; omega)
    (by show (R.val * 256 + (128 * h.val + d.val)) / 128 % 2 = h.val; omega)
    (by show (R.val * 256 + (128 * h.val + d.val)) % 128 = d.val; omega)]
  rw [slc_values_split x0, hR]

/-- One element of the keys of the window. -/
theorem win_keys_at (R : Fin 16384) (h : Fin 2) (d : Fin 128) :
    val_main_v198 (F := Ideal) x0 x3 (ix2 R ⟨128 * h.val + d.val, by omega⟩)
      = turned (cosAt ⟨R.val % 4096, Nat.mod_lt _ (by decide)⟩) (sinAt ⟨R.val % 4096, Nat.mod_lt _ (by decide)⟩) (normal (columns x0 R ⟨16 + h.val, by omega⟩) (fun k => x3 (ix1 k))) d := by
  have hR : rowAt ⟨R.val / 4096, by omega⟩ ⟨R.val % 4096, Nat.mod_lt _ (by decide)⟩ = R := Fin.ext (by show 4096 * (R.val / 4096) + R.val % 4096 = R.val; omega)
  rw [val_main_v198_apply, same4 (idx_main_v198 _) (ix4 (⟨R.val / 4096, by omega⟩ : Fin 4) (⟨R.val % 4096, Nat.mod_lt _ (by decide)⟩ : Fin 4096) h d)
    (by show (R.val * 256 + (128 * h.val + d.val)) / 1048576 = R.val / 4096; omega)
    (by show (R.val * 256 + (128 * h.val + d.val)) / 256 % 4096 = R.val % 4096; omega)
    (by show (R.val * 256 + (128 * h.val + d.val)) / 128 % 2 = h.val; omega)
    (by show (R.val * 256 + (128 * h.val + d.val)) % 128 = d.val; omega)]
  rw [win_keys_rotated]
  simp only [win_keys_normal x0, hR]

/-- One element of the values of the window. -/
theorem win_values_at (R : Fin 16384) (h : Fin 2) (d : Fin 128) :
    val_main_v199 (F := Ideal) x0 (ix2 R ⟨128 * h.val + d.val, by omega⟩)
      = columns x0 R ⟨18 + h.val, by omega⟩ d := by
  have hR : rowAt ⟨R.val / 4096, by omega⟩ ⟨R.val % 4096, Nat.mod_lt _ (by decide)⟩ = R := Fin.ext (by show 4096 * (R.val / 4096) + R.val % 4096 = R.val; omega)
  rw [val_main_v199_apply, same4 (idx_main_v199 _) (ix4 (⟨R.val / 4096, by omega⟩ : Fin 4) (⟨R.val % 4096, Nat.mod_lt _ (by decide)⟩ : Fin 4096) h d)
    (by show (R.val * 256 + (128 * h.val + d.val)) / 1048576 = R.val / 4096; omega)
    (by show (R.val * 256 + (128 * h.val + d.val)) / 256 % 4096 = R.val % 4096; omega)
    (by show (R.val * 256 + (128 * h.val + d.val)) / 128 % 2 = h.val; omega)
    (by show (R.val * 256 + (128 * h.val + d.val)) % 128 = d.val; omega)]
  rw [win_values_split x0, hR]

end Cert.Kernel3Ideal.Heads

end
-- ==== Proof.HeadArrays.lean ====
/-
  The heads, from blocks to whole arrays: the blocks the kernel writes back are those of the reference's seven results, and
  they cover the arrays. So the two launches end with equal results.
-/
module

public import proofs.«01_k».proof.Proof.HeadBlocks
public import proofs.«01_k».proof.Proof.HeadReference
public import proofs.«01_k».proof.Defs
public import proofs.«01_k».proof.Proof.Gen.Reference3Ideal

@[expose] public section

set_option maxRecDepth 16384

noncomputable section

namespace Cert.Kernel3Ideal.Heads

open Cert.Kernel3Ideal Cert.Kernel3Ideal.Gen Idealize.ShloMosaic Idealize.ShloMosaic.TcCoe Idealize.SL.Sem
open Idealize.ShloMosaic.Pipeline (Dat Cfg Window)

variable (m : (ℓ : Loc nD τ sig) → Buf (Elt Ideal) ℓ)

/-! ## Where the blocks lie -/

/-- Where each window stands at a point: the rows at the point's block, the tables at its block within a sequence. -/
theorem rows_window : ∀ t : Fin cfg0.N, win0_0.index t (0 : Fin 2) = t.val ∧ win0_0.index t (1 : Fin 2) = 0 :=
  (by decide +kernel : ∀ t : Fin grid0.N, _)

theorem table_windows : ∀ t : Fin cfg0.N, win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = t.val % 16 ∧ win0_3.index t (1 : Fin 2) = 0 :=
  (by decide +kernel : ∀ t : Fin grid0.N, _)

theorem gain_windows : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem result_windows : ∀ t : Fin cfg0.N, (win0_7.index t (0 : Fin 2) = t.val ∧ win0_7.index t (1 : Fin 2) = 0)
    ∧ (win0_8.index t (0 : Fin 2) = t.val ∧ win0_8.index t (1 : Fin 2) = 0) ∧ (win0_9.index t (0 : Fin 2) = t.val ∧ win0_9.index t (1 : Fin 2) = 0)
    ∧ (win0_10.index t (0 : Fin 2) = t.val ∧ win0_10.index t (1 : Fin 2) = 0) ∧ (win0_11.index t (0 : Fin 2) = t.val ∧ win0_11.index t (1 : Fin 2) = 0)
    ∧ (win0_12.index t (0 : Fin 2) = t.val ∧ win0_12.index t (1 : Fin 2) = 0) ∧ (win0_13.index t (0 : Fin 2) = t.val ∧ win0_13.index t (1 : Fin 2) = 0) :=
  (by decide +kernel : ∀ t : Fin grid0.N, _)

theorem point_lt (t : Fin cfg0.N) : t.val < 64 := lt_of_lt_of_eq t.isLt (show cfg0.N = 64 from N_0)

/-- The row of a block's row, and its position in its sequence. -/
abbrev row (t : Fin cfg0.N) (r : Fin 256) : Fin 16384 := ⟨256 * t.val + r.val, by have := point_lt t; omega⟩
abbrev place (t : Fin cfg0.N) (r : Fin 256) : Fin 4096 := ⟨(row t r).val % 4096, Nat.mod_lt _ (by decide)⟩

/-- The launch's arguments. -/
abbrev projected (c : Dev nD) : FVec Ideal S16384x2688 .f32 := m ((c : Thread nD τ).loc main_arg0)
abbrev gain1 (c : Dev nD) : FVec Ideal S128 .f32 := m ((c : Thread nD τ).loc main_arg1)
abbrev gain2 (c : Dev nD) : FVec Ideal S128 .f32 := m ((c : Thread nD τ).loc main_arg2)
abbrev gain3 (c : Dev nD) : FVec Ideal S128 .f32 := m ((c : Thread nD τ).loc main_arg3)

theorem rows_at (c : Dev nD) (t : Fin cfg0.N) (r : Fin 256) (k : Fin 20) (d : Fin 128) :
    (X0_0 m c t : Vec Ideal S256x2560 .f32) (ix2 r ⟨128 * k.val + d.val, head_lt k d⟩) = columns (projected m c) (row t r) k d := by
  obtain ⟨h0, h1⟩ := rows_window t
  unfold X0_0 Pipeline.Window.fill
  rw [dif_pos (moved0_0 t _)]
  unfold columns projected
  rw [← V_main_arg0 m c]
  show V m c main_arg0 _ = V m c main_arg0 _
  congr 1
  funext a
  apply Fin.ext
  match a with
  | ⟨0, _⟩ => show win0_0.index t 0 * 256 + 1 * r.val = 256 * t.val + r.val; rw [h0]; omega
  | ⟨1, _⟩ => show win0_0.index t 1 * 2560 + 1 * (128 * k.val + d.val) = 128 * k.val + d.val; rw [h1]; omega

theorem cosines_at (c : Dev nD) (t : Fin cfg0.N) (r : Fin 256) (d : Fin 128) :
    (iblk m c 1 t : Vec Ideal S256x128 .f32) (ix2 r d) = cosTable (F := Ideal) (ix2 (place t r) d) := by
  obtain ⟨h0, h1, -⟩ := table_windows t
  have ht := point_lt t
  rw [← V_cos m c]
  show V m c main_v20 _ = V m c main_v20 _
  congr 1
  funext a
  apply Fin.ext
  match a with
  | ⟨0, _⟩ => show win0_1.index t 0 * 256 + 1 * r.val = (256 * t.val + r.val) % 4096; rw [h0]; omega
  | ⟨1, _⟩ => show win0_1.index t 1 * 128 + 1 * d.val = d.val; rw [h1]; omega

theorem above_at (c : Dev nD) (t : Fin cfg0.N) (r : Fin 256) (d : Fin 128) :
    (iblk m c 2 t : Vec Ideal S256x128 .f32) (ix2 r d) = fromAbove (F := Ideal) (ix2 (place t r) d) := by
  obtain ⟨-, -, h0, h1, -⟩ := table_windows t
  have ht := point_lt t
  rw [← V_above m c]
  show V m c main_v23 _ = V m c main_v23 _
  congr 1
  funext a
  apply Fin.ext
  match a with
  | ⟨0, _⟩ => show win0_2.index t 0 * 256 + 1 * r.val = (256 * t.val + r.val) % 4096; rw [h0]; omega
  | ⟨1, _⟩ => show win0_2.index t 1 * 128 + 1 * d.val = d.val; rw [h1]; omega

theorem below_at (c : Dev nD) (t : Fin cfg0.N) (r : Fin 256) (d : Fin 128) :
    (iblk m c 3 t : Vec Ideal S256x128 .f32) (ix2 r d) = fromBelow (F := Ideal) (ix2 (place t r) d) := by
  obtain ⟨-, -, -, -, h0, h1⟩ := table_windows t
  have ht := point_lt t
  rw [← V_below m c]
  show V m c main_v26 _ = V m c main_v26 _
  congr 1
  funext a
  apply Fin.ext
  match a with
  | ⟨0, _⟩ => show win0_3.index t 0 * 256 + 1 * r.val = (256 * t.val + r.val) % 4096; rw [h0]; omega
  | ⟨1, _⟩ => show win0_3.index t 1 * 128 + 1 * d.val = d.val; rw [h1]; omega

set_option maxHeartbeats 2000000 in
theorem V_gain1 (c : Dev nD) : (V m c main_v27 : Vec Ideal S1x128 .f32) = shapeCast S1x128 (gain1 m c) shapeCasts_S128_S1x128 := by
  unfold V
  simp only [hostOps0]
  after_results_simp
  try dsimp only [Matrix.cons_val]
  try after_results_simp
  rfl

theorem gain1_at (c : Dev nD) (t : Fin cfg0.N) (d : Fin 128) : (iblk m c 4 t : Vec Ideal S1x128 .f32) (ix2 0 d) = gain1 m c (ix1 d) := by
  obtain ⟨h0, h1, -⟩ := gain_windows t
  have e : (V m c main_v27 : Vec Ideal S1x128 .f32) (ix2 0 d) = gain1 m c (ix1 d) := by
    rw [V_gain1]
    pointwise
  refine Eq.trans ?_ e
  show V m c main_v27 _ = V m c main_v27 _
  congr 1
  funext a
  apply Fin.ext
  match a with
  | ⟨0, _⟩ => show win0_4.index t 0 * 1 + 1 * 0 = 0; rw [h0]
  | ⟨1, _⟩ => show win0_4.index t 1 * 128 + 1 * d.val = d.val; rw [h1]; omega

set_option maxHeartbeats 2000000 in
theorem V_gain2 (c : Dev nD) : (V m c main_v28 : Vec Ideal S1x128 .f32) = shapeCast S1x128 (gain2 m c) shapeCasts_S128_S1x128 := by
  unfold V
  simp only [hostOps0]
  after_results_simp
  try dsimp only [Matrix.cons_val]
  try after_results_simp
  rfl

theorem gain2_at (c : Dev nD) (t : Fin cfg0.N) (d : Fin 128) : (iblk m c 5 t : Vec Ideal S1x128 .f32) (ix2 0 d) = gain2 m c (ix1 d) := by
  obtain ⟨-, -, h0, h1, -⟩ := gain_windows t
  have e : (V m c main_v28 : Vec Ideal S1x128 .f32) (ix2 0 d) = gain2 m c (ix1 d) := by
    rw [V_gain2]
    pointwise
  refine Eq.trans ?_ e
  show V m c main_v28 _ = V m c main_v28 _
  congr 1
  funext a
  apply Fin.ext
  match a with
  | ⟨0, _⟩ => show win0_5.index t 0 * 1 + 1 * 0 = 0; rw [h0]
  | ⟨1, _⟩ => show win0_5.index t 1 * 128 + 1 * d.val = d.val; rw [h1]; omega

set_option maxHeartbeats 2000000 in
theorem V_gain3 (c : Dev nD) : (V m c main_v29 : Vec Ideal S1x128 .f32) = shapeCast S1x128 (gain3 m c) shapeCasts_S128_S1x128 := by
  unfold V
  simp only [hostOps0]
  after_results_simp
  try dsimp only [Matrix.cons_val]
  try after_results_simp
  rfl

theorem gain3_at (c : Dev nD) (t : Fin cfg0.N) (d : Fin 128) : (iblk m c 6 t : Vec Ideal S1x128 .f32) (ix2 0 d) = gain3 m c (ix1 d) := by
  obtain ⟨-, -, -, -, h0, h1⟩ := gain_windows t
  have e : (V m c main_v29 : Vec Ideal S1x128 .f32) (ix2 0 d) = gain3 m c (ix1 d) := by
    rw [V_gain3]
    pointwise
  refine Eq.trans ?_ e
  show V m c main_v29 _ = V m c main_v29 _
  congr 1
  funext a
  apply Fin.ext
  match a with
  | ⟨0, _⟩ => show win0_6.index t 0 * 1 + 1 * 0 = 0; rw [h0]
  | ⟨1, _⟩ => show win0_6.index t 1 * 128 + 1 * d.val = d.val; rw [h1]; omega

/-- Two blocks with the same heads are one. -/
theorem ext_heads {α : Type} (n : ℕ) {f g : Shape.Idx ⟨2, ![256, 128 * n]⟩ → α}
    (h : ∀ (r : Fin 256) (k : Fin n) (d : Fin 128), f (ix2 r ⟨128 * k.val + d.val, head_lt k d⟩) = g (ix2 r ⟨128 * k.val + d.val, head_lt k d⟩)) : f = g :=
  funext fun j => by
    have l1 : (j 1).val < 128 * n := (j 1).isLt
    have e : j = ix2 (j 0) (⟨128 * (⟨(j 1).val / 128, by omega⟩ : Fin n).val + (⟨(j 1).val % 128, by omega⟩ : Fin 128).val, by
        show 128 * ((j 1).val / 128) + (j 1).val % 128 < 128 * n; omega⟩ : Fin (128 * n)) := same2 _ _ rfl (by
      show (j 1).val = 128 * ((j 1).val / 128) + (j 1).val % 128; omega)
    rw [e]
    exact h _ _ _

/-! ## The seven arrays -/

abbrev queries (c : Dev nD) : Buf (Elt Ideal) ((c : Thread nD τ).loc main_v30_0) :=
  Cert.Reference3Ideal.Read.val_main_v193 (F := Ideal) (projected m c) (gain1 m c)

theorem queries_written (c : Dev nD) (t : Fin cfg0.N) :
    (dats m 0 c).flushed 7 t = ((cfg0.win 7).blk t).view.read (Elt Ideal) (queries m c) := by
  rw [Value.flushed7_A]
  obtain ⟨⟨h0, h1⟩, -, -, -, -, -, -⟩ := result_windows t
  refine ext_heads 8 fun r k d => ?_
  refine (queries_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (X0_0 m c t) (iblk m c 1 t) (iblk m c 2 t) (iblk m c 3 t) (iblk m c 4 t) (iblk m c 5 t) (iblk m c 6 t)
    (fun r k d => columns (projected m c) (row t r) k d) (fun r => cosAt (place t r)) (fun r => sinAt (place t r)) (fun d => gain1 m c (ix1 d)) (rows_at m c t) (fun r d => (cosines_at m c t r d).trans (cosTable_apply _ _)) (fun r d => (above_at m c t r d).trans (fromAbove_apply _ _)) (fun r d => (below_at m c t r d).trans (fromBelow_apply _ _)) (gain1_at m c t) r k d).trans ?_
  refine ((queries_at (projected m c) (gain1 m c) (row t r) k d).symm).trans ?_
  show queries m c _ = queries m c _
  congr 1
  funext a
  apply Fin.ext
  match a with
  | ⟨0, _⟩ => show 256 * t.val + r.val = win0_7.index t 0 * 256 + 1 * r.val; rw [h0]; omega
  | ⟨1, _⟩ => show 128 * k.val + d.val = win0_7.index t 1 * 1024 + 1 * (128 * k.val + d.val); rw [h1]; omega

theorem queries_covered (i : S16384x1024.Idx) : ∃ t : Fin cfg0.N, (cfg0.win 7).flush t = true ∧ i ∈ ((cfg0.win 7).blk t).view.set := by
  have l0 : (i 0).val < 16384 := (i 0).isLt
  have l1 : (i 1).val < 1024 := (i 1).isLt
  let t : Fin cfg0.N := ⟨(i 0).val / 256, lt_of_lt_of_eq (by omega) N_0.symm⟩
  have et : t.val = (i 0).val / 256 := rfl
  obtain ⟨⟨h0, h1⟩, -, -, -, -, -, -⟩ := result_windows t
  refine ⟨t, flush0_7 t, ?_⟩
  show i ∈ ((View.whole main_v30_0).slice (win0_7.rect t)).set
  rw [View.set_slice_whole, Rect.mem_set_unit]
  intro a
  match a with
  | ⟨0, _⟩ =>
    show win0_7.index t (0 : Fin 2) * 256 ≤ (i 0).val ∧ (i 0).val < win0_7.index t (0 : Fin 2) * 256 + 256
    omega
  | ⟨1, _⟩ =>
    show win0_7.index t (1 : Fin 2) * 1024 ≤ (i 1).val ∧ (i 1).val < win0_7.index t (1 : Fin 2) * 1024 + 1024
    omega

theorem queries_array (c : Dev nD) : (dats m 0 c).arrAt 7 cfg0.N = queries m c :=
  (dats m 0 c).arrAt_eq_of_cover 7 _ (fun t _ => queries_written m c t) queries_covered

abbrev cmpKeys (c : Dev nD) : Buf (Elt Ideal) ((c : Thread nD τ).loc main_v30_1) :=
  Cert.Reference3Ideal.Read.val_main_v194 (F := Ideal) (projected m c)

theorem cmpKeys_written (c : Dev nD) (t : Fin cfg0.N) :
    (dats m 0 c).flushed 8 t = ((cfg0.win 8).blk t).view.read (Elt Ideal) (cmpKeys m c) := by
  rw [Value.flushed8_A]
  obtain ⟨-, ⟨h0, h1⟩, -, -, -, -, -⟩ := result_windows t
  refine ext_heads 2 fun r k d => ?_
  refine (cmp_keys_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (X0_0 m c t) (iblk m c 1 t) (iblk m c 2 t) (iblk m c 3 t) (iblk m c 4 t) (iblk m c 5 t) (iblk m c 6 t)
    (fun r k d => columns (projected m c) (row t r) k d) (fun r => cosAt (place t r)) (fun r => sinAt (place t r)) (rows_at m c t) (fun r d => (cosines_at m c t r d).trans (cosTable_apply _ _)) (fun r d => (above_at m c t r d).trans (fromAbove_apply _ _)) (fun r d => (below_at m c t r d).trans (fromBelow_apply _ _)) r k d).trans ?_
  refine ((cmp_keys_at (projected m c) (row t r) k d).symm).trans ?_
  show cmpKeys m c _ = cmpKeys m c _
  congr 1
  funext a
  apply Fin.ext
  match a with
  | ⟨0, _⟩ => show 256 * t.val + r.val = win0_8.index t 0 * 256 + 1 * r.val; rw [h0]; omega
  | ⟨1, _⟩ => show 128 * k.val + d.val = win0_8.index t 1 * 256 + 1 * (128 * k.val + d.val); rw [h1]; omega

theorem cmpKeys_covered (i : S16384x256.Idx) : ∃ t : Fin cfg0.N, (cfg0.win 8).flush t = true ∧ i ∈ ((cfg0.win 8).blk t).view.set := by
  have l0 : (i 0).val < 16384 := (i 0).isLt
  have l1 : (i 1).val < 256 := (i 1).isLt
  let t : Fin cfg0.N := ⟨(i 0).val / 256, lt_of_lt_of_eq (by omega) N_0.symm⟩
  have et : t.val = (i 0).val / 256 := rfl
  obtain ⟨-, ⟨h0, h1⟩, -, -, -, -, -⟩ := result_windows t
  refine ⟨t, flush0_8 t, ?_⟩
  show i ∈ ((View.whole main_v30_1).slice (win0_8.rect t)).set
  rw [View.set_slice_whole, Rect.mem_set_unit]
  intro a
  match a with
  | ⟨0, _⟩ =>
    show win0_8.index t (0 : Fin 2) * 256 ≤ (i 0).val ∧ (i 0).val < win0_8.index t (0 : Fin 2) * 256 + 256
    omega
  | ⟨1, _⟩ =>
    show win0_8.index t (1 : Fin 2) * 256 ≤ (i 1).val ∧ (i 1).val < win0_8.index t (1 : Fin 2) * 256 + 256
    omega

theorem cmpKeys_array (c : Dev nD) : (dats m 0 c).arrAt 8 cfg0.N = cmpKeys m c :=
  (dats m 0 c).arrAt_eq_of_cover 8 _ (fun t _ => cmpKeys_written m c t) cmpKeys_covered

abbrev cmpValues (c : Dev nD) : Buf (Elt Ideal) ((c : Thread nD τ).loc main_v30_2) :=
  Cert.Reference3Ideal.Read.val_main_v195 (F := Ideal) (projected m c)

theorem cmpValues_written (c : Dev nD) (t : Fin cfg0.N) :
    (dats m 0 c).flushed 9 t = ((cfg0.win 9).blk t).view.read (Elt Ideal) (cmpValues m c) := by
  rw [Value.flushed9_A]
  obtain ⟨-, -, ⟨h0, h1⟩, -, -, -, -⟩ := result_windows t
  refine ext_heads 2 fun r k d => ?_
  refine (cmp_values_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (X0_0 m c t) (iblk m c 1 t) (iblk m c 2 t) (iblk m c 3 t) (iblk m c 4 t) (iblk m c 5 t) (iblk m c 6 t)
    (fun r k d => columns (projected m c) (row t r) k d) (rows_at m c t) r k d).trans ?_
  refine ((cmp_values_at (projected m c) (row t r) k d).symm).trans ?_
  show cmpValues m c _ = cmpValues m c _
  congr 1
  funext a
  apply Fin.ext
  match a with
  | ⟨0, _⟩ => show 256 * t.val + r.val = win0_9.index t 0 * 256 + 1 * r.val; rw [h0]; omega
  | ⟨1, _⟩ => show 128 * k.val + d.val = win0_9.index t 1 * 256 + 1 * (128 * k.val + d.val); rw [h1]; omega

theorem cmpValues_covered (i : S16384x256.Idx) : ∃ t : Fin cfg0.N, (cfg0.win 9).flush t = true ∧ i ∈ ((cfg0.win 9).blk t).view.set := by
  have l0 : (i 0).val < 16384 := (i 0).isLt
  have l1 : (i 1).val < 256 := (i 1).isLt
  let t : Fin cfg0.N := ⟨(i 0).val / 256, lt_of_lt_of_eq (by omega) N_0.symm⟩
  have et : t.val = (i 0).val / 256 := rfl
  obtain ⟨-, -, ⟨h0, h1⟩, -, -, -, -⟩ := result_windows t
  refine ⟨t, flush0_9 t, ?_⟩
  show i ∈ ((View.whole main_v30_2).slice (win0_9.rect t)).set
  rw [View.set_slice_whole, Rect.mem_set_unit]
  intro a
  match a with
  | ⟨0, _⟩ =>
    show win0_9.index t (0 : Fin 2) * 256 ≤ (i 0).val ∧ (i 0).val < win0_9.index t (0 : Fin 2) * 256 + 256
    omega
  | ⟨1, _⟩ =>
    show win0_9.index t (1 : Fin 2) * 256 ≤ (i 1).val ∧ (i 1).val < win0_9.index t (1 : Fin 2) * 256 + 256
    omega

theorem cmpValues_array (c : Dev nD) : (dats m 0 c).arrAt 9 cfg0.N = cmpValues m c :=
  (dats m 0 c).arrAt_eq_of_cover 9 _ (fun t _ => cmpValues_written m c t) cmpValues_covered

abbrev slcKeys (c : Dev nD) : Buf (Elt Ideal) ((c : Thread nD τ).loc main_v30_3) :=
  Cert.Reference3Ideal.Read.val_main_v196 (F := Ideal) (projected m c) (gain2 m c)

theorem slcKeys_written (c : Dev nD) (t : Fin cfg0.N) :
    (dats m 0 c).flushed 10 t = ((cfg0.win 10).blk t).view.read (Elt Ideal) (slcKeys m c) := by
  rw [Value.flushed10_A]
  obtain ⟨-, -, -, ⟨h0, h1⟩, -, -, -⟩ := result_windows t
  refine ext_heads 2 fun r k d => ?_
  refine (slc_keys_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (X0_0 m c t) (iblk m c 1 t) (iblk m c 2 t) (iblk m c 3 t) (iblk m c 4 t) (iblk m c 5 t) (iblk m c 6 t)
    (fun r k d => columns (projected m c) (row t r) k d) (fun r => cosAt (place t r)) (fun r => sinAt (place t r)) (fun d => gain2 m c (ix1 d)) (rows_at m c t) (fun r d => (cosines_at m c t r d).trans (cosTable_apply _ _)) (fun r d => (above_at m c t r d).trans (fromAbove_apply _ _)) (fun r d => (below_at m c t r d).trans (fromBelow_apply _ _)) (gain2_at m c t) r k d).trans ?_
  refine ((slc_keys_at (projected m c) (gain2 m c) (row t r) k d).symm).trans ?_
  show slcKeys m c _ = slcKeys m c _
  congr 1
  funext a
  apply Fin.ext
  match a with
  | ⟨0, _⟩ => show 256 * t.val + r.val = win0_10.index t 0 * 256 + 1 * r.val; rw [h0]; omega
  | ⟨1, _⟩ => show 128 * k.val + d.val = win0_10.index t 1 * 256 + 1 * (128 * k.val + d.val); rw [h1]; omega

theorem slcKeys_covered (i : S16384x256.Idx) : ∃ t : Fin cfg0.N, (cfg0.win 10).flush t = true ∧ i ∈ ((cfg0.win 10).blk t).view.set := by
  have l0 : (i 0).val < 16384 := (i 0).isLt
  have l1 : (i 1).val < 256 := (i 1).isLt
  let t : Fin cfg0.N := ⟨(i 0).val / 256, lt_of_lt_of_eq (by omega) N_0.symm⟩
  have et : t.val = (i 0).val / 256 := rfl
  obtain ⟨-, -, -, ⟨h0, h1⟩, -, -, -⟩ := result_windows t
  refine ⟨t, flush0_10 t, ?_⟩
  show i ∈ ((View.whole main_v30_3).slice (win0_10.rect t)).set
  rw [View.set_slice_whole, Rect.mem_set_unit]
  intro a
  match a with
  | ⟨0, _⟩ =>
    show win0_10.index t (0 : Fin 2) * 256 ≤ (i 0).val ∧ (i 0).val < win0_10.index t (0 : Fin 2) * 256 + 256
    omega
  | ⟨1, _⟩ =>
    show win0_10.index t (1 : Fin 2) * 256 ≤ (i 1).val ∧ (i 1).val < win0_10.index t (1 : Fin 2) * 256 + 256
    omega

theorem slcKeys_array (c : Dev nD) : (dats m 0 c).arrAt 10 cfg0.N = slcKeys m c :=
  (dats m 0 c).arrAt_eq_of_cover 10 _ (fun t _ => slcKeys_written m c t) slcKeys_covered

abbrev slcValues (c : Dev nD) : Buf (Elt Ideal) ((c : Thread nD τ).loc main_v30_4) :=
  Cert.Reference3Ideal.Read.val_main_v197 (F := Ideal) (projected m c)

theorem slcValues_written (c : Dev nD) (t : Fin cfg0.N) :
    (dats m 0 c).flushed 11 t = ((cfg0.win 11).blk t).view.read (Elt Ideal) (slcValues m c) := by
  rw [Value.flushed11_A]
  obtain ⟨-, -, -, -, ⟨h0, h1⟩, -, -⟩ := result_windows t
  refine ext_heads 2 fun r k d => ?_
  refine (slc_values_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (X0_0 m c t) (iblk m c 1 t) (iblk m c 2 t) (iblk m c 3 t) (iblk m c 4 t) (iblk m c 5 t) (iblk m c 6 t)
    (fun r k d => columns (projected m c) (row t r) k d) (rows_at m c t) r k d).trans ?_
  refine ((slc_values_at (projected m c) (row t r) k d).symm).trans ?_
  show slcValues m c _ = slcValues m c _
  congr 1
  funext a
  apply Fin.ext
  match a with
  | ⟨0, _⟩ => show 256 * t.val + r.val = win0_11.index t 0 * 256 + 1 * r.val; rw [h0]; omega
  | ⟨1, _⟩ => show 128 * k.val + d.val = win0_11.index t 1 * 256 + 1 * (128 * k.val + d.val); rw [h1]; omega

theorem slcValues_covered (i : S16384x256.Idx) : ∃ t : Fin cfg0.N, (cfg0.win 11).flush t = true ∧ i ∈ ((cfg0.win 11).blk t).view.set := by
  have l0 : (i 0).val < 16384 := (i 0).isLt
  have l1 : (i 1).val < 256 := (i 1).isLt
  let t : Fin cfg0.N := ⟨(i 0).val / 256, lt_of_lt_of_eq (by omega) N_0.symm⟩
  have et : t.val = (i 0).val / 256 := rfl
  obtain ⟨-, -, -, -, ⟨h0, h1⟩, -, -⟩ := result_windows t
  refine ⟨t, flush0_11 t, ?_⟩
  show i ∈ ((View.whole main_v30_4).slice (win0_11.rect t)).set
  rw [View.set_slice_whole, Rect.mem_set_unit]
  intro a
  match a with
  | ⟨0, _⟩ =>
    show win0_11.index t (0 : Fin 2) * 256 ≤ (i 0).val ∧ (i 0).val < win0_11.index t (0 : Fin 2) * 256 + 256
    omega
  | ⟨1, _⟩ =>
    show win0_11.index t (1 : Fin 2) * 256 ≤ (i 1).val ∧ (i 1).val < win0_11.index t (1 : Fin 2) * 256 + 256
    omega

theorem slcValues_array (c : Dev nD) : (dats m 0 c).arrAt 11 cfg0.N = slcValues m c :=
  (dats m 0 c).arrAt_eq_of_cover 11 _ (fun t _ => slcValues_written m c t) slcValues_covered

abbrev winKeys (c : Dev nD) : Buf (Elt Ideal) ((c : Thread nD τ).loc main_v30_5) :=
  Cert.Reference3Ideal.Read.val_main_v198 (F := Ideal) (projected m c) (gain3 m c)

theorem winKeys_written (c : Dev nD) (t : Fin cfg0.N) :
    (dats m 0 c).flushed 12 t = ((cfg0.win 12).blk t).view.read (Elt Ideal) (winKeys m c) := by
  rw [Value.flushed12_A]
  obtain ⟨-, -, -, -, -, ⟨h0, h1⟩, -⟩ := result_windows t
  refine ext_heads 2 fun r k d => ?_
  refine (win_keys_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (X0_0 m c t) (iblk m c 1 t) (iblk m c 2 t) (iblk m c 3 t) (iblk m c 4 t) (iblk m c 5 t) (iblk m c 6 t)
    (fun r k d => columns (projected m c) (row t r) k d) (fun r => cosAt (place t r)) (fun r => sinAt (place t r)) (fun d => gain3 m c (ix1 d)) (rows_at m c t) (fun r d => (cosines_at m c t r d).trans (cosTable_apply _ _)) (fun r d => (above_at m c t r d).trans (fromAbove_apply _ _)) (fun r d => (below_at m c t r d).trans (fromBelow_apply _ _)) (gain3_at m c t) r k d).trans ?_
  refine ((win_keys_at (projected m c) (gain3 m c) (row t r) k d).symm).trans ?_
  show winKeys m c _ = winKeys m c _
  congr 1
  funext a
  apply Fin.ext
  match a with
  | ⟨0, _⟩ => show 256 * t.val + r.val = win0_12.index t 0 * 256 + 1 * r.val; rw [h0]; omega
  | ⟨1, _⟩ => show 128 * k.val + d.val = win0_12.index t 1 * 256 + 1 * (128 * k.val + d.val); rw [h1]; omega

theorem winKeys_covered (i : S16384x256.Idx) : ∃ t : Fin cfg0.N, (cfg0.win 12).flush t = true ∧ i ∈ ((cfg0.win 12).blk t).view.set := by
  have l0 : (i 0).val < 16384 := (i 0).isLt
  have l1 : (i 1).val < 256 := (i 1).isLt
  let t : Fin cfg0.N := ⟨(i 0).val / 256, lt_of_lt_of_eq (by omega) N_0.symm⟩
  have et : t.val = (i 0).val / 256 := rfl
  obtain ⟨-, -, -, -, -, ⟨h0, h1⟩, -⟩ := result_windows t
  refine ⟨t, flush0_12 t, ?_⟩
  show i ∈ ((View.whole main_v30_5).slice (win0_12.rect t)).set
  rw [View.set_slice_whole, Rect.mem_set_unit]
  intro a
  match a with
  | ⟨0, _⟩ =>
    show win0_12.index t (0 : Fin 2) * 256 ≤ (i 0).val ∧ (i 0).val < win0_12.index t (0 : Fin 2) * 256 + 256
    omega
  | ⟨1, _⟩ =>
    show win0_12.index t (1 : Fin 2) * 256 ≤ (i 1).val ∧ (i 1).val < win0_12.index t (1 : Fin 2) * 256 + 256
    omega

theorem winKeys_array (c : Dev nD) : (dats m 0 c).arrAt 12 cfg0.N = winKeys m c :=
  (dats m 0 c).arrAt_eq_of_cover 12 _ (fun t _ => winKeys_written m c t) winKeys_covered

abbrev winValues (c : Dev nD) : Buf (Elt Ideal) ((c : Thread nD τ).loc main_v30_6) :=
  Cert.Reference3Ideal.Read.val_main_v199 (F := Ideal) (projected m c)

theorem winValues_written (c : Dev nD) (t : Fin cfg0.N) :
    (dats m 0 c).flushed 13 t = ((cfg0.win 13).blk t).view.read (Elt Ideal) (winValues m c) := by
  rw [Value.flushed13_A]
  obtain ⟨-, -, -, -, -, -, ⟨h0, h1⟩⟩ := result_windows t
  refine ext_heads 2 fun r k d => ?_
  refine (win_values_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (X0_0 m c t) (iblk m c 1 t) (iblk m c 2 t) (iblk m c 3 t) (iblk m c 4 t) (iblk m c 5 t) (iblk m c 6 t)
    (fun r k d => columns (projected m c) (row t r) k d) (rows_at m c t) r k d).trans ?_
  refine ((win_values_at (projected m c) (row t r) k d).symm).trans ?_
  show winValues m c _ = winValues m c _
  congr 1
  funext a
  apply Fin.ext
  match a with
  | ⟨0, _⟩ => show 256 * t.val + r.val = win0_13.index t 0 * 256 + 1 * r.val; rw [h0]; omega
  | ⟨1, _⟩ => show 128 * k.val + d.val = win0_13.index t 1 * 256 + 1 * (128 * k.val + d.val); rw [h1]; omega

theorem winValues_covered (i : S16384x256.Idx) : ∃ t : Fin cfg0.N, (cfg0.win 13).flush t = true ∧ i ∈ ((cfg0.win 13).blk t).view.set := by
  have l0 : (i 0).val < 16384 := (i 0).isLt
  have l1 : (i 1).val < 256 := (i 1).isLt
  let t : Fin cfg0.N := ⟨(i 0).val / 256, lt_of_lt_of_eq (by omega) N_0.symm⟩
  have et : t.val = (i 0).val / 256 := rfl
  obtain ⟨-, -, -, -, -, -, ⟨h0, h1⟩⟩ := result_windows t
  refine ⟨t, flush0_13 t, ?_⟩
  show i ∈ ((View.whole main_v30_6).slice (win0_13.rect t)).set
  rw [View.set_slice_whole, Rect.mem_set_unit]
  intro a
  match a with
  | ⟨0, _⟩ =>
    show win0_13.index t (0 : Fin 2) * 256 ≤ (i 0).val ∧ (i 0).val < win0_13.index t (0 : Fin 2) * 256 + 256
    omega
  | ⟨1, _⟩ =>
    show win0_13.index t (1 : Fin 2) * 256 ≤ (i 1).val ∧ (i 1).val < win0_13.index t (1 : Fin 2) * 256 + 256
    omega

theorem winValues_array (c : Dev nD) : (dats m 0 c).arrAt 13 cfg0.N = winValues m c :=
  (dats m 0 c).arrAt_eq_of_cover 13 _ (fun t _ => winValues_written m c t) winValues_covered

/-! ## The claim -/

/-- The heads' kernel and its reference end with equal results. -/
theorem same_result : Cert.algebraic_Kernel3Ideal_Reference3Ideal (hKernel3Ideal := Gen.facts) (hReference3Ideal := Cert.Reference3Ideal.Gen.facts) := by
  intro m g m' g' _ hagree
  refine ⟨queries m, cmpKeys m, cmpValues m, slcKeys m, slcValues m, winKeys m, winValues m, ?_, ?_⟩
  · refine (θ_run _ _ _).mono (fun r h c => ?_) (Value.run_blocks m g)
    obtain ⟨h0, h1, h2, h3, h4, h5, h6, hk⟩ := h c
    exact ⟨h0.trans (queries_array m c), h1.trans (cmpKeys_array m c), h2.trans (cmpValues_array m c), h3.trans (slcKeys_array m c), h4.trans (slcValues_array m c), h5.trans (winKeys_array m c), h6.trans (winValues_array m c), hk⟩
  · refine (θ_run _ _ _).mono (fun r h c => ?_) (Cert.Reference3Ideal.Value.run m' g')
    obtain ⟨h0, h1, h2, h3, h4, h5, h6, hk⟩ := h c
    obtain ⟨a0, a1, a2, a3⟩ := hagree c
    refine ⟨h0.trans ((Cert.Reference3Ideal.Read.val_main_v193_eq _).trans ?_), h1.trans ((Cert.Reference3Ideal.Read.val_main_v194_eq _).trans ?_), h2.trans ((Cert.Reference3Ideal.Read.val_main_v195_eq _).trans ?_), h3.trans ((Cert.Reference3Ideal.Read.val_main_v196_eq _).trans ?_), h4.trans ((Cert.Reference3Ideal.Read.val_main_v197_eq _).trans ?_), h5.trans ((Cert.Reference3Ideal.Read.val_main_v198_eq _).trans ?_), h6.trans ((Cert.Reference3Ideal.Read.val_main_v199_eq _).trans ?_), hk⟩
    · show Cert.Reference3Ideal.Read.val_main_v193 (F := Ideal) (m' (c.tc.loc Cert.Reference3Ideal.main_arg0)) (m' (c.tc.loc Cert.Reference3Ideal.main_arg1)) = queries m c
      rw [a0, a1]
    · show Cert.Reference3Ideal.Read.val_main_v194 (F := Ideal) (m' (c.tc.loc Cert.Reference3Ideal.main_arg0)) = cmpKeys m c
      rw [a0]
    · show Cert.Reference3Ideal.Read.val_main_v195 (F := Ideal) (m' (c.tc.loc Cert.Reference3Ideal.main_arg0)) = cmpValues m c
      rw [a0]
    · show Cert.Reference3Ideal.Read.val_main_v196 (F := Ideal) (m' (c.tc.loc Cert.Reference3Ideal.main_arg0)) (m' (c.tc.loc Cert.Reference3Ideal.main_arg2)) = slcKeys m c
      rw [a0, a2]
    · show Cert.Reference3Ideal.Read.val_main_v197 (F := Ideal) (m' (c.tc.loc Cert.Reference3Ideal.main_arg0)) = slcValues m c
      rw [a0]
    · show Cert.Reference3Ideal.Read.val_main_v198 (F := Ideal) (m' (c.tc.loc Cert.Reference3Ideal.main_arg0)) (m' (c.tc.loc Cert.Reference3Ideal.main_arg3)) = winKeys m c
      rw [a0, a3]
    · show Cert.Reference3Ideal.Read.val_main_v199 (F := Ideal) (m' (c.tc.loc Cert.Reference3Ideal.main_arg0)) = winValues m c
      rw [a0]

end Cert.Kernel3Ideal.Heads

end
-- ==== Proof.NormFeatures.lean ====
/-
  The projection's other columns, those of the recurrence's features: as in `NormMatmul.lean`, in blocks of 512 rows by 896
  columns, of which there are four to a row block.
-/
module

public import proofs.«01_k».proof.Proof.Gen.Kernel4Ideal.Value
public import proofs.«01_k».proof.Proof.Gen.Reference4Ideal.Read
public import Idealize.ShloMosaic.Lib.Pointwise
public import Idealize.ShloMosaic.Lib.Claim
public import proofs.«01_k».proof.Defs
public import proofs.«01_k».proof.Proof.NormMatmul
public import proofs.«01_k».proof.Proof.Gen.Reference4Ideal

@[expose] public section

set_option maxRecDepth 16384

noncomputable section

namespace Cert.Kernel4Ideal.Projection

open Cert.Kernel4Ideal Cert.Kernel4Ideal.Gen Idealize.ShloMosaic Idealize.ShloMosaic.TcCoe Idealize.SL.Sem
open Idealize.ShloMosaic.Pipeline (Dat Cfg Window)
open Cert.Kernel2Ideal.Projection (off2 ext2)

section Blocks

variable {F : FTy → Type} [FloatOps F]

/-- At a row block's first point the result's block is the product of the rows normalised there. -/
theorem result_first (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x896 .bf16) (h4 : a4.IsWhole)
    (a5 : Memref sig .tc .vmem S512x896 .f32) (h5 : a5.IsWhole) (a6 : Memref sig .tc .vmem S512x2048 .bf16) (h6 : a6.IsWhole)
    (hc : cond0_0 i) (x : Vec F S512x2048 .f32) (g : Vec F S1x2048 .f32) (w : Vec F S2048x896 .bf16) :
    out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero off2, View.readCov_unit_zero (S := S512x2048) _ off2]
  simp only [View.readAt_eq_ld, h2.read_unread, h3.read_unread, h4.read_unread, View.ld_unit_zero (S := S512x2048) off2,
    View.ld_unit_zero (S := S1x2048) off2, View.ld_unit_zero (S := S2048x896) off2]

/-- … and the scratch holds those rows. -/
theorem scratch_first (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x896 .bf16) (h4 : a4.IsWhole)
    (a5 : Memref sig .tc .vmem S512x896 .f32) (h5 : a5.IsWhole) (a6 : Memref sig .tc .vmem S512x2048 .bf16) (h6 : a6.IsWhole)
    (hc : cond0_0 i) (x : Vec F S512x2048 .f32) (g : Vec F S1x2048 .f32) (w : Vec F S2048x896 .bf16) :
    sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  try sl_unfold_words
  rw [View.canon_unit_zero off2]
  simp only [View.readAt_eq_ld, h2.read_unread, h3.read_unread, View.ld_unit_zero (S := S512x2048) off2,
    View.ld_unit_zero (S := S1x2048) off2]

/-- At the later points of a row block the result's block is the product of the rows the scratch holds. -/
theorem result_later (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x896 .bf16) (h4 : a4.IsWhole)
    (a5 : Memref sig .tc .vmem S512x896 .f32) (h5 : a5.IsWhole) (a6 : Memref sig .tc .vmem S512x2048 .bf16) (h6 : a6.IsWhole)
    (hc : ¬cond0_0 i) (x : Vec F S512x2048 .f32) (g : Vec F S1x2048 .f32) (w : Vec F S2048x896 .bf16) (s : Vec F S512x2048 .bf16) :
    out0_B_3 c i a2 h2 a3 h3 a4 h4 a5 h5 a6 h6 hc x g w s = k0_pay2 s w := by
  unfold out0_B_3
  rw [View.read_writes_eq_canon _ _ _ (cover0_B_3 c i a2 h2 a3 h3 a4 h4 a5 h5 a6 h6 hc x g w s)]
  unfold kernelRun0_B
  dsimp only
  try sl_unfold_words
  rw [View.canon_unit_zero off2]
  simp only [View.readAt_eq_ld, h4.read_unread, h6.read_unread, View.ld_unit_zero (S := S512x2048) off2,
    View.ld_unit_zero (S := S2048x896) off2]

variable (m : (ℓ : Loc nD τ sig) → Buf (Elt F) ℓ)

/-- Where each window stands at a point: the row block is the point's quotient by 4, the column block its remainder. -/
theorem window_at : ∀ t : Fin cfg0.N, win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = t.val % 4 :=
  (by decide +kernel : ∀ t : Fin grid0.N, _)

theorem point_lt (t : Fin cfg0.N) : t.val < 128 := lt_of_lt_of_eq t.isLt (show cfg0.N = 128 from N_0)

/-- A block of rows read from the array. -/
theorem rows_at (c : Dev nD) (t : Fin cfg0.N) (r : Fin 512) (k : Fin 2048) :
    (iblk m c 0 t : Vec F S512x2048 .f32) (ix2 r k)
      = m ((c : Thread nD τ).loc main_arg0) (ix2 (⟨512 * (t.val / 4) + r.val, by have := point_lt t; omega⟩ : Fin 16384) k) := by
  obtain ⟨h0, h1, -⟩ := window_at t
  rw [← V_main_arg0 m c]
  show V m c main_arg0 _ = V m c main_arg0 _
  congr 1
  funext a
  apply Fin.ext
  match a with
  | ⟨0, _⟩ => show win0_0.index t 0 * 512 + 1 * r.val = 512 * (t.val / 4) + r.val; rw [h0]; omega
  | ⟨1, _⟩ => show win0_0.index t 1 * 2048 + 1 * k.val = k.val; rw [h1]; omega

/-- The reshaped gains, as the region finds them. -/
theorem V_main_v0 (c : Dev nD) (k : Fin 2048) :
    (V m c main_v0 : Vec F S1x2048 .f32) (ix2 0 k) = m ((c : Thread nD τ).loc main_arg1) (ix1 k) := by
  have e : (V m c main_v0 : Vec F S1x2048 .f32) = shapeCast S1x2048 (m ((c : Thread nD τ).loc main_arg1) : Vec F S2048 .f32) shapeCasts_S2048_S1x2048 := by
    show (StableHlo.reshape (τ := τ) (Val := Elt F) main_arg1 main_v0 (rfl : (.f32 : EltTy) = .f32) shapeCasts_S2048_S1x2048).result
      (fun b => m (c, b)) (Proc.devRef .tc main_v0) = _
    exact StableHlo.reshape_result' ..
  rw [e]
  pointwise

theorem gains_at (c : Dev nD) (t : Fin cfg0.N) (k : Fin 2048) :
    (iblk m c 1 t : Vec F S1x2048 .f32) (ix2 0 k) = m ((c : Thread nD τ).loc main_arg1) (ix1 k) := by
  obtain ⟨-, -, h0, h1, -⟩ := window_at t
  rw [← V_main_v0 m c]
  show V m c main_v0 _ = V m c main_v0 _
  congr 1
  funext a
  apply Fin.ext
  match a with
  | ⟨0, _⟩ => show win0_1.index t 0 * 1 + 1 * 0 = 0; rw [h0]
  | ⟨1, _⟩ => show win0_1.index t 1 * 2048 + 1 * k.val = k.val; rw [h1]; omega

/-- A block of columns of the matrix. -/
theorem columns_at (c : Dev nD) (t : Fin cfg0.N) (k : Fin 2048) (q : Fin 896) :
    (iblk m c 2 t : Vec F S2048x896 .bf16) (ix2 k q)
      = m ((c : Thread nD τ).loc main_arg2) (ix2 k (⟨896 * (t.val % 4) + q.val, by omega⟩ : Fin 3584)) := by
  obtain ⟨-, -, -, -, h0, h1, -⟩ := window_at t
  rw [← V_main_arg2 m c]
  show V m c main_arg2 _ = V m c main_arg2 _
  congr 1
  funext a
  apply Fin.ext
  match a with
  | ⟨0, _⟩ => show win0_2.index t 0 * 2048 + 1 * k.val = k.val; rw [h0]; omega
  | ⟨1, _⟩ => show win0_2.index t 1 * 896 + 1 * q.val = 896 * (t.val % 4) + q.val; rw [h1]; omega

/-- Two points of one row block read the same rows and gains. -/
theorem rows_same (c : Dev nD) (t t' : Fin cfg0.N) (h : t.val / 4 = t'.val / 4) :
    (iblk m c 0 t : Vec F S512x2048 .f32) = iblk m c 0 t' :=
  ext2 fun r k => (rows_at m c t r k).trans (by simp only [h]; exact (rows_at m c t' r k).symm)

theorem gains_same (c : Dev nD) (t t' : Fin cfg0.N) : (iblk m c 1 t : Vec F S1x2048 .f32) = iblk m c 1 t' :=
  ext2 fun r k => by
    obtain rfl : r = 0 := Subsingleton.elim _ _
    exact (gains_at m c t k).trans (gains_at m c t' k).symm

/-- After every point the scratch holds the normalised rows of the point's row block. -/
theorem scratch_after (c : Dev nD) : ∀ (n : ℕ) (h : n < cfg0.N),
    (outsAt0 m c n h).2 = k0_pay1 (F := F) (iblk m c 0 ⟨n, h⟩) (iblk m c 1 ⟨n, h⟩) := by
  intro n
  induction n with
  | zero =>
    intro h
    rw [outsAt0_A m c ⟨0, h⟩ rfl]
    dsimp only
    rw [scratch_first]
  | succ n ih =>
    intro h
    by_cases h0 : (n + 1) % 4 = 0
    · rw [outsAt0_A m c ⟨n + 1, h⟩ h0]
      dsimp only
      rw [scratch_first]
    · have hn : n < cfg0.N := Nat.lt_of_succ_lt h
      rw [outsAt0_B m c ⟨n + 1, h⟩ h0, rows_same m c ⟨n + 1, h⟩ ⟨n, hn⟩ (by show (n + 1) / 4 = n / 4; omega),
        gains_same m c ⟨n + 1, h⟩ ⟨n, hn⟩]
      exact ih hn

/-- After every point the result's block is the product of the normalised rows with the point's columns. -/
theorem result_after (c : Dev nD) (t : Fin cfg0.N) :
    (outsAt0 m c t.val t.isLt).1 = k0_pay2 (F := F) (k0_pay1 (iblk m c 0 t) (iblk m c 1 t)) (iblk m c 2 t) := by
  by_cases h0 : t.val % 4 = 0
  · rw [outsAt0_A m c t h0]
    dsimp only
    rw [result_first]
  · have hn : t.val - 1 < cfg0.N := by have := t.isLt; omega
    rw [outsAt0_B m c t h0]
    dsimp only
    rw [result_later, scratch_after m c (t.val - 1) hn, rows_same m c ⟨t.val - 1, hn⟩ t (by show (t.val - 1) / 4 = t.val / 4; omega),
      gains_same m c ⟨t.val - 1, hn⟩ t]

end Blocks

/-! ## One element -/

open Cert.Reference4Ideal.Read in
/-- One element of a block, from blocks that are parts of whole arrays: the element of the reference's product. -/
theorem element (x : FVec Ideal S16384x2048 .f32) (g : FVec Ideal S2048 .f32) (w : FVec Ideal S2048x3584 .bf16)
    (xb : Vec Ideal S512x2048 .f32) (gb : Vec Ideal S1x2048 .f32) (wb : Vec Ideal S2048x896 .bf16)
    (R : Fin 16384) (C : Fin 3584) (r : Fin 512) (q : Fin 896)
    (hx : ∀ k : Fin 2048, xb (ix2 r k) = x (ix2 R k)) (hg : ∀ k : Fin 2048, gb (ix2 0 k) = g (ix1 k))
    (hw : ∀ k : Fin 2048, wb (ix2 k q) = w (ix2 k C)) :
    k0_pay2 (k0_pay1 xb gb) wb (ix2 r q) = val_main_v14 (F := Ideal) x g w (ix2 R C) := by
  pointwise [k0_pay2, k0_pay1]
  rw [val_main_v14_apply]
  simp only [val_main_v0_apply, val_main_v1_apply, val_main_v2_apply, val_main_v3_apply, val_main_v4_apply, val_main_v5_apply,
    val_main_v6_apply, val_main_v7_apply, val_main_v8_apply, val_main_v9_apply, val_main_v10_apply, val_main_v11_apply,
    val_main_v12_apply, val_main_v13_apply, val_main_cst_apply, val_main_cst_0_apply, val_main_cst_1_apply, pointwise]
  have e1 : ∀ k : Fin 2048, lidx_main_v14 (ix2 R C) k = ix2 R k := fun k => funext fun a => by
    match a with
    | ⟨0, _⟩ => rfl
    | ⟨1, _⟩ => rfl
  have e2 : ∀ k : Fin 2048, ridx_main_v14 (ix2 R C) k = ix2 k C := fun k => funext fun a => by
    match a with
    | ⟨0, _⟩ => rfl
    | ⟨1, _⟩ => rfl
  have e3 : ∀ k k' : Fin 2048, idx_main_v1 (idx_main_v2 (idx_main_v8 (ix2 R k))) k' = ix2 R k' := fun k k' => funext fun a => by
    match a with
    | ⟨0, _⟩ => rfl
    | ⟨1, _⟩ => rfl
  have e4 : ∀ k : Fin 2048, idx_main_v10 (idx_main_v11 (ix2 R k)) = ix1 k := fun k => funext fun a => by
    match a with
    | ⟨0, _⟩ => rfl
  simp only [e1, e2, e3, e4, hx, hg, hw, zero_add]

/-! ## The whole array -/

section Whole

variable (m : (ℓ : Loc nD τ sig) → Buf (Elt Ideal) ℓ)

/-- The reference's product of the launch's arguments. -/
abbrev product (c : Dev nD) : Buf (Elt Ideal) ((c : Thread nD τ).loc main_v1) :=
  Cert.Reference4Ideal.Read.val_main_v14 (F := Ideal) (m ((c : Thread nD τ).loc main_arg0)) (m ((c : Thread nD τ).loc main_arg1))
    (m ((c : Thread nD τ).loc main_arg2))

/-- A point writes back its block of the product. -/
theorem written_back (c : Dev nD) (t : Fin cfg0.N) :
    (dats m 0 c).flushed 3 t = ((cfg0.win 3).blk t).view.read (Elt Ideal) (product m c) := by
  rw [Value.flushed3, result_after]
  obtain ⟨-, -, -, -, -, -, h0, h1⟩ := window_at t
  have ht := point_lt t
  refine ext2 (a := 512) (b := 896) (f := k0_pay2 (F := Ideal) (k0_pay1 (iblk m c 0 t) (iblk m c 1 t)) (iblk m c 2 t)) fun r q => ?_
  refine (element (m ((c : Thread nD τ).loc main_arg0)) (m ((c : Thread nD τ).loc main_arg1)) (m ((c : Thread nD τ).loc main_arg2)) _ _ _
    (⟨512 * (t.val / 4) + r.val, by omega⟩ : Fin 16384) (⟨896 * (t.val % 4) + q.val, by omega⟩ : Fin 3584) r q
    (fun k => rows_at m c t r k) (fun k => gains_at m c t k) (fun k => columns_at m c t k q)).trans ?_
  show product m c _ = product m c _
  congr 1
  funext a
  apply Fin.ext
  match a with
  | ⟨0, _⟩ => show 512 * (t.val / 4) + r.val = win0_3.index t 0 * 512 + 1 * r.val; rw [h0]; omega
  | ⟨1, _⟩ => show 896 * (t.val % 4) + q.val = win0_3.index t 1 * 896 + 1 * q.val; rw [h1]; omega

theorem array (c : Dev nD) : (dats m 0 c).arrAt 3 cfg0.N = product m c :=
  (dats m 0 c).arrAt_eq_of_cover 3 _ (fun t _ => written_back m c t) fun i => (Value.covered_iff3 i).2 (by
    have h0 : (i 0).val < 16384 := (i 0).isLt; have h1 : (i 1).val < 3584 := (i 1).isLt; omega)

end Whole

/-- The projection's kernel and its reference end with equal results. -/
theorem same_result : Cert.algebraic_Kernel4Ideal_Reference4Ideal (hKernel4Ideal := Gen.facts) (hReference4Ideal := Cert.Reference4Ideal.Gen.facts) := by
  intro m g m' g' _ hagree
  refine ⟨product m, ?_, ?_⟩
  · exact (θ_run _ _ _).mono (fun r h c => ⟨(h c).1.trans (array m c), (h c).2⟩) (Value.run_blocks m g)
  · refine (θ_run _ _ _).mono (fun r h c => ⟨?_, (h c).2⟩) (Cert.Reference4Ideal.Value.run m' g')
    refine (h c).1.trans ((Cert.Reference4Ideal.Read.val_main_v14_eq _ _ _).trans ?_)
    rw [(hagree c).1, (hagree c).2.1, (hagree c).2.2]

end Cert.Kernel4Ideal.Projection

end
-- ==== Proof.NormQueries.lean ====
/-
  The expert layer's queries: each row of the layer's middle normalised and scaled by the second gains, times the query
  matrix. As in `NormMatmul.lean`, in blocks of 512 rows by 512 columns, of which there are four to a row block.
-/
module

public import proofs.«01_k».proof.Proof.Gen.Kernel5Ideal.Value
public import proofs.«01_k».proof.Proof.Gen.Reference5Ideal.Read
public import Idealize.ShloMosaic.Lib.Pointwise
public import Idealize.ShloMosaic.Lib.Claim
public import proofs.«01_k».proof.Defs
public import proofs.«01_k».proof.Proof.NormMatmul
public import proofs.«01_k».proof.Proof.Gen.Reference5Ideal

@[expose] public section

set_option maxRecDepth 16384

noncomputable section

namespace Cert.Kernel5Ideal.Projection

open Cert.Kernel5Ideal Cert.Kernel5Ideal.Gen Idealize.ShloMosaic Idealize.ShloMosaic.TcCoe Idealize.SL.Sem
open Idealize.ShloMosaic.Pipeline (Dat Cfg Window)
open Cert.Kernel2Ideal.Projection (off2 ext2)

section Blocks

variable {F : FTy → Type} [FloatOps F]

/-- At a row block's first point the result's block is the product of the rows normalised there. -/
theorem result_first (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S512x512 .f32) (h5 : a5.IsWhole) (a6 : Memref sig .tc .vmem S512x2048 .bf16) (h6 : a6.IsWhole)
    (hc : cond0_0 i) (x : Vec F S512x2048 .f32) (g : Vec F S1x2048 .f32) (w : Vec F S2048x512 .bf16) :
    out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero off2, View.readCov_unit_zero (S := S512x2048) _ off2]
  simp only [View.readAt_eq_ld, h2.read_unread, h3.read_unread, h4.read_unread, View.ld_unit_zero (S := S512x2048) off2,
    View.ld_unit_zero (S := S1x2048) off2, View.ld_unit_zero (S := S2048x512) off2]

/-- … and the scratch holds those rows. -/
theorem scratch_first (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S512x512 .f32) (h5 : a5.IsWhole) (a6 : Memref sig .tc .vmem S512x2048 .bf16) (h6 : a6.IsWhole)
    (hc : cond0_0 i) (x : Vec F S512x2048 .f32) (g : Vec F S1x2048 .f32) (w : Vec F S2048x512 .bf16) :
    sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  try sl_unfold_words
  rw [View.canon_unit_zero off2]
  simp only [View.readAt_eq_ld, h2.read_unread, h3.read_unread, View.ld_unit_zero (S := S512x2048) off2,
    View.ld_unit_zero (S := S1x2048) off2]

/-- At the later points of a row block the result's block is the product of the rows the scratch holds. -/
theorem result_later (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S512x512 .f32) (h5 : a5.IsWhole) (a6 : Memref sig .tc .vmem S512x2048 .bf16) (h6 : a6.IsWhole)
    (hc : ¬cond0_0 i) (x : Vec F S512x2048 .f32) (g : Vec F S1x2048 .f32) (w : Vec F S2048x512 .bf16) (s : Vec F S512x2048 .bf16) :
    out0_B_3 c i a2 h2 a3 h3 a4 h4 a5 h5 a6 h6 hc x g w s = k0_pay2 s w := by
  unfold out0_B_3
  rw [View.read_writes_eq_canon _ _ _ (cover0_B_3 c i a2 h2 a3 h3 a4 h4 a5 h5 a6 h6 hc x g w s)]
  unfold kernelRun0_B
  dsimp only
  try sl_unfold_words
  rw [View.canon_unit_zero off2]
  simp only [View.readAt_eq_ld, h4.read_unread, h6.read_unread, View.ld_unit_zero (S := S512x2048) off2,
    View.ld_unit_zero (S := S2048x512) off2]

variable (m : (ℓ : Loc nD τ sig) → Buf (Elt F) ℓ)

/-- Where each window stands at a point: the row block is the point's quotient by 4, the column block its remainder. -/
theorem window_at : ∀ t : Fin cfg0.N, win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = t.val % 4 :=
  (by decide +kernel : ∀ t : Fin grid0.N, _)

theorem point_lt (t : Fin cfg0.N) : t.val < 128 := lt_of_lt_of_eq t.isLt (show cfg0.N = 128 from N_0)

/-- A block of rows read from the array. -/
theorem rows_at (c : Dev nD) (t : Fin cfg0.N) (r : Fin 512) (k : Fin 2048) :
    (iblk m c 0 t : Vec F S512x2048 .f32) (ix2 r k)
      = m ((c : Thread nD τ).loc main_arg0) (ix2 (⟨512 * (t.val / 4) + r.val, by have := point_lt t; omega⟩ : Fin 16384) k) := by
  obtain ⟨h0, h1, -⟩ := window_at t
  rw [← V_main_arg0 m c]
  show V m c main_arg0 _ = V m c main_arg0 _
  congr 1
  funext a
  apply Fin.ext
  match a with
  | ⟨0, _⟩ => show win0_0.index t 0 * 512 + 1 * r.val = 512 * (t.val / 4) + r.val; rw [h0]; omega
  | ⟨1, _⟩ => show win0_0.index t 1 * 2048 + 1 * k.val = k.val; rw [h1]; omega

/-- The reshaped gains, as the region finds them. -/
theorem V_main_v0 (c : Dev nD) (k : Fin 2048) :
    (V m c main_v0 : Vec F S1x2048 .f32) (ix2 0 k) = m ((c : Thread nD τ).loc main_arg1) (ix1 k) := by
  have e : (V m c main_v0 : Vec F S1x2048 .f32) = shapeCast S1x2048 (m ((c : Thread nD τ).loc main_arg1) : Vec F S2048 .f32) shapeCasts_S2048_S1x2048 := by
    show (StableHlo.reshape (τ := τ) (Val := Elt F) main_arg1 main_v0 (rfl : (.f32 : EltTy) = .f32) shapeCasts_S2048_S1x2048).result
      (fun b => m (c, b)) (Proc.devRef .tc main_v0) = _
    exact StableHlo.reshape_result' ..
  rw [e]
  pointwise

theorem gains_at (c : Dev nD) (t : Fin cfg0.N) (k : Fin 2048) :
    (iblk m c 1 t : Vec F S1x2048 .f32) (ix2 0 k) = m ((c : Thread nD τ).loc main_arg1) (ix1 k) := by
  obtain ⟨-, -, h0, h1, -⟩ := window_at t
  rw [← V_main_v0 m c]
  show V m c main_v0 _ = V m c main_v0 _
  congr 1
  funext a
  apply Fin.ext
  match a with
  | ⟨0, _⟩ => show win0_1.index t 0 * 1 + 1 * 0 = 0; rw [h0]
  | ⟨1, _⟩ => show win0_1.index t 1 * 2048 + 1 * k.val = k.val; rw [h1]; omega

/-- A block of columns of the matrix. -/
theorem columns_at (c : Dev nD) (t : Fin cfg0.N) (k : Fin 2048) (q : Fin 512) :
    (iblk m c 2 t : Vec F S2048x512 .bf16) (ix2 k q)
      = m ((c : Thread nD τ).loc main_arg2) (ix2 k (⟨512 * (t.val % 4) + q.val, by omega⟩ : Fin 2048)) := by
  obtain ⟨-, -, -, -, h0, h1, -⟩ := window_at t
  rw [← V_main_arg2 m c]
  show V m c main_arg2 _ = V m c main_arg2 _
  congr 1
  funext a
  apply Fin.ext
  match a with
  | ⟨0, _⟩ => show win0_2.index t 0 * 2048 + 1 * k.val = k.val; rw [h0]; omega
  | ⟨1, _⟩ => show win0_2.index t 1 * 512 + 1 * q.val = 512 * (t.val % 4) + q.val; rw [h1]; omega

/-- Two points of one row block read the same rows and gains. -/
theorem rows_same (c : Dev nD) (t t' : Fin cfg0.N) (h : t.val / 4 = t'.val / 4) :
    (iblk m c 0 t : Vec F S512x2048 .f32) = iblk m c 0 t' :=
  ext2 fun r k => (rows_at m c t r k).trans (by simp only [h]; exact (rows_at m c t' r k).symm)

theorem gains_same (c : Dev nD) (t t' : Fin cfg0.N) : (iblk m c 1 t : Vec F S1x2048 .f32) = iblk m c 1 t' :=
  ext2 fun r k => by
    obtain rfl : r = 0 := Subsingleton.elim _ _
    exact (gains_at m c t k).trans (gains_at m c t' k).symm

/-- After every point the scratch holds the normalised rows of the point's row block. -/
theorem scratch_after (c : Dev nD) : ∀ (n : ℕ) (h : n < cfg0.N),
    (outsAt0 m c n h).2 = k0_pay1 (F := F) (iblk m c 0 ⟨n, h⟩) (iblk m c 1 ⟨n, h⟩) := by
  intro n
  induction n with
  | zero =>
    intro h
    rw [outsAt0_A m c ⟨0, h⟩ rfl]
    dsimp only
    rw [scratch_first]
  | succ n ih =>
    intro h
    by_cases h0 : (n + 1) % 4 = 0
    · rw [outsAt0_A m c ⟨n + 1, h⟩ h0]
      dsimp only
      rw [scratch_first]
    · have hn : n < cfg0.N := Nat.lt_of_succ_lt h
      rw [outsAt0_B m c ⟨n + 1, h⟩ h0, rows_same m c ⟨n + 1, h⟩ ⟨n, hn⟩ (by show (n + 1) / 4 = n / 4; omega),
        gains_same m c ⟨n + 1, h⟩ ⟨n, hn⟩]
      exact ih hn

/-- After every point the result's block is the product of the normalised rows with the point's columns. -/
theorem result_after (c : Dev nD) (t : Fin cfg0.N) :
    (outsAt0 m c t.val t.isLt).1 = k0_pay2 (F := F) (k0_pay1 (iblk m c 0 t) (iblk m c 1 t)) (iblk m c 2 t) := by
  by_cases h0 : t.val % 4 = 0
  · rw [outsAt0_A m c t h0]
    dsimp only
    rw [result_first]
  · have hn : t.val - 1 < cfg0.N := by have := t.isLt; omega
    rw [outsAt0_B m c t h0]
    dsimp only
    rw [result_later, scratch_after m c (t.val - 1) hn, rows_same m c ⟨t.val - 1, hn⟩ t (by show (t.val - 1) / 4 = t.val / 4; omega),
      gains_same m c ⟨t.val - 1, hn⟩ t]

end Blocks

/-! ## One element -/

open Cert.Reference5Ideal.Read in
/-- One element of a block, from blocks that are parts of whole arrays: the element of the reference's product. -/
theorem element (x : FVec Ideal S16384x2048 .f32) (g : FVec Ideal S2048 .f32) (w : FVec Ideal S2048x2048 .bf16)
    (xb : Vec Ideal S512x2048 .f32) (gb : Vec Ideal S1x2048 .f32) (wb : Vec Ideal S2048x512 .bf16)
    (R : Fin 16384) (C : Fin 2048) (r : Fin 512) (q : Fin 512)
    (hx : ∀ k : Fin 2048, xb (ix2 r k) = x (ix2 R k)) (hg : ∀ k : Fin 2048, gb (ix2 0 k) = g (ix1 k))
    (hw : ∀ k : Fin 2048, wb (ix2 k q) = w (ix2 k C)) :
    k0_pay2 (k0_pay1 xb gb) wb (ix2 r q) = val_main_v14 (F := Ideal) x g w (ix2 R C) := by
  pointwise [k0_pay2, k0_pay1]
  rw [val_main_v14_apply]
  simp only [val_main_v0_apply, val_main_v1_apply, val_main_v2_apply, val_main_v3_apply, val_main_v4_apply, val_main_v5_apply,
    val_main_v6_apply, val_main_v7_apply, val_main_v8_apply, val_main_v9_apply, val_main_v10_apply, val_main_v11_apply,
    val_main_v12_apply, val_main_v13_apply, val_main_cst_apply, val_main_cst_0_apply, val_main_cst_1_apply, pointwise]
  have e1 : ∀ k : Fin 2048, lidx_main_v14 (ix2 R C) k = ix2 R k := fun k => funext fun a => by
    match a with
    | ⟨0, _⟩ => rfl
    | ⟨1, _⟩ => rfl
  have e2 : ∀ k : Fin 2048, ridx_main_v14 (ix2 R C) k = ix2 k C := fun k => funext fun a => by
    match a with
    | ⟨0, _⟩ => rfl
    | ⟨1, _⟩ => rfl
  have e3 : ∀ k k' : Fin 2048, idx_main_v1 (idx_main_v2 (idx_main_v8 (ix2 R k))) k' = ix2 R k' := fun k k' => funext fun a => by
    match a with
    | ⟨0, _⟩ => rfl
    | ⟨1, _⟩ => rfl
  have e4 : ∀ k : Fin 2048, idx_main_v10 (idx_main_v11 (ix2 R k)) = ix1 k := fun k => funext fun a => by
    match a with
    | ⟨0, _⟩ => rfl
  simp only [e1, e2, e3, e4, hx, hg, hw, zero_add]

/-! ## The whole array -/

section Whole

variable (m : (ℓ : Loc nD τ sig) → Buf (Elt Ideal) ℓ)

/-- The reference's product of the launch's arguments. -/
abbrev product (c : Dev nD) : Buf (Elt Ideal) ((c : Thread nD τ).loc main_v1) :=
  Cert.Reference5Ideal.Read.val_main_v14 (F := Ideal) (m ((c : Thread nD τ).loc main_arg0)) (m ((c : Thread nD τ).loc main_arg1))
    (m ((c : Thread nD τ).loc main_arg2))

/-- A point writes back its block of the product. -/
theorem written_back (c : Dev nD) (t : Fin cfg0.N) :
    (dats m 0 c).flushed 3 t = ((cfg0.win 3).blk t).view.read (Elt Ideal) (product m c) := by
  rw [Value.flushed3, result_after]
  obtain ⟨-, -, -, -, -, -, h0, h1⟩ := window_at t
  have ht := point_lt t
  refine ext2 (a := 512) (b := 512) (f := k0_pay2 (F := Ideal) (k0_pay1 (iblk m c 0 t) (iblk m c 1 t)) (iblk m c 2 t)) fun r q => ?_
  refine (element (m ((c : Thread nD τ).loc main_arg0)) (m ((c : Thread nD τ).loc main_arg1)) (m ((c : Thread nD τ).loc main_arg2)) _ _ _
    (⟨512 * (t.val / 4) + r.val, by omega⟩ : Fin 16384) (⟨512 * (t.val % 4) + q.val, by omega⟩ : Fin 2048) r q
    (fun k => rows_at m c t r k) (fun k => gains_at m c t k) (fun k => columns_at m c t k q)).trans ?_
  show product m c _ = product m c _
  congr 1
  funext a
  apply Fin.ext
  match a with
  | ⟨0, _⟩ => show 512 * (t.val / 4) + r.val = win0_3.index t 0 * 512 + 1 * r.val; rw [h0]; omega
  | ⟨1, _⟩ => show 512 * (t.val % 4) + q.val = win0_3.index t 1 * 512 + 1 * q.val; rw [h1]; omega

theorem array (c : Dev nD) : (dats m 0 c).arrAt 3 cfg0.N = product m c :=
  (dats m 0 c).arrAt_eq_of_cover 3 _ (fun t _ => written_back m c t) fun i => (Value.covered_iff3 i).2 (by
    have h0 : (i 0).val < 16384 := (i 0).isLt; have h1 : (i 1).val < 2048 := (i 1).isLt; omega)

end Whole

/-- The projection's kernel and its reference end with equal results. -/
theorem same_result : Cert.algebraic_Kernel5Ideal_Reference5Ideal (hKernel5Ideal := Gen.facts) (hReference5Ideal := Cert.Reference5Ideal.Gen.facts) := by
  intro m g m' g' _ hagree
  refine ⟨product m, ?_, ?_⟩
  · exact (θ_run _ _ _).mono (fun r h c => ⟨(h c).1.trans (array m c), (h c).2⟩) (Value.run_blocks m g)
  · refine (θ_run _ _ _).mono (fun r h c => ⟨?_, (h c).2⟩) (Cert.Reference5Ideal.Value.run m' g')
    refine (h c).1.trans ((Cert.Reference5Ideal.Read.val_main_v14_eq _ _ _).trans ?_)
    rw [(hagree c).1, (hagree c).2.1, (hagree c).2.2]

end Cert.Kernel5Ideal.Projection

end
-- ==== Proof.GroupNorm.lean ====
/-
  What the closing projection multiplies, row by row: the heads of the attention divided by their root mean square, and
  the heads of the recurrence less their mean, divided by their standard deviation, with gains, offsets and a gate.
  The kernel takes sums over a head by products with a matrix of zeros and ones, each factor as two parts of which the
  second is what the first's rounding left; over real numbers that second part is zero.
-/
module

public import proofs.«01_k».proof.Proof.Gen.Kernel6Ideal.Value
public import proofs.«01_k».proof.Proof.Block
public import proofs.«01_k».proof.Proof.Heads

@[expose] public section

set_option maxRecDepth 16384

noncomputable section

namespace Cert.Kernel6Ideal.Combine

open Cert.Kernel6Ideal Cert.Kernel6Ideal.Gen Idealize.ShloMosaic Idealize.ShloMosaic.TcCoe Idealize.ShloMosaic.WordCmp
open Cert.KernelIdeal.Block (floor64 floor64_eq bit_eq)
open Cert.Kernel3Ideal.Heads (normal)
open Cert.Softmax (dot_real)
open scoped Classical

/-! ## The formula -/

/-- The recurrence's head of a column, and a head's columns. -/
def headOf (c : Fin 1024) : Fin 16 := ⟨c.val / 64, by omega⟩
def column (h : Fin 16) (d : Fin 64) : Fin 1024 := ⟨64 * h.val + d.val, by omega⟩

theorem headOf_column (h : Fin 16) (d : Fin 64) : headOf (column h d) = h := Fin.ext (by simp only [headOf, column]; omega)

/-- The mean of a head, a row less its heads' means, and the mean of its squares. -/
def mean (u : Fin 1024 → ℝ) (h : Fin 16) : ℝ := (∑ d, u (column h d)) * (1 / 64)
def centred (u : Fin 1024 → ℝ) (c : Fin 1024) : ℝ := u c - mean u (headOf c)
def variance (u : Fin 1024 → ℝ) (h : Fin 16) : ℝ := (∑ d, centred u (column h d) * centred u (column h d)) * (1 / 64)

/-- What is added to the variance. -/
def epsilon : ℝ := 10995116 / 17179869184

/-- A row divided by its heads' deviations. -/
def grouped (u : Fin 1024 → ℝ) (c : Fin 1024) : ℝ := centred u c * (√(variance u (headOf c) + epsilon))⁻¹

/-- The row that is multiplied: the attention's heads, then the recurrence's. -/
def mixed (A : Fin 1024 → EReal) (u : Fin 1024 → ℝ) (B G lw lb An : Fin 1024 → EReal) (k : Fin 2048) : EReal :=
  if h : k.val < 1024 then
    normal (fun d => A ⟨128 * (k.val / 128) + d.val, by omega⟩) (fun d => An ⟨128 * (k.val / 128) + d.val, by omega⟩) ⟨k.val % 128, by omega⟩
  else (((grouped u ⟨k.val - 1024, by omega⟩ : ℝ) : EReal) * lw ⟨k.val - 1024, by omega⟩ + lb ⟨k.val - 1024, by omega⟩
    + B ⟨k.val - 1024, by omega⟩) * G ⟨k.val - 1024, by omega⟩

/-! ## Constants -/

theorem ofBits_part : Ideal.ofBits .f32 0x3C800000#32 = ((1 / 64 : ℝ) : EReal) := by
  simp [Ideal.ofBits, Ideal.ieee, -EReal.coe_mul]; norm_num
theorem ofBits_width : Ideal.ofBits .f32 0x42800000#32 = ((64 : ℝ) : EReal) := by
  simp [Ideal.ofBits, Ideal.ieee, -EReal.coe_mul]; norm_num
theorem ofBits_epsilon : Ideal.ofBits .f32 0x3A27C5AC#32 = ((epsilon : ℝ) : EReal) := by
  simp [Ideal.ofBits, Ideal.ieee, -EReal.coe_mul, epsilon]; norm_num

theorem variance_pos (u : Fin 1024 → ℝ) (h : Fin 16) : 0 < variance u h + epsilon := by
  have h0 : 0 ≤ variance u h := mul_nonneg (Finset.sum_nonneg fun d _ => mul_self_nonneg _) (by norm_num)
  have h1 : (0 : ℝ) < epsilon := by unfold epsilon; norm_num
  linarith

/-- The reciprocal root of a positive number. -/
theorem rsqrt_pos (r : ℝ) (h : 0 < r) : Ideal.rsqrt (r : EReal) = (((√r)⁻¹ : ℝ) : EReal) := by
  show (if r < 0 then (⊥ : EReal) else if r = 0 then ⊤ else (((√r)⁻¹ : ℝ) : EReal)) = _
  rw [if_neg (not_lt.mpr h.le), if_neg h.ne']

/-! ## Sums by ones and zeros -/

/-- The columns are the heads' columns. -/
def columns : Fin 1024 ≃ Fin 16 × Fin 64 where
  toFun c := (headOf c, ⟨c.val % 64, by omega⟩)
  invFun p := column p.1 p.2
  left_inv c := Fin.ext (by simp only [headOf, column]; omega)
  right_inv p := Prod.ext (headOf_column _ _) (Fin.ext (by simp only [column]; omega))

/-- A row's sum with ones at a head's columns is the head's sum. -/
theorem sum_head (u : Fin 1024 → ℝ) (h : Fin 16) :
    ∑ k, u k * (if k.val / 64 = h.val then 1 else 0) = ∑ d, u (column h d) := by
  rw [← Equiv.sum_comp columns.symm, Fintype.sum_prod_type]
  rw [Finset.sum_eq_single h]
  · refine Finset.sum_congr rfl fun d _ => ?_
    have e : (column h d).val / 64 = h.val := by simp only [column]; omega
    show u (column h d) * (if (column h d).val / 64 = h.val then 1 else 0) = _
    rw [if_pos e, mul_one]
  · intro a _ ha
    refine Finset.sum_eq_zero fun d _ => ?_
    have e : ¬ (column a d).val / 64 = h.val := fun e => ha (Fin.ext (by simp only [column] at e; omega))
    show u (column a d) * (if (column a d).val / 64 = h.val then 1 else 0) = _
    rw [if_neg e, mul_zero]
  · intro h'; exact absurd (Finset.mem_univ _) h'

/-- A sum with a single one is its term. -/
theorem sum_one (w : Fin 128 → ℝ) (a : Fin 128) : ∑ h, w h * (if a.val = h.val then 1 else 0) = w a := by
  rw [Finset.sum_eq_single a]
  · rw [if_pos rfl, mul_one]
  · intro b _ hb
    rw [if_neg (fun e => hb (Fin.ext e.symm)), mul_zero]
  · intro h'; exact absurd (Finset.mem_univ _) h'

/-! ## The kernel's matrices -/

/-- Which columns a head has. -/
abbrev members : FVec Ideal S1024x128 .bf16 := k0_pay13 (iota .tc S1024x128 32 [0] iota_S1024x128_d0_w32) 64#32 k0_pay11 k0_pay12

/-- Which head a column has. -/
def owner : FVec Ideal S128x1024 .bf16 :=
  truncf .bf16 (sitofp .f32 (extui 32 (cmpi .eq (select k0_pay15 k0_pay16 k0_pay14) (iota .tc S128x1024 32 [0] iota_S128x1024_d0_w32)) natLt_1_32)) bitsLt_bf16_f32

theorem members_apply (k : Fin 1024) (h : Fin 128) : members (ix2 k h) = ((if k.val / 64 = h.val then 1 else 0 : ℝ) : EReal) := by
  have e : members (ix2 k h)
      = FloatOps.sitofp (F := Ideal) .f32 (BitVec.setWidth 32 (IntOp.cmpi CmpIPredicate.eq (floor64 (BitVec.ofNat 32 k.val)) (BitVec.ofNat 32 h.val))) := by
    pointwise [k0_pay13, k0_pay11, k0_pay12]; rfl
  rw [e]
  refine bit_eq ?_
  rw [floor64_eq _ (by omega)]
  simp (disch := omega) only [hlo_ix]

theorem owner_apply (h : Fin 128) (c : Fin 1024) : owner (ix2 h c) = ((if c.val / 64 = h.val then 1 else 0 : ℝ) : EReal) := by
  have e : owner (ix2 h c)
      = FloatOps.sitofp (F := Ideal) .f32 (BitVec.setWidth 32 (IntOp.cmpi CmpIPredicate.eq (floor64 (BitVec.ofNat 32 c.val)) (BitVec.ofNat 32 h.val))) := by
    pointwise [owner, k0_pay14, k0_pay15, k0_pay16]; rfl
  rw [e]
  refine bit_eq ?_
  rw [floor64_eq _ (by omega)]
  simp (disch := omega) only [hlo_ix]

/-! ## The kernel's sums -/

/-- Sums over the heads. -/
def gather (M : FVec Ideal S1024x128 .bf16) (x : FVec Ideal S512x1024 .f32) : FVec Ideal S512x128 .f32 :=
  addf (matmul dot_S512x1024_S1024x128_S512x128_1_0_0_1_n_n none (truncf .bf16 x bitsLt_bf16_f32) M (constant S512x128 .f32 0x00000000#32))
    (matmul dot_S512x1024_S1024x128_S512x128_1_0_0_1_n_n none (truncf .bf16 (subf x (extf .f32 (truncf .bf16 x bitsLt_bf16_f32) bitsLt_bf16_f32)) bitsLt_bf16_f32) M
      (constant S512x128 .f32 0x00000000#32))

/-- A head's number at each of its columns. -/
def spread (N : FVec Ideal S128x1024 .bf16) (v : FVec Ideal S512x128 .f32) : FVec Ideal S512x1024 .f32 :=
  addf (matmul dot_S512x128_S128x1024_S512x1024_1_0_0_1_n_n none (truncf .bf16 v bitsLt_bf16_f32) N (constant S512x1024 .f32 0x00000000#32))
    (matmul dot_S512x128_S128x1024_S512x1024_1_0_0_1_n_n none (truncf .bf16 (subf v (extf .f32 (truncf .bf16 v bitsLt_bf16_f32) bitsLt_bf16_f32)) bitsLt_bf16_f32) N
      (constant S512x1024 .f32 0x00000000#32))

theorem gather_real (x : FVec Ideal S512x1024 .f32) (u : Fin 1024 → ℝ) (r : Fin 512) (hx : ∀ k, x (ix2 r k) = (u k : EReal)) (h : Fin 128) :
    gather members x (ix2 r h) = ((∑ k, u k * (if k.val / 64 = h.val then 1 else 0) : ℝ) : EReal) := by
  have e : gather members x (ix2 r h) = ∑ k, x (ix2 r k) * members (ix2 k h) + ∑ k, (x (ix2 r k) - x (ix2 r k)) * members (ix2 k h) := by
    generalize members = M
    unfold gather
    pointwise
  have hz : ∀ k, x (ix2 r k) - x (ix2 r k) = ((0 : ℝ) : EReal) := fun k => by rw [hx, ← EReal.coe_sub, sub_self]
  rw [e, dot_real _ _ _ _ hx (fun k => members_apply k h), dot_real _ _ _ _ hz (fun k => members_apply k h), ← EReal.coe_add]
  simp

theorem spread_real (v : FVec Ideal S512x128 .f32) (w : Fin 128 → ℝ) (r : Fin 512) (hv : ∀ h, v (ix2 r h) = (w h : EReal)) (c : Fin 1024) :
    spread owner v (ix2 r c) = (w ⟨c.val / 64, by omega⟩ : EReal) := by
  have e : spread owner v (ix2 r c) = ∑ h, v (ix2 r h) * owner (ix2 h c) + ∑ h, (v (ix2 r h) - v (ix2 r h)) * owner (ix2 h c) := by
    generalize owner = N
    unfold spread
    pointwise
  have hz : ∀ h, v (ix2 r h) - v (ix2 r h) = ((0 : ℝ) : EReal) := fun h => by rw [hv, ← EReal.coe_sub, sub_self]
  rw [e, dot_real _ _ _ _ hv (fun h => owner_apply h c), dot_real _ _ _ _ hz (fun h => owner_apply h c), ← EReal.coe_add,
    ← sum_one w ⟨c.val / 64, by omega⟩]
  simp

/-- A mean over each head. -/
def meanOf (x : FVec Ideal S512x1024 .f32) : FVec Ideal S512x128 .f32 :=
  mulf (gather members x) (broadcast S512x128 (Scalar.ofBits .f32 0x3C800000#32))

theorem meanOf_real (x : FVec Ideal S512x1024 .f32) (u : Fin 1024 → ℝ) (r : Fin 512) (hx : ∀ k, x (ix2 r k) = (u k : EReal)) (h : Fin 128) :
    meanOf x (ix2 r h) = (((∑ k, u k * (if k.val / 64 = h.val then 1 else 0)) * (1 / 64) : ℝ) : EReal) := by
  show gather members x (ix2 r h) * Ideal.ofBits .f32 0x3C800000#32 = _
  rw [gather_real x u r hx h, ofBits_part, ← EReal.coe_mul]

/-- Rows less their heads' means. -/
def centre (x : FVec Ideal S512x1024 .f32) : FVec Ideal S512x1024 .f32 := subf x (spread owner (meanOf x))

theorem centre_real (x : FVec Ideal S512x1024 .f32) (u : Fin 1024 → ℝ) (r : Fin 512) (hx : ∀ k, x (ix2 r k) = (u k : EReal)) (c : Fin 1024) :
    centre x (ix2 r c) = (centred u c : EReal) := by
  show x (ix2 r c) - spread owner (meanOf x) (ix2 r c) = _
  rw [spread_real _ _ r (meanOf_real x u r hx) c, hx, ← EReal.coe_sub]
  unfold centred mean
  rw [← sum_head]
  rfl

/-- The reciprocal deviations. -/
def spreadOf (x : FVec Ideal S512x1024 .f32) : FVec Ideal S512x128 .f32 :=
  rsqrt (addf (meanOf (mulf x x)) (broadcast S512x128 (Scalar.ofBits .f32 0x3A27C5AC#32)))

theorem grouped_split (x : FVec Ideal S512x1024 .f32) :
    k0_pay17 members k0_pay14 k0_pay15 k0_pay16 x = mulf (centre x) (spread owner (spreadOf (centre x))) := rfl

/-- One entry of the recurrence's heads. -/
theorem grouped_apply (x : FVec Ideal S512x1024 .f32) (u : Fin 1024 → ℝ) (r : Fin 512) (hx : ∀ k, x (ix2 r k) = (u k : EReal)) (c : Fin 1024) :
    k0_pay17 members k0_pay14 k0_pay15 k0_pay16 x (ix2 r c) = (grouped u c : EReal) := by
  have hc := centre_real x u r hx
  have hs : ∀ k, mulf (centre x) (centre x) (ix2 r k) = ((centred u k * centred u k : ℝ) : EReal) := fun k => by
    show centre x (ix2 r k) * centre x (ix2 r k) = _
    rw [hc, ← EReal.coe_mul]
  have hv : ∀ h : Fin 128, spreadOf (centre x) (ix2 r h)
      = (((√((∑ k, centred u k * centred u k * (if k.val / 64 = h.val then 1 else 0)) * (1 / 64) + epsilon))⁻¹ : ℝ) : EReal) := fun h => by
    show Ideal.rsqrt (meanOf (mulf (centre x) (centre x)) (ix2 r h) + Ideal.ofBits .f32 0x3A27C5AC#32) = _
    rw [meanOf_real _ _ r hs h, ofBits_epsilon, ← EReal.coe_add]
    refine rsqrt_pos _ ?_
    have h0 : (0 : ℝ) ≤ ∑ k, centred u k * centred u k * (if k.val / 64 = h.val then 1 else 0) :=
      Finset.sum_nonneg fun k _ => mul_nonneg (mul_self_nonneg _) (by split <;> norm_num)
    have h1 : (0 : ℝ) < epsilon := by unfold epsilon; norm_num
    linarith
  rw [grouped_split]
  show centre x (ix2 r c) * spread owner (spreadOf (centre x)) (ix2 r c) = _
  rw [hc, spread_real _ _ r hv c, ← EReal.coe_mul]
  unfold grouped variance
  rw [← sum_head (fun k => centred u k * centred u k) (headOf c)]
  rfl

/-- One entry of an attention head. -/
theorem head_apply (x : FVec Ideal S512x128 .f32) (g : FVec Ideal S1x128 .f32) (r : Fin 512) (d : Fin 128) :
    k0_pay3 (F := Ideal) x g (ix2 r d) = (normal (fun k => x (ix2 r k)) (fun k => g (ix2 0 k)) d : EReal) := by
  unfold normal
  pointwise [k0_pay3]

/-- The recurrence's heads with gains, offsets and a gate. -/
theorem gated_apply (y : FVec Ideal S512x1024 .f32) (lw lb : FVec Ideal S1x1024 .f32) (b g : FVec Ideal S512x1024 .f32) (r : Fin 512) (c : Fin 1024) :
    k0_pay1 (F := Ideal) y lw lb b g (ix2 r c) = ((y (ix2 r c) * lw (ix2 0 c) + lb (ix2 0 c) + b (ix2 r c)) * g (ix2 r c) : EReal) := by
  pointwise [k0_pay1]

end Cert.Kernel6Ideal.Combine

end
-- ==== Proof.CombineBlocks.lean ====
/-
  The blocks the closing projection's kernel leaves at each of its 128 points: 512 rows by 512 columns of the result, and
  in scratch the 512 rows that are multiplied, kept from the first of a row block's four column blocks to the last.
-/
module

public import proofs.«01_k».proof.Proof.GroupNorm
public import proofs.«01_k».proof.Proof.NormMatmul
public import proofs.«01_k».proof.Proof.HeadReference
public import Idealize.ShloMosaic.Lib.Pipeline.ValueKit.Tiles

@[expose] public section

set_option maxRecDepth 16384

noncomputable section

namespace Cert.Kernel6Ideal.Combine

open Cert.Kernel6Ideal Cert.Kernel6Ideal.Gen Idealize.ShloMosaic Idealize.ShloMosaic.TcCoe Idealize.SL.Sem
open Idealize.ShloMosaic.Pipeline (Dat Cfg Window)
open Cert.Kernel3Ideal.Heads (normal same2)
open Cert.Kernel2Ideal.Projection (off2 ext2)

section Rows

variable (x0 x1 x2 x3 : Vec Ideal S512x1024 .f32) (x4 x5 x6 : Vec Ideal S1x1024 .f32)

/-- The rows that are multiplied, from a row block's blocks. -/
def rowsOf : Vec Ideal S512x2048 .bf16 := fun y =>
  have hy : (y 1).val < 2048 := (y 1).isLt
  if h : (y 1).val < 1024 then
    normal (fun d => x0 (ix2 (y 0) ⟨128 * ((y 1).val / 128) + d.val, by omega⟩)) (fun d => x6 (ix2 0 ⟨128 * ((y 1).val / 128) + d.val, by omega⟩))
      ⟨(y 1).val % 128, by omega⟩
  else k0_pay1 (F := Ideal) (k0_pay17 members k0_pay14 k0_pay15 k0_pay16 x1) x4 x5 x2 x3 (ix2 (y 0) ⟨(y 1).val - 1024, by omega⟩)

/-- … at an attention head's column, -/
theorem rowsOf_left (h : Fin 8) (r : Fin 512) (d : Fin 128) (y : S512x2048.Idx) (e0 : (y 0).val = r.val) (e1 : (y 1).val = 128 * h.val + d.val) :
    rowsOf x0 x1 x2 x3 x4 x5 x6 y
      = normal (fun d => x0 (ix2 r ⟨128 * h.val + d.val, by omega⟩)) (fun d => x6 (ix2 0 ⟨128 * h.val + d.val, by omega⟩)) d := by
  have hr : y 0 = r := Fin.ext e0
  have a1 : (y 1).val / 128 = h.val := by omega
  have a2 : (y 1).val % 128 = d.val := by omega
  unfold rowsOf
  rw [dif_pos (show (y 1).val < 1024 by omega)]
  simp only [hr, a1, a2]

/-- … and at the recurrence's. -/
theorem rowsOf_right (r : Fin 512) (k : Fin 1024) (y : S512x2048.Idx) (e0 : (y 0).val = r.val) (e1 : (y 1).val = 1024 + k.val) :
    rowsOf x0 x1 x2 x3 x4 x5 x6 y = k0_pay1 (F := Ideal) (k0_pay17 members k0_pay14 k0_pay15 k0_pay16 x1) x4 x5 x2 x3 (ix2 r k) := by
  have hr : y 0 = r := Fin.ext e0
  have a1 : (y 1).val - 1024 = k.val := by omega
  unfold rowsOf
  rw [dif_neg (show ¬ (y 1).val < 1024 by omega)]
  simp only [hr, a1]

/-- A row of them is `mixed`, where the recurrence's outputs are real numbers. -/
theorem rowsOf_mixed (r : Fin 512) (u : Fin 1024 → ℝ) (hu : ∀ k, x1 (ix2 r k) = (u k : EReal)) (k : Fin 2048) :
    rowsOf x0 x1 x2 x3 x4 x5 x6 (ix2 r k)
      = mixed (fun c => x0 (ix2 r c)) u (fun c => x2 (ix2 r c)) (fun c => x3 (ix2 r c)) (fun c => x4 (ix2 0 c)) (fun c => x5 (ix2 0 c)) (fun c => x6 (ix2 0 c)) k := by
  unfold mixed
  split
  · next h =>
    exact rowsOf_left x0 x1 x2 x3 x4 x5 x6 ⟨k.val / 128, by omega⟩ r ⟨k.val % 128, by omega⟩ (ix2 r k) rfl (by show k.val = 128 * (k.val / 128) + k.val % 128; omega)
  · next h =>
    refine (rowsOf_right x0 x1 x2 x3 x4 x5 x6 r ⟨k.val - 1024, by omega⟩ (ix2 r k) rfl (by show k.val = 1024 + (k.val - 1024); omega)).trans ?_
    rw [gated_apply, grouped_apply x1 u r hu]

end Rows

section Point

variable (c : Dev nD) (i : grid0.Coords)
  (a2 : Memref sig .tc .vmem S512x1024 .f32) (h2 : a2.IsWhole)
  (a3 : Memref sig .tc .vmem S512x1024 .f32) (h3 : a3.IsWhole)
  (a4 : Memref sig .tc .vmem S512x1024 .f32) (h4 : a4.IsWhole)
  (a5 : Memref sig .tc .vmem S512x1024 .f32) (h5 : a5.IsWhole)
  (a6 : Memref sig .tc .vmem S1x1024 .f32) (h6 : a6.IsWhole)
  (a7 : Memref sig .tc .vmem S1x1024 .f32) (h7 : a7.IsWhole)
  (a8 : Memref sig .tc .vmem S1x1024 .f32) (h8 : a8.IsWhole)
  (a9 : Memref sig .tc .vmem S512x512 .f32) (h9 : a9.IsWhole)
  (a10 : Memref sig .tc .vmem S2048x512 .bf16) (h10 : a10.IsWhole)
  (a11 : Memref sig .tc .vmem S512x512 .f32) (h11 : a11.IsWhole)
  (a12 : Memref sig .tc .vmem S512x2048 .bf16) (h12 : a12.IsWhole)
  (x0 x1 x2 x3 : Vec Ideal S512x1024 .f32) (x4 x5 x6 : Vec Ideal S1x1024 .f32) (x7 : Vec Ideal S512x512 .f32) (x8 : Vec Ideal S2048x512 .bf16)

/-- An attention head's columns, read and scaled. -/
theorem head_tile (h : Fin 8) (i1 : ∀ a, (![0, 128 * h.val] : Fin 2 → ℕ) a + S512x128.size a ≤ S512x1024.size a)
    (i2 : ∀ a, (![0, 128 * h.val] : Fin 2 → ℕ) a + S1x128.size a ≤ S1x1024.size a) (r : Fin 512) (d : Fin 128) :
    k0_pay3 (F := Ideal) (View.readAt (Elt Ideal) a2.view (Rect.unit (s := S512x1024) ![0, 128 * h.val] S512x128.size i1).toLoadRect (h2.unread x0))
      (View.readAt (Elt Ideal) a8.view (Rect.unit (s := S1x1024) ![0, 128 * h.val] S1x128.size i2).toLoadRect (h8.unread x6)) (ix2 r d)
      = normal (fun d => x0 (ix2 r ⟨128 * h.val + d.val, by omega⟩)) (fun d => x6 (ix2 0 ⟨128 * h.val + d.val, by omega⟩)) d := by
  refine (head_apply _ _ r d).trans ?_
  rw [View.readAt_eq_ld, View.readAt_eq_ld, h2.read_unread, h8.read_unread]
  have e1 : ∀ k : Fin 128, View.ld x0 (Rect.unit (s := S512x1024) ![0, 128 * h.val] S512x128.size i1) (ix2 r k) = x0 (ix2 r ⟨128 * h.val + k.val, by omega⟩) := fun k =>
    View.ld_unit_apply_of x0 _ _ i1 (ix2 r k) (ix2 r ⟨128 * h.val + k.val, by omega⟩) fun a => by
      match a with
      | ⟨0, _⟩ => show r.val = 0 + r.val; omega
      | ⟨1, _⟩ => rfl
  have e2 : ∀ k : Fin 128, View.ld x6 (Rect.unit (s := S1x1024) ![0, 128 * h.val] S1x128.size i2) (ix2 0 k) = x6 (ix2 0 ⟨128 * h.val + k.val, by omega⟩) := fun k =>
    View.ld_unit_apply_of x6 _ _ i2 (ix2 0 k) (ix2 0 ⟨128 * h.val + k.val, by omega⟩) fun a => by
      match a with
      | ⟨0, _⟩ => rfl
      | ⟨1, _⟩ => rfl
  exact congrArg₂ (fun f g => normal f g d) (funext e1) (funext e2)

section First

variable (hc : cond0_0 i)

/-- At a row block's first point the stores leave the rows in scratch, -/
theorem scratch_canon : View.canon (kernelRun0_A (F := Ideal) c i a2 h2 a3 h3 a4 h4 a5 h5 a6 h6 a7 h7 a8 h8 a9 h9 a10 h10 a11 h11 a12 h12 hc x0 x1 x2 x3 x4 x5 x6 x7 x8).2.1 = rowsOf x0 x1 x2 x3 x4 x5 x6 := by
  funext y
  refine View.canon_apply_of_pieces (Val := Elt Ideal) (rowsOf x0 x1 x2 x3 x4 x5 x6) _ ?_ _ (scover0_A_0 (F := Ideal) c i a2 h2 a3 h3 a4 h4 a5 h5 a6 h6 a7 h7 a8 h8 a9 h9 a10 h10 a11 h11 a12 h12 hc x0 x1 x2 x3 x4 x5 x6 x7 x8 y)
  unfold kernelRun0_A
  dsimp only
  sl_unfold_words
  intro p hp
  simp only [List.mem_cons, List.not_mem_nil, or_false] at hp
  have hx : ∀ x : S512x128.Idx, ∃ (r : Fin 512) (d : Fin 128), x = ix2 r d := fun x => ⟨x 0, x 1, (ix2_eta x).symm⟩
  have key := head_tile a2 h2 a8 h8 x0 x6
  rcases hp with rfl | hp
  · intro x
    obtain ⟨r, k, rfl⟩ : ∃ (r : Fin 512) (k : Fin 1024), x = ix2 r k := ⟨x 0, x 1, (ix2_eta x).symm⟩
    refine Eq.trans ?_ (rowsOf_right x0 x1 x2 x3 x4 x5 x6 r k _ (by show 0 + 1 * r.val = r.val; omega) (by show 1024 + 1 * k.val = _; omega)).symm
    simp only [View.readAt_eq_ld, h3.read_unread, h4.read_unread, h5.read_unread, h6.read_unread, h7.read_unread,
      View.ld_unit_zero (S := S512x1024) off2, View.ld_unit_zero (S := S1x1024) off2]
  rcases hp with rfl | rfl | rfl | rfl | rfl | rfl | rfl | rfl <;> intro x <;> obtain ⟨r, d, rfl⟩ := hx x
  · refine Eq.trans ?_ (rowsOf_left x0 x1 x2 x3 x4 x5 x6 7 r d _ (by show 0 + 1 * r.val = r.val; omega) (by show 896 + 1 * d.val = _; omega)).symm
    exact key 7 _ _ r d
  · refine Eq.trans ?_ (rowsOf_left x0 x1 x2 x3 x4 x5 x6 6 r d _ (by show 0 + 1 * r.val = r.val; omega) (by show 768 + 1 * d.val = _; omega)).symm
    exact key 6 _ _ r d
  · refine Eq.trans ?_ (rowsOf_left x0 x1 x2 x3 x4 x5 x6 5 r d _ (by show 0 + 1 * r.val = r.val; omega) (by show 640 + 1 * d.val = _; omega)).symm
    exact key 5 _ _ r d
  · refine Eq.trans ?_ (rowsOf_left x0 x1 x2 x3 x4 x5 x6 4 r d _ (by show 0 + 1 * r.val = r.val; omega) (by show 512 + 1 * d.val = _; omega)).symm
    exact key 4 _ _ r d
  · refine Eq.trans ?_ (rowsOf_left x0 x1 x2 x3 x4 x5 x6 3 r d _ (by show 0 + 1 * r.val = r.val; omega) (by show 384 + 1 * d.val = _; omega)).symm
    exact key 3 _ _ r d
  · refine Eq.trans ?_ (rowsOf_left x0 x1 x2 x3 x4 x5 x6 2 r d _ (by show 0 + 1 * r.val = r.val; omega) (by show 256 + 1 * d.val = _; omega)).symm
    exact key 2 _ _ r d
  · refine Eq.trans ?_ (rowsOf_left x0 x1 x2 x3 x4 x5 x6 1 r d _ (by show 0 + 1 * r.val = r.val; omega) (by show 128 + 1 * d.val = _; omega)).symm
    exact key 1 _ _ r d
  · refine Eq.trans ?_ (rowsOf_left x0 x1 x2 x3 x4 x5 x6 0 r d _ (by show 0 + 1 * r.val = r.val; omega) (by show 0 + 1 * d.val = _; omega)).symm
    exact key 0 _ _ r d

theorem scratch_first : sout0_A_0 (F := Ideal) c i a2 h2 a3 h3 a4 h4 a5 h5 a6 h6 a7 h7 a8 h8 a9 h9 a10 h10 a11 h11 a12 h12 hc x0 x1 x2 x3 x4 x5 x6 x7 x8 = rowsOf x0 x1 x2 x3 x4 x5 x6 := by
  unfold sout0_A_0
  rw [View.read_writes_eq_canon _ _ _ (scover0_A_0 (F := Ideal) c i a2 h2 a3 h3 a4 h4 a5 h5 a6 h6 a7 h7 a8 h8 a9 h9 a10 h10 a11 h11 a12 h12 hc x0 x1 x2 x3 x4 x5 x6 x7 x8)]
  exact scratch_canon c i a2 h2 a3 h3 a4 h4 a5 h5 a6 h6 a7 h7 a8 h8 a9 h9 a10 h10 a11 h11 a12 h12 x0 x1 x2 x3 x4 x5 x6 x7 x8 hc

/-- … and the result's block is its block of `x` and their product. -/
theorem result_first : out0_A_9 (F := Ideal) c i a2 h2 a3 h3 a4 h4 a5 h5 a6 h6 a7 h7 a8 h8 a9 h9 a10 h10 a11 h11 a12 h12 hc x0 x1 x2 x3 x4 x5 x6 x7 x8 = k0_pay2 (F := Ideal) x7 (rowsOf x0 x1 x2 x3 x4 x5 x6) x8 := by
  have e := View.readCov_eq_canon_ld a12.view (kernelRun0_A (F := Ideal) c i a2 h2 a3 h3 a4 h4 a5 h5 a6 h6 a7 h7 a8 h8 a9 h9 a10 h10 a11 h11 a12 h12 hc x0 x1 x2 x3 x4 x5 x6 x7 x8).2.1
    (Rect.unit (s := S512x2048) ![0, 0] S512x2048.size inb_S512x2048_S512x2048_0_0) (scover0_A_0 (F := Ideal) c i a2 h2 a3 h3 a4 h4 a5 h5 a6 h6 a7 h7 a8 h8 a9 h9 a10 h10 a11 h11 a12 h12 hc x0 x1 x2 x3 x4 x5 x6 x7 x8)
  rw [scratch_canon, View.ld_unit_zero (S := S512x2048) off2] at e
  unfold out0_A_9
  rw [View.read_writes_eq_canon _ _ _ (cover0_A_9 (F := Ideal) c i a2 h2 a3 h3 a4 h4 a5 h5 a6 h6 a7 h7 a8 h8 a9 h9 a10 h10 a11 h11 a12 h12 hc x0 x1 x2 x3 x4 x5 x6 x7 x8)]
  unfold kernelRun0_A at e ⊢
  dsimp only at e ⊢
  sl_unfold_words
  rw [View.canon_unit_zero off2]
  refine congr (congr (congrArg (k0_pay2 (F := Ideal)) ?_) e) ?_
  · rw [View.readAt_eq_ld, h9.read_unread, View.ld_unit_zero (S := S512x512) off2]
  · rw [View.readAt_eq_ld, h10.read_unread, View.ld_unit_zero (S := S2048x512) off2]

end First

/-- At the later points the result's block is its block of `x` and the product of the rows the scratch holds. -/
theorem result_later (hc : ¬ cond0_0 i) (s : Vec Ideal S512x2048 .bf16) :
    out0_B_9 (F := Ideal) c i a2 h2 a3 h3 a4 h4 a5 h5 a6 h6 a7 h7 a8 h8 a9 h9 a10 h10 a11 h11 a12 h12 hc x0 x1 x2 x3 x4 x5 x6 x7 x8 s = k0_pay2 (F := Ideal) x7 s x8 := by
  unfold out0_B_9
  rw [View.read_writes_eq_canon _ _ _ (cover0_B_9 (F := Ideal) c i a2 h2 a3 h3 a4 h4 a5 h5 a6 h6 a7 h7 a8 h8 a9 h9 a10 h10 a11 h11 a12 h12 hc x0 x1 x2 x3 x4 x5 x6 x7 x8 s)]
  unfold kernelRun0_B
  dsimp only
  try sl_unfold_words
  rw [View.canon_unit_zero off2]
  simp only [View.readAt_eq_ld, h9.read_unread, h10.read_unread, h12.read_unread, View.ld_unit_zero (S := S512x512) off2,
    View.ld_unit_zero (S := S512x2048) off2, View.ld_unit_zero (S := S2048x512) off2]

end Point

end Cert.Kernel6Ideal.Combine

end
-- ==== Proof.CombineReference.lean ====
/-
  The closing projection's reference, one entry at a time: the row it multiplies is `mixed`, where the recurrence's
  outputs are real numbers.
-/
module

public import proofs.«01_k».proof.Proof.GroupNorm
public import proofs.«01_k».proof.Proof.HeadReference
public import proofs.«01_k».proof.Proof.Gen.Reference6Ideal.Read

@[expose] public section

set_option maxRecDepth 16384

noncomputable section

namespace Cert.Kernel6Ideal.Combine

open Cert.Kernel6Ideal Idealize.ShloMosaic Idealize.ShloMosaic.TcCoe
open Cert.Kernel3Ideal.Heads (normal same2 zero_first)
open Cert.Softmax (sum_real)
open Cert.Reference6Ideal.Read

/-- Two indices of three coordinates are one when the coordinates are. -/
theorem same3 {a b c : ℕ} (i j : Shape.Idx ⟨3, ![a, b, c]⟩) (h0 : (i 0).val = (j 0).val) (h1 : (i 1).val = (j 1).val)
    (h2 : (i 2).val = (j 2).val) : i = j := funext fun q => Fin.ext (by
  match q with
  | ⟨0, _⟩ => exact h0
  | ⟨1, _⟩ => exact h1
  | ⟨2, _⟩ => exact h2)

theorem same1 {a : ℕ} (i j : Shape.Idx ⟨1, ![a]⟩) (h0 : (i 0).val = (j 0).val) : i = j := funext fun q => Fin.ext (by
  match q with
  | ⟨0, _⟩ => exact h0)

/-- A real number divided by 64. -/
theorem div_width (a : ℝ) : Ideal.div (a : EReal) (Ideal.ofBits .f32 0x42800000#32) = ((a * (1 / 64) : ℝ) : EReal) := by
  rw [ofBits_width]
  have h : ((64 : ℝ) : EReal) ≠ 0 := fun e => absurd (EReal.coe_eq_zero.mp e) (by norm_num)
  unfold Ideal.div
  rw [if_neg h, ← EReal.coe_inv, ← EReal.coe_mul, one_div]

variable (x0 x1 x2 x3 : FVec Ideal S16384x1024 .f32) (x4 x5 x6 : FVec Ideal S1024 .f32)

/-! ## The attention's heads -/

theorem head_split (R : Fin 16384) (h : Fin 8) (d : Fin 128) :
    val_main_v0 (F := Ideal) x0 (ix3 R h d) = x0 (ix2 R ⟨128 * h.val + d.val, by omega⟩) := by
  rw [val_main_v0_apply]
  refine congrArg x0 (same2 _ _ ?_ ?_)
  · show ((R.val * 8 + h.val) * 128 + d.val) / 1024 = R.val
    omega
  · show ((R.val * 8 + h.val) * 128 + d.val) % 1024 = 128 * h.val + d.val
    omega

theorem gains_split (R : Fin 16384) (h : Fin 8) (d : Fin 128) :
    val_main_v13 (F := Ideal) x6 (ix3 R h d) = x6 (ix1 ⟨128 * h.val + d.val, by omega⟩) := by
  rw [val_main_v13_apply, val_main_v12_apply, val_main_v11_apply]
  refine congrArg x6 (same1 _ _ ?_)
  show h.val * 128 + d.val = 128 * h.val + d.val
  omega

theorem head_normal (R : Fin 16384) (h : Fin 8) (d : Fin 128) :
    val_main_v14 (F := Ideal) x0 x6 (ix3 R h d)
      = normal (fun k => x0 (ix2 R ⟨128 * h.val + k.val, by omega⟩)) (fun k => x6 (ix1 ⟨128 * h.val + k.val, by omega⟩)) d := by
  rw [val_main_v14_apply, gains_split, val_main_v10_apply, val_main_v9_apply, val_main_v8_apply, val_main_v7_apply, val_main_v5_apply,
    val_main_v3_apply, val_main_v2_apply, val_main_v4_apply, val_main_v6_apply, val_main_cst_apply, val_main_cst_0_apply, val_main_cst_1_apply]
  have e1 : ∀ k : Fin 128, idx_main_v2 (idx_main_v3 (idx_main_v9 (ix3 R h d))) k = ix3 R h k := fun k => same3 _ _ rfl rfl rfl
  simp only [e1, val_main_v1_apply, head_split x0]
  unfold normal
  show _ * Ideal.rsqrt (Ideal.div (Ideal.ofBits .f32 0x00000000#32 + _) _ + _) * _ = _
  rw [zero_first]
  rfl

/-! ## The recurrence's heads -/

theorem part_split (R : Fin 16384) (h : Fin 16) (d : Fin 64) : val_main_v15 (F := Ideal) x1 (ix3 R h d) = x1 (ix2 R (column h d)) := by
  rw [val_main_v15_apply]
  refine congrArg x1 (same2 _ _ ?_ ?_)
  · show ((R.val * 16 + h.val) * 64 + d.val) / 1024 = R.val
    omega
  · show ((R.val * 16 + h.val) * 64 + d.val) % 1024 = 64 * h.val + d.val
    omega

section Real

variable (R : Fin 16384) (u : Fin 1024 → ℝ) (hu : ∀ k, x1 (ix2 R k) = (u k : EReal))

include hu in
theorem mean_real (h : Fin 16) (z : Fin 1) : val_main_v19 (F := Ideal) x1 (ix3 R h z) = (mean u h : EReal) := by
  rw [val_main_v19_apply, val_main_v17_apply, val_main_v16_apply, val_main_v18_apply, val_main_cst_2_apply, val_main_cst_3_apply]
  have e1 : ∀ k : Fin 64, idx_main_v16 (idx_main_v17 (ix3 R h z)) k = ix3 R h k := fun k => same3 _ _ rfl rfl rfl
  simp only [e1, part_split x1, hu]
  show Ideal.div (Ideal.ofBits .f32 0x00000000#32 + _) (Ideal.ofBits .f32 0x42800000#32) = _
  rw [zero_first, sum_real _ (fun d => u (column h d)) (fun d => rfl), div_width]
  rfl

include hu in
theorem first_centred (h : Fin 16) (d : Fin 64) : val_main_v21 (F := Ideal) x1 (ix3 R h d) = (centred u (column h d) : EReal) := by
  rw [val_main_v21_apply, val_main_v20_apply, part_split, hu,
    show idx_main_v20 (ix3 R h d) = ix3 R h 0 from same3 _ _ rfl rfl rfl, mean_real x1 R u hu]
  show (u (column h d) : EReal) - (mean u h : EReal) = _
  rw [← EReal.coe_sub]
  unfold centred
  rw [headOf_column]

include hu in
theorem second_centred (h : Fin 16) (d : Fin 64) : val_main_v28 (F := Ideal) x1 (ix3 R h d) = (centred u (column h d) : EReal) := by
  rw [val_main_v28_apply, val_main_v27_apply, part_split, hu,
    show idx_main_v27 (ix3 R h d) = ix3 R h 0 from same3 _ _ rfl rfl rfl, mean_real x1 R u hu]
  show (u (column h d) : EReal) - (mean u h : EReal) = _
  rw [← EReal.coe_sub]
  unfold centred
  rw [headOf_column]

include hu in
theorem variance_real (h : Fin 16) (z : Fin 1) : val_main_v26 (F := Ideal) x1 (ix3 R h z) = (variance u h : EReal) := by
  rw [val_main_v26_apply, val_main_v24_apply, val_main_v23_apply, val_main_v25_apply, val_main_cst_4_apply, val_main_cst_5_apply]
  have e1 : ∀ k : Fin 64, idx_main_v23 (idx_main_v24 (ix3 R h z)) k = ix3 R h k := fun k => same3 _ _ rfl rfl rfl
  have e2 : ∀ k : Fin 64, val_main_v22 (F := Ideal) x1 (ix3 R h k) = ((centred u (column h k) * centred u (column h k) : ℝ) : EReal) := fun k => by
    rw [val_main_v22_apply, first_centred x1 R u hu]
    exact (EReal.coe_mul _ _).symm
  simp only [e1]
  show Ideal.div (Ideal.ofBits .f32 0x00000000#32 + _) (Ideal.ofBits .f32 0x42800000#32) = _
  rw [zero_first, sum_real _ _ e2, div_width]
  rfl

include hu in
theorem part_grouped (h : Fin 16) (d : Fin 64) : val_main_v33 (F := Ideal) x1 (ix3 R h d) = (grouped u (column h d) : EReal) := by
  rw [val_main_v33_apply, second_centred x1 R u hu, val_main_v32_apply, val_main_v31_apply, val_main_v30_apply,
    show idx_main_v32 (ix3 R h d) = ix3 R h 0 from same3 _ _ rfl rfl rfl, variance_real x1 R u hu, val_main_v29_apply, val_main_cst_6_apply]
  show (centred u (column h d) : EReal) * Ideal.rsqrt ((variance u h : EReal) + Ideal.ofBits .f32 0x3A27C5AC#32) = _
  rw [ofBits_epsilon, ← EReal.coe_add, rsqrt_pos _ (variance_pos u h), ← EReal.coe_mul]
  unfold grouped
  rw [headOf_column]

include hu in
theorem row_grouped (c : Fin 1024) : val_main_v34 (F := Ideal) x1 (ix2 R c) = (grouped u c : EReal) := by
  have e : idx_main_v34 (ix2 R c) = ix3 R (headOf c) (⟨c.val % 64, by omega⟩ : Fin 64) := by
    refine same3 _ _ ?_ ?_ ?_
    · show (R.val * 1024 + c.val) / 1024 = R.val
      omega
    · show (R.val * 1024 + c.val) / 64 % 16 = c.val / 64
      omega
    · show (R.val * 1024 + c.val) % 64 = c.val % 64
      omega
  rw [val_main_v34_apply, e, part_grouped x1 R u hu]
  exact congrArg (fun c => ((grouped u c : ℝ) : EReal)) (columns.left_inv c)

include hu in
theorem row_gated (c : Fin 1024) : val_main_v42 (F := Ideal) x1 x2 x3 x4 x5 (ix2 R c)
    = (((grouped u c : ℝ) : EReal) * x4 (ix1 c) + x5 (ix1 c) + x2 (ix2 R c)) * x3 (ix2 R c) := by
  rw [val_main_v42_apply, val_main_v41_apply, val_main_v40_apply, val_main_v39_apply, val_main_v38_apply, val_main_v37_apply,
    val_main_v36_apply, val_main_v35_apply, row_grouped x1 R u hu,
    show idx_main_v35 (idx_main_v36 (ix2 R c)) = ix1 c from same1 _ _ rfl, show idx_main_v38 (idx_main_v39 (ix2 R c)) = ix1 c from same1 _ _ rfl]
  rfl

/-- Two blocks of columns side by side. -/
theorem joined (x z : FVec Ideal S16384x1024 .f32) (k : Fin 2048) (hc) :
    concatenate S16384x2048 1 [⟨S16384x1024, x⟩, ⟨S16384x1024, z⟩] hc (ix2 R k)
      = if h : k.val < 1024 then x (ix2 R ⟨k.val, h⟩) else z (ix2 R ⟨k.val - 1024, by omega⟩) := by
  have off : ∀ (a : Fin 1024), ∀ q : Fin 2, q ≠ 1 → ((ix2 R a : S16384x1024.Idx) q).val = ((ix2 R k : S16384x2048.Idx) q).val := fun a q hq => by
    match q with
    | ⟨0, _⟩ => rfl
    | ⟨1, _⟩ => exact absurd rfl hq
  split
  · next h => exact concatenate_apply_piece (t := S16384x2048) 1 [⟨S16384x1024, x⟩, ⟨S16384x1024, z⟩] hc (ix2 R k) 0 (show 0 < 2 by decide) S16384x1024 x rfl rfl 0 rfl (ix2 R _) (off _) (by show 0 + k.val = k.val; omega)
  · next h => exact concatenate_apply_piece (t := S16384x2048) 1 [⟨S16384x1024, x⟩, ⟨S16384x1024, z⟩] hc (ix2 R k) 1 (show 1 < 2 by decide) S16384x1024 z rfl rfl 1024 rfl (ix2 R _) (off _) (by show 1024 + (k.val - 1024) = k.val; omega)

include hu in
/-- The row the reference multiplies. -/
theorem row_mixed (k : Fin 2048) : val_main_v44 (F := Ideal) x0 x1 x2 x3 x4 x5 x6 (ix2 R k)
    = mixed (fun c => x0 (ix2 R c)) u (fun c => x2 (ix2 R c)) (fun c => x3 (ix2 R c)) (fun c => x4 (ix1 c)) (fun c => x5 (ix1 c)) (fun c => x6 (ix1 c)) k := by
  unfold val_main_v44
  refine (joined R _ _ k _).trans ?_
  unfold mixed
  split
  · next h =>
    have e : idx_main_v43 (ix2 R (⟨k.val, h⟩ : Fin 1024)) = ix3 R (⟨k.val / 128, by omega⟩ : Fin 8) (⟨k.val % 128, by omega⟩ : Fin 128) := by
      refine same3 _ _ ?_ ?_ ?_
      · show (R.val * 1024 + k.val) / 1024 = R.val
        omega
      · show (R.val * 1024 + k.val) / 128 % 8 = k.val / 128
        omega
      · show (R.val * 1024 + k.val) % 128 = k.val % 128
        omega
    rw [val_main_v43_apply, e, head_normal]
  · next h => exact row_gated x1 x2 x3 x4 x5 R u hu _

end Real

end Cert.Kernel6Ideal.Combine

end
-- ==== Proof.Combine.lean ====
/-
  The closing projection, from blocks to the array: at each of its 128 points the kernel writes 512 rows by 512 columns of
  the reference's result, and the blocks cover it. The recurrence's outputs are taken to be real numbers: the kernel
  splits each into two parts, and the parts of an infinity do not add up to it.
-/
module

public import proofs.«01_k».proof.Proof.CombineBlocks
public import proofs.«01_k».proof.Proof.CombineReference
public import Idealize.ShloMosaic.Lib.Claim
public import Idealize.ShloMosaic.Lib.ReduceAll
public import proofs.«01_k».proof.Defs
public import proofs.«01_k».proof.Proof.Gen.Reference6Ideal
public import proofs.«01_k».proof.Proof.Gen.Pre_finite_heads

@[expose] public section

set_option maxRecDepth 16384

noncomputable section

namespace Cert.Kernel6Ideal.Combine

open Cert.Kernel6Ideal Cert.Kernel6Ideal.Gen Idealize.ShloMosaic Idealize.ShloMosaic.TcCoe Idealize.SL.Sem
open Idealize.ShloMosaic.Pipeline (Dat Cfg Window)
open Cert.Kernel2Ideal.Projection (ext2)

variable (m : (ℓ : Loc nD τ sig) → Buf (Elt Ideal) ℓ)

/-! ## The blocks -/

/-- Where each window stands at a point: the row block is the point's quotient by 4, the column block its remainder. -/
theorem row_windows : ∀ t : Fin cfg0.N, win0_0.index t (0 : Fin 2) = t.val / 4 ∧ win0_0.index t (1 : Fin 2) = 0
    ∧ win0_1.index t (0 : Fin 2) = t.val / 4 ∧ win0_1.index t (1 : Fin 2) = 0
    ∧ win0_2.index t (0 : Fin 2) = t.val / 4 ∧ win0_2.index t (1 : Fin 2) = 0
    ∧ win0_3.index t (0 : Fin 2) = t.val / 4 ∧ win0_3.index t (1 : Fin 2) = 0 :=
  (by decide +kernel : ∀ t : Fin grid0.N, _)

theorem vector_windows : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem result_windows : ∀ t : Fin cfg0.N, win0_7.index t (0 : Fin 2) = t.val / 4 ∧ win0_7.index t (1 : Fin 2) = t.val % 4
    ∧ win0_8.index t (0 : Fin 2) = 0 ∧ win0_8.index t (1 : Fin 2) = t.val % 4
    ∧ win0_9.index t (0 : Fin 2) = t.val / 4 ∧ win0_9.index t (1 : Fin 2) = t.val % 4 :=
  (by decide +kernel : ∀ t : Fin grid0.N, _)

theorem point_lt (t : Fin cfg0.N) : t.val < 128 := lt_of_lt_of_eq t.isLt (show cfg0.N = 128 from N_0)

/-- The array's row of a block's row. -/
abbrev row (t : Fin cfg0.N) (r : Fin 512) : Fin 16384 := ⟨512 * (t.val / 4) + r.val, by have := point_lt t; omega⟩
/-- The array's column of a block's column. -/
abbrev across (t : Fin cfg0.N) (q : Fin 512) : Fin 2048 := ⟨512 * (t.val % 4) + q.val, by omega⟩

theorem attention_at (c : Dev nD) (t : Fin cfg0.N) (r : Fin 512) (k : Fin 1024) :
    (iblk m c 0 t : Vec Ideal S512x1024 .f32) (ix2 r k) = m ((c : Thread nD τ).loc main_arg0) (ix2 (row t r) k) := by
  obtain ⟨h0, h1, -⟩ := row_windows t
  rw [← V_main_arg0 m c]
  show V m c main_arg0 _ = V m c main_arg0 _
  congr 1
  funext a
  apply Fin.ext
  match a with
  | ⟨0, _⟩ => show win0_0.index t 0 * 512 + 1 * r.val = 512 * (t.val / 4) + r.val; rw [h0]; omega
  | ⟨1, _⟩ => show win0_0.index t 1 * 1024 + 1 * k.val = k.val; rw [h1]; omega

theorem recurrence_at (c : Dev nD) (t : Fin cfg0.N) (r : Fin 512) (k : Fin 1024) :
    (iblk m c 1 t : Vec Ideal S512x1024 .f32) (ix2 r k) = m ((c : Thread nD τ).loc main_arg1) (ix2 (row t r) k) := by
  obtain ⟨-, -, h0, h1, -⟩ := row_windows t
  rw [← V_main_arg1 m c]
  show V m c main_arg1 _ = V m c main_arg1 _
  congr 1
  funext a
  apply Fin.ext
  match a with
  | ⟨0, _⟩ => show win0_1.index t 0 * 512 + 1 * r.val = 512 * (t.val / 4) + r.val; rw [h0]; omega
  | ⟨1, _⟩ => show win0_1.index t 1 * 1024 + 1 * k.val = k.val; rw [h1]; omega

theorem bonus_at (c : Dev nD) (t : Fin cfg0.N) (r : Fin 512) (k : Fin 1024) :
    (iblk m c 2 t : Vec Ideal S512x1024 .f32) (ix2 r k) = m ((c : Thread nD τ).loc main_arg2) (ix2 (row t r) k) := by
  obtain ⟨-, -, -, -, h0, h1, -⟩ := row_windows t
  rw [← V_main_arg2 m c]
  show V m c main_arg2 _ = V m c main_arg2 _
  congr 1
  funext a
  apply Fin.ext
  match a with
  | ⟨0, _⟩ => show win0_2.index t 0 * 512 + 1 * r.val = 512 * (t.val / 4) + r.val; rw [h0]; omega
  | ⟨1, _⟩ => show win0_2.index t 1 * 1024 + 1 * k.val = k.val; rw [h1]; omega

theorem gate_at (c : Dev nD) (t : Fin cfg0.N) (r : Fin 512) (k : Fin 1024) :
    (iblk m c 3 t : Vec Ideal S512x1024 .f32) (ix2 r k) = m ((c : Thread nD τ).loc main_arg3) (ix2 (row t r) k) := by
  obtain ⟨-, -, -, -, -, -, h0, h1⟩ := row_windows t
  rw [← V_main_arg3 m c]
  show V m c main_arg3 _ = V m c main_arg3 _
  congr 1
  funext a
  apply Fin.ext
  match a with
  | ⟨0, _⟩ => show win0_3.index t 0 * 512 + 1 * r.val = 512 * (t.val / 4) + r.val; rw [h0]; omega
  | ⟨1, _⟩ => show win0_3.index t 1 * 1024 + 1 * k.val = k.val; rw [h1]; omega

theorem V_scale (c : Dev nD) : (V m c main_v0 : Vec Ideal S1x1024 .f32)
    = shapeCast S1x1024 (m ((c : Thread nD τ).loc main_arg4) : Vec Ideal S1024 .f32) shapeCasts_S1024_S1x1024 := by
  unfold V
  simp only [hostOps0]
  after_results_simp
  try dsimp only [Matrix.cons_val]
  try after_results_simp
  rfl

theorem scale_at (c : Dev nD) (t : Fin cfg0.N) (k : Fin 1024) :
    (iblk m c 4 t : Vec Ideal S1x1024 .f32) (ix2 0 k) = m ((c : Thread nD τ).loc main_arg4) (ix1 k) := by
  obtain ⟨h0, h1, -⟩ := vector_windows t
  have e : (V m c main_v0 : Vec Ideal S1x1024 .f32) (ix2 0 k) = m ((c : Thread nD τ).loc main_arg4) (ix1 k) := by
    rw [V_scale]
    pointwise
  refine Eq.trans ?_ e
  show V m c main_v0 _ = V m c main_v0 _
  congr 1
  funext a
  apply Fin.ext
  match a with
  | ⟨0, _⟩ => show win0_4.index t 0 * 1 + 1 * 0 = 0; rw [h0]
  | ⟨1, _⟩ => show win0_4.index t 1 * 1024 + 1 * k.val = k.val; rw [h1]; omega

theorem V_offset (c : Dev nD) : (V m c main_v1 : Vec Ideal S1x1024 .f32)
    = shapeCast S1x1024 (m ((c : Thread nD τ).loc main_arg5) : Vec Ideal S1024 .f32) shapeCasts_S1024_S1x1024 := by
  unfold V
  simp only [hostOps0]
  after_results_simp
  try dsimp only [Matrix.cons_val]
  try after_results_simp
  rfl

theorem offset_at (c : Dev nD) (t : Fin cfg0.N) (k : Fin 1024) :
    (iblk m c 5 t : Vec Ideal S1x1024 .f32) (ix2 0 k) = m ((c : Thread nD τ).loc main_arg5) (ix1 k) := by
  obtain ⟨-, -, h0, h1, -⟩ := vector_windows t
  have e : (V m c main_v1 : Vec Ideal S1x1024 .f32) (ix2 0 k) = m ((c : Thread nD τ).loc main_arg5) (ix1 k) := by
    rw [V_offset]
    pointwise
  refine Eq.trans ?_ e
  show V m c main_v1 _ = V m c main_v1 _
  congr 1
  funext a
  apply Fin.ext
  match a with
  | ⟨0, _⟩ => show win0_5.index t 0 * 1 + 1 * 0 = 0; rw [h0]
  | ⟨1, _⟩ => show win0_5.index t 1 * 1024 + 1 * k.val = k.val; rw [h1]; omega

theorem V_gain (c : Dev nD) : (V m c main_v2 : Vec Ideal S1x1024 .f32)
    = shapeCast S1x1024 (m ((c : Thread nD τ).loc main_arg6) : Vec Ideal S1024 .f32) shapeCasts_S1024_S1x1024 := by
  unfold V
  simp only [hostOps0]
  after_results_simp
  try dsimp only [Matrix.cons_val]
  try after_results_simp
  rfl

theorem gain_at (c : Dev nD) (t : Fin cfg0.N) (k : Fin 1024) :
    (iblk m c 6 t : Vec Ideal S1x1024 .f32) (ix2 0 k) = m ((c : Thread nD τ).loc main_arg6) (ix1 k) := by
  obtain ⟨-, -, -, -, h0, h1⟩ := vector_windows t
  have e : (V m c main_v2 : Vec Ideal S1x1024 .f32) (ix2 0 k) = m ((c : Thread nD τ).loc main_arg6) (ix1 k) := by
    rw [V_gain]
    pointwise
  refine Eq.trans ?_ e
  show V m c main_v2 _ = V m c main_v2 _
  congr 1
  funext a
  apply Fin.ext
  match a with
  | ⟨0, _⟩ => show win0_6.index t 0 * 1 + 1 * 0 = 0; rw [h0]
  | ⟨1, _⟩ => show win0_6.index t 1 * 1024 + 1 * k.val = k.val; rw [h1]; omega

theorem input_at (c : Dev nD) (t : Fin cfg0.N) (r q : Fin 512) :
    (iblk m c 7 t : Vec Ideal S512x512 .f32) (ix2 r q) = m ((c : Thread nD τ).loc main_arg7) (ix2 (row t r) (across t q)) := by
  obtain ⟨h0, h1, -⟩ := result_windows t
  rw [← V_main_arg7 m c]
  show V m c main_arg7 _ = V m c main_arg7 _
  congr 1
  funext a
  apply Fin.ext
  match a with
  | ⟨0, _⟩ => show win0_7.index t 0 * 512 + 1 * r.val = 512 * (t.val / 4) + r.val; rw [h0]; omega
  | ⟨1, _⟩ => show win0_7.index t 1 * 512 + 1 * q.val = 512 * (t.val % 4) + q.val; rw [h1]; omega

theorem matrix_at (c : Dev nD) (t : Fin cfg0.N) (k : Fin 2048) (q : Fin 512) :
    (iblk m c 8 t : Vec Ideal S2048x512 .bf16) (ix2 k q) = m ((c : Thread nD τ).loc main_arg8) (ix2 k (across t q)) := by
  obtain ⟨-, -, h0, h1, -⟩ := result_windows t
  rw [← V_main_arg8 m c]
  show V m c main_arg8 _ = V m c main_arg8 _
  congr 1
  funext a
  apply Fin.ext
  match a with
  | ⟨0, _⟩ => show win0_8.index t 0 * 2048 + 1 * k.val = k.val; rw [h0]; omega
  | ⟨1, _⟩ => show win0_8.index t 1 * 512 + 1 * q.val = 512 * (t.val % 4) + q.val; rw [h1]; omega

/-! ## What the points leave -/

/-- The rows of a point's row block. -/
abbrev pointRows (c : Dev nD) (t : Fin cfg0.N) : Vec Ideal S512x2048 .bf16 :=
  rowsOf (iblk m c 0 t) (iblk m c 1 t) (iblk m c 2 t) (iblk m c 3 t) (iblk m c 4 t) (iblk m c 5 t) (iblk m c 6 t)

/-- Two points of one row block have the same rows. -/
theorem rows_same (c : Dev nD) (t t' : Fin cfg0.N) (h : t.val / 4 = t'.val / 4) : pointRows m c t = pointRows m c t' := by
  have hr : ∀ r, row t r = row t' r := fun r => Fin.ext (by show 512 * (t.val / 4) + r.val = 512 * (t'.val / 4) + r.val; rw [h])
  have e0 : (iblk m c 0 t : Vec Ideal S512x1024 .f32) = iblk m c 0 t' := ext2 fun r k => by rw [attention_at, attention_at, hr]
  have e1 : (iblk m c 1 t : Vec Ideal S512x1024 .f32) = iblk m c 1 t' := ext2 fun r k => by rw [recurrence_at, recurrence_at, hr]
  have e2 : (iblk m c 2 t : Vec Ideal S512x1024 .f32) = iblk m c 2 t' := ext2 fun r k => by rw [bonus_at, bonus_at, hr]
  have e3 : (iblk m c 3 t : Vec Ideal S512x1024 .f32) = iblk m c 3 t' := ext2 fun r k => by rw [gate_at, gate_at, hr]
  have e4 : (iblk m c 4 t : Vec Ideal S1x1024 .f32) = iblk m c 4 t' := ext2 fun r k => by
    obtain rfl : r = 0 := Subsingleton.elim _ _
    exact (scale_at m c t k).trans (scale_at m c t' k).symm
  have e5 : (iblk m c 5 t : Vec Ideal S1x1024 .f32) = iblk m c 5 t' := ext2 fun r k => by
    obtain rfl : r = 0 := Subsingleton.elim _ _
    exact (offset_at m c t k).trans (offset_at m c t' k).symm
  have e6 : (iblk m c 6 t : Vec Ideal S1x1024 .f32) = iblk m c 6 t' := ext2 fun r k => by
    obtain rfl : r = 0 := Subsingleton.elim _ _
    exact (gain_at m c t k).trans (gain_at m c t' k).symm
  unfold pointRows
  rw [e0, e1, e2, e3, e4, e5, e6]

/-- After every point the scratch holds the rows of the point's row block. -/
theorem scratch_after (c : Dev nD) : ∀ (n : ℕ) (h : n < cfg0.N), (outsAt0 m c n h).2 = pointRows m c ⟨n, h⟩ := by
  intro n
  induction n with
  | zero =>
    intro h
    rw [outsAt0_A m c ⟨0, h⟩ rfl]
    dsimp only
    rw [scratch_first]
  | succ n ih =>
    intro h
    by_cases h0 : (n + 1) % 4 = 0
    · rw [outsAt0_A m c ⟨n + 1, h⟩ h0]
      dsimp only
      rw [scratch_first]
    · have hn : n < cfg0.N := Nat.lt_of_succ_lt h
      rw [outsAt0_B m c ⟨n + 1, h⟩ h0, rows_same m c ⟨n + 1, h⟩ ⟨n, hn⟩ (by show (n + 1) / 4 = n / 4; omega)]
      exact ih hn

/-- After every point the result's block is its block of `x` and the product of the point's rows and columns. -/
theorem result_after (c : Dev nD) (t : Fin cfg0.N) :
    (outsAt0 m c t.val t.isLt).1 = k0_pay2 (F := Ideal) (iblk m c 7 t) (pointRows m c t) (iblk m c 8 t) := by
  by_cases h0 : t.val % 4 = 0
  · rw [outsAt0_A m c t h0]
    dsimp only
    rw [result_first]
  · have hn : t.val - 1 < cfg0.N := by have := t.isLt; omega
    rw [outsAt0_B m c t h0]
    dsimp only
    rw [result_later, scratch_after m c (t.val - 1) hn, rows_same m c ⟨t.val - 1, hn⟩ t (by show (t.val - 1) / 4 = t.val / 4; omega)]

/-- The reference's result of the launch's arguments. -/
abbrev combined (c : Dev nD) : Buf (Elt Ideal) ((c : Thread nD τ).loc main_v3) :=
  Cert.Reference6Ideal.Read.val_main_v47 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

/-- One entry of a product added to a block. -/
theorem product_apply (x : FVec Ideal S512x512 .f32) (s : FVec Ideal S512x2048 .bf16) (w : FVec Ideal S2048x512 .bf16) (r q : Fin 512) :
    k0_pay2 (F := Ideal) x s w (ix2 r q) = (x (ix2 r q) + ∑ k, s (ix2 r k) * w (ix2 k q) : EReal) := by
  pointwise [k0_pay2]

section Whole

variable (c : Dev nD) (u : Fin 16384 → Fin 1024 → ℝ) (hu : ∀ R k, m ((c : Thread nD τ).loc main_arg1) (ix2 R k) = (u R k : EReal))

include hu in
open Cert.Reference6Ideal.Read in
/-- One entry of a point's block is the reference's. -/
theorem element (t : Fin cfg0.N) (r q : Fin 512) :
    k0_pay2 (F := Ideal) (iblk m c 7 t) (pointRows m c t) (iblk m c 8 t) (ix2 r q) = combined m c (ix2 (row t r) (across t q)) := by
  refine (product_apply _ _ _ r q).trans ?_
  unfold combined
  rw [val_main_v47_apply, val_main_v46_apply]
  have e1 : ∀ k : Fin 2048, lidx_main_v46 (ix2 (row t r) (across t q)) k = ix2 (row t r) k := fun k => Cert.Kernel3Ideal.Heads.same2 _ _ rfl rfl
  have e2 : ∀ k : Fin 2048, ridx_main_v46 (ix2 (row t r) (across t q)) k = ix2 k (across t q) := fun k => Cert.Kernel3Ideal.Heads.same2 _ _ rfl rfl
  have e3 : ∀ k : Fin 2048, pointRows m c t (ix2 r k)
      = mixed (fun k => m ((c : Thread nD τ).loc main_arg0) (ix2 (row t r) k)) (u (row t r)) (fun k => m ((c : Thread nD τ).loc main_arg2) (ix2 (row t r) k))
        (fun k => m ((c : Thread nD τ).loc main_arg3) (ix2 (row t r) k)) (fun k => m ((c : Thread nD τ).loc main_arg4) (ix1 k))
        (fun k => m ((c : Thread nD τ).loc main_arg5) (ix1 k)) (fun k => m ((c : Thread nD τ).loc main_arg6) (ix1 k)) k := fun k => by
    refine (rowsOf_mixed _ _ _ _ _ _ _ r (u (row t r)) (fun k => (recurrence_at m c t r k).trans (hu _ _)) k).trans ?_
    simp only [attention_at m c t, bonus_at m c t, gate_at m c t, scale_at m c t, offset_at m c t, gain_at m c t]
  simp only [e1, e2, val_main_v45_apply]
  refine congrArg₂ (fun a b : EReal => a + b) (input_at m c t r q) (Finset.sum_congr rfl fun k _ => congrArg₂ (fun a b : EReal => a * b) ?_ (matrix_at m c t k q))
  exact (e3 k).trans (row_mixed _ _ _ _ _ _ _ (row t r) (u (row t r)) (hu (row t r)) k).symm

include hu in
/-- A point writes back its block of the result. -/
theorem written_back (t : Fin cfg0.N) : (dats m 0 c).flushed 9 t = ((cfg0.win 9).blk t).view.read (Elt Ideal) (combined m c) := by
  rw [Value.flushed9, result_after]
  obtain ⟨-, -, -, -, h0, h1⟩ := result_windows t
  refine ext2 (a := 512) (b := 512) (f := k0_pay2 (F := Ideal) (iblk m c 7 t) (pointRows m c t) (iblk m c 8 t)) fun r q => ?_
  refine (element m c u hu t r q).trans ?_
  show combined m c _ = combined m c _
  congr 1
  funext a
  apply Fin.ext
  match a with
  | ⟨0, _⟩ => show 512 * (t.val / 4) + r.val = win0_9.index t 0 * 512 + 1 * r.val; rw [h0]; omega
  | ⟨1, _⟩ => show 512 * (t.val % 4) + q.val = win0_9.index t 1 * 512 + 1 * q.val; rw [h1]; omega

include hu in
theorem array : (dats m 0 c).arrAt 9 cfg0.N = combined m c :=
  (dats m 0 c).arrAt_eq_of_cover 9 _ (fun t _ => written_back m c u hu t) fun i => (Value.covered_iff9 i).2 (by
    have h0 : (i 0).val < 16384 := (i 0).isLt; have h1 : (i 1).val < 2048 := (i 1).isLt; omega)

end Whole

/-! ## The precondition -/

/-- Below `+∞` in absolute value: a real number. -/
theorem real_of_lt (z : EReal) (h : BitVec.ofBool (decide (max z (-z) < Ideal.ofBits .f32 0x7F800000#32)) = 1#1) : z = (EReal.toReal z : EReal) := by
  have ht : Ideal.ofBits .f32 0x7F800000#32 = ⊤ := by simp [Ideal.ofBits, Ideal.ieee]
  rw [ht] at h
  have h' : max z (-z) < ⊤ := by
    by_contra hn
    rw [decide_eq_false hn] at h
    exact absurd h (by decide)
  refine (EReal.coe_toReal ?_ ?_).symm
  · rintro rfl; simp at h'
  · rintro rfl; simp at h'

section

attribute [local instance] Cert.Pre_finite_heads.Gen.facts

/-- The precondition says that the recurrence's outputs are real numbers. -/
theorem outputs_real (h : Cert.Pre_Kernel6Ideal_finite_heads m) (c : Dev nD) (R : Fin 16384) (k : Fin 1024) :
    m ((c : Thread nD τ).loc main_arg1) (ix2 R k) = (EReal.toReal (m ((c : Thread nD τ).loc main_arg1) (ix2 R k)) : EReal) := by
  have e := congrFun (h c) (fun a => Fin.elim0 a)
  exact real_of_lt _ (Host.reduce_andi_all _ _ _ _ (fun a => Fin.elim0 a) e (ix2 R k))

end

/-- The closing projection's kernel and its reference end with equal results. -/
theorem same_result : Cert.algebraic_Kernel6Ideal_Reference6Ideal_pre_finite_heads (hKernel6Ideal := Gen.facts)
    (hReference6Ideal := Cert.Reference6Ideal.Gen.facts) (hPre_finite_heads := Cert.Pre_finite_heads.Gen.facts) := by
  intro m g m' g' hpre hagree
  refine ⟨combined m, ?_, ?_⟩
  · exact (θ_run _ _ _).mono (fun r h c => ⟨(h c).1.trans (array m c _ (outputs_real m hpre c)), (h c).2⟩) (Value.run_blocks m g)
  · refine (θ_run _ _ _).mono (fun r h c => ⟨?_, (h c).2⟩) (Cert.Reference6Ideal.Value.run m' g')
    refine (h c).1.trans ((Cert.Reference6Ideal.Read.val_main_v47_eq _ _ _ _ _ _ _ _ _).trans ?_)
    obtain ⟨g0, g1, g2, g3, g4, g5, g6, g7, g8⟩ := hagree c
    rw [g0, g1, g2, g3, g4, g5, g6, g7, g8]

end Cert.Kernel6Ideal.Combine

end
-- ==== Proof.NormSample.lean ====
/-
  The recurrence's features of the sampled positions: as in `NormFeatures.lean`, with one block of 128 rows and four blocks of
  896 columns.
-/
module

public import proofs.«01_k».proof.Proof.Gen.Kernel7Ideal.Value
public import proofs.«01_k».proof.Proof.Gen.Reference7Ideal.Read
public import Idealize.ShloMosaic.Lib.Pointwise
public import Idealize.ShloMosaic.Lib.Claim
public import proofs.«01_k».proof.Defs
public import proofs.«01_k».proof.Proof.NormMatmul
public import proofs.«01_k».proof.Proof.Gen.Reference7Ideal

@[expose] public section

set_option maxRecDepth 16384

noncomputable section

namespace Cert.Kernel7Ideal.Projection

open Cert.Kernel7Ideal Cert.Kernel7Ideal.Gen Idealize.ShloMosaic Idealize.ShloMosaic.TcCoe Idealize.SL.Sem
open Idealize.ShloMosaic.Pipeline (Dat Cfg Window)
open Cert.Kernel2Ideal.Projection (off2 ext2)

section Blocks

variable {F : FTy → Type} [FloatOps F]

/-- At a row block's first point the result's block is the product of the rows normalised there. -/
theorem result_first (c : Dev nD) (i : grid0.Coords) (a2 : Memref sig .tc .vmem S128x2048 .f32) (h2 : a2.IsWhole)
    (a3 : Memref sig .tc .vmem S1x2048 .f32) (h3 : a3.IsWhole) (a4 : Memref sig .tc .vmem S2048x896 .bf16) (h4 : a4.IsWhole)
    (a5 : Memref sig .tc .vmem S128x896 .f32) (h5 : a5.IsWhole) (a6 : Memref sig .tc .vmem S128x2048 .bf16) (h6 : a6.IsWhole)
    (hc : cond0_0 i) (x : Vec F S128x2048 .f32) (g : Vec F S1x2048 .f32) (w : Vec F S2048x896 .bf16) :
    out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero off2, View.readCov_unit_zero (S := S128x2048) _ off2]
  simp only [View.readAt_eq_ld, h2.read_unread, h3.read_unread, h4.read_unread, View.ld_unit_zero (S := S128x2048) off2,
    View.ld_unit_zero (S := S1x2048) off2, View.ld_unit_zero (S := S2048x896) off2]

/-- … and the scratch holds those rows. -/
theorem scratch_first (c : Dev nD) (i : grid0.Coords) (a2 : Memref sig .tc .vmem S128x2048 .f32) (h2 : a2.IsWhole)
    (a3 : Memref sig .tc .vmem S1x2048 .f32) (h3 : a3.IsWhole) (a4 : Memref sig .tc .vmem S2048x896 .bf16) (h4 : a4.IsWhole)
    (a5 : Memref sig .tc .vmem S128x896 .f32) (h5 : a5.IsWhole) (a6 : Memref sig .tc .vmem S128x2048 .bf16) (h6 : a6.IsWhole)
    (hc : cond0_0 i) (x : Vec F S128x2048 .f32) (g : Vec F S1x2048 .f32) (w : Vec F S2048x896 .bf16) :
    sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  try sl_unfold_words
  rw [View.canon_unit_zero off2]
  simp only [View.readAt_eq_ld, h2.read_unread, h3.read_unread, View.ld_unit_zero (S := S128x2048) off2,
    View.ld_unit_zero (S := S1x2048) off2]

/-- At the later points of a row block the result's block is the product of the rows the scratch holds. -/
theorem result_later (c : Dev nD) (i : grid0.Coords) (a2 : Memref sig .tc .vmem S128x2048 .f32) (h2 : a2.IsWhole)
    (a3 : Memref sig .tc .vmem S1x2048 .f32) (h3 : a3.IsWhole) (a4 : Memref sig .tc .vmem S2048x896 .bf16) (h4 : a4.IsWhole)
    (a5 : Memref sig .tc .vmem S128x896 .f32) (h5 : a5.IsWhole) (a6 : Memref sig .tc .vmem S128x2048 .bf16) (h6 : a6.IsWhole)
    (hc : ¬cond0_0 i) (x : Vec F S128x2048 .f32) (g : Vec F S1x2048 .f32) (w : Vec F S2048x896 .bf16) (s : Vec F S128x2048 .bf16) :
    out0_B_3 c i a2 h2 a3 h3 a4 h4 a5 h5 a6 h6 hc x g w s = k0_pay2 s w := by
  unfold out0_B_3
  rw [View.read_writes_eq_canon _ _ _ (cover0_B_3 c i a2 h2 a3 h3 a4 h4 a5 h5 a6 h6 hc x g w s)]
  unfold kernelRun0_B
  dsimp only
  try sl_unfold_words
  rw [View.canon_unit_zero off2]
  simp only [View.readAt_eq_ld, h4.read_unread, h6.read_unread, View.ld_unit_zero (S := S128x2048) off2,
    View.ld_unit_zero (S := S2048x896) off2]

variable (m : (ℓ : Loc nD τ sig) → Buf (Elt F) ℓ)

/-- Where each window stands at a point: the row block is the point's quotient by 4, the column block its remainder. -/
theorem window_at : ∀ t : Fin cfg0.N, win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = t.val % 4 :=
  (by decide +kernel : ∀ t : Fin grid0.N, _)

theorem point_lt (t : Fin cfg0.N) : t.val < 4 := lt_of_lt_of_eq t.isLt (show cfg0.N = 4 from N_0)

/-- A block of rows read from the array. -/
theorem rows_at (c : Dev nD) (t : Fin cfg0.N) (r : Fin 128) (k : Fin 2048) :
    (iblk m c 0 t : Vec F S128x2048 .f32) (ix2 r k)
      = m ((c : Thread nD τ).loc main_arg0) (ix2 (⟨128 * (t.val / 4) + r.val, by have := point_lt t; omega⟩ : Fin 128) k) := by
  obtain ⟨h0, h1, -⟩ := window_at t
  rw [← V_main_arg0 m c]
  show V m c main_arg0 _ = V m c main_arg0 _
  congr 1
  funext a
  apply Fin.ext
  match a with
  | ⟨0, _⟩ => show win0_0.index t 0 * 128 + 1 * r.val = 128 * (t.val / 4) + r.val; rw [h0]; omega
  | ⟨1, _⟩ => show win0_0.index t 1 * 2048 + 1 * k.val = k.val; rw [h1]; omega

/-- The reshaped gains, as the region finds them. -/
theorem V_main_v0 (c : Dev nD) (k : Fin 2048) :
    (V m c main_v0 : Vec F S1x2048 .f32) (ix2 0 k) = m ((c : Thread nD τ).loc main_arg1) (ix1 k) := by
  have e : (V m c main_v0 : Vec F S1x2048 .f32) = shapeCast S1x2048 (m ((c : Thread nD τ).loc main_arg1) : Vec F S2048 .f32) shapeCasts_S2048_S1x2048 := by
    show (StableHlo.reshape (τ := τ) (Val := Elt F) main_arg1 main_v0 (rfl : (.f32 : EltTy) = .f32) shapeCasts_S2048_S1x2048).result
      (fun b => m (c, b)) (Proc.devRef .tc main_v0) = _
    exact StableHlo.reshape_result' ..
  rw [e]
  pointwise

theorem gains_at (c : Dev nD) (t : Fin cfg0.N) (k : Fin 2048) :
    (iblk m c 1 t : Vec F S1x2048 .f32) (ix2 0 k) = m ((c : Thread nD τ).loc main_arg1) (ix1 k) := by
  obtain ⟨-, -, h0, h1, -⟩ := window_at t
  rw [← V_main_v0 m c]
  show V m c main_v0 _ = V m c main_v0 _
  congr 1
  funext a
  apply Fin.ext
  match a with
  | ⟨0, _⟩ => show win0_1.index t 0 * 1 + 1 * 0 = 0; rw [h0]
  | ⟨1, _⟩ => show win0_1.index t 1 * 2048 + 1 * k.val = k.val; rw [h1]; omega

/-- A block of columns of the matrix. -/
theorem columns_at (c : Dev nD) (t : Fin cfg0.N) (k : Fin 2048) (q : Fin 896) :
    (iblk m c 2 t : Vec F S2048x896 .bf16) (ix2 k q)
      = m ((c : Thread nD τ).loc main_arg2) (ix2 k (⟨896 * (t.val % 4) + q.val, by omega⟩ : Fin 3584)) := by
  obtain ⟨-, -, -, -, h0, h1, -⟩ := window_at t
  rw [← V_main_arg2 m c]
  show V m c main_arg2 _ = V m c main_arg2 _
  congr 1
  funext a
  apply Fin.ext
  match a with
  | ⟨0, _⟩ => show win0_2.index t 0 * 2048 + 1 * k.val = k.val; rw [h0]; omega
  | ⟨1, _⟩ => show win0_2.index t 1 * 896 + 1 * q.val = 896 * (t.val % 4) + q.val; rw [h1]; omega

/-- Two points of one row block read the same rows and gains. -/
theorem rows_same (c : Dev nD) (t t' : Fin cfg0.N) (h : t.val / 4 = t'.val / 4) :
    (iblk m c 0 t : Vec F S128x2048 .f32) = iblk m c 0 t' :=
  ext2 fun r k => (rows_at m c t r k).trans (by simp only [h]; exact (rows_at m c t' r k).symm)

theorem gains_same (c : Dev nD) (t t' : Fin cfg0.N) : (iblk m c 1 t : Vec F S1x2048 .f32) = iblk m c 1 t' :=
  ext2 fun r k => by
    obtain rfl : r = 0 := Subsingleton.elim _ _
    exact (gains_at m c t k).trans (gains_at m c t' k).symm

/-- After every point the scratch holds the normalised rows of the point's row block. -/
theorem scratch_after (c : Dev nD) : ∀ (n : ℕ) (h : n < cfg0.N),
    (outsAt0 m c n h).2 = k0_pay1 (F := F) (iblk m c 0 ⟨n, h⟩) (iblk m c 1 ⟨n, h⟩) := by
  intro n
  induction n with
  | zero =>
    intro h
    rw [outsAt0_A m c ⟨0, h⟩ rfl]
    dsimp only
    rw [scratch_first]
  | succ n ih =>
    intro h
    by_cases h0 : (n + 1) % 4 = 0
    · rw [outsAt0_A m c ⟨n + 1, h⟩ h0]
      dsimp only
      rw [scratch_first]
    · have hn : n < cfg0.N := Nat.lt_of_succ_lt h
      rw [outsAt0_B m c ⟨n + 1, h⟩ h0, rows_same m c ⟨n + 1, h⟩ ⟨n, hn⟩ (by show (n + 1) / 4 = n / 4; omega),
        gains_same m c ⟨n + 1, h⟩ ⟨n, hn⟩]
      exact ih hn

/-- After every point the result's block is the product of the normalised rows with the point's columns. -/
theorem result_after (c : Dev nD) (t : Fin cfg0.N) :
    (outsAt0 m c t.val t.isLt).1 = k0_pay2 (F := F) (k0_pay1 (iblk m c 0 t) (iblk m c 1 t)) (iblk m c 2 t) := by
  by_cases h0 : t.val % 4 = 0
  · rw [outsAt0_A m c t h0]
    dsimp only
    rw [result_first]
  · have hn : t.val - 1 < cfg0.N := by have := t.isLt; omega
    rw [outsAt0_B m c t h0]
    dsimp only
    rw [result_later, scratch_after m c (t.val - 1) hn, rows_same m c ⟨t.val - 1, hn⟩ t (by show (t.val - 1) / 4 = t.val / 4; omega),
      gains_same m c ⟨t.val - 1, hn⟩ t]

end Blocks

/-! ## One element -/

open Cert.Reference7Ideal.Read in
/-- One element of a block, from blocks that are parts of whole arrays: the element of the reference's product. -/
theorem element (x : FVec Ideal S128x2048 .f32) (g : FVec Ideal S2048 .f32) (w : FVec Ideal S2048x3584 .bf16)
    (xb : Vec Ideal S128x2048 .f32) (gb : Vec Ideal S1x2048 .f32) (wb : Vec Ideal S2048x896 .bf16)
    (R : Fin 128) (C : Fin 3584) (r : Fin 128) (q : Fin 896)
    (hx : ∀ k : Fin 2048, xb (ix2 r k) = x (ix2 R k)) (hg : ∀ k : Fin 2048, gb (ix2 0 k) = g (ix1 k))
    (hw : ∀ k : Fin 2048, wb (ix2 k q) = w (ix2 k C)) :
    k0_pay2 (k0_pay1 xb gb) wb (ix2 r q) = val_main_v14 (F := Ideal) x g w (ix2 R C) := by
  pointwise [k0_pay2, k0_pay1]
  rw [val_main_v14_apply]
  simp only [val_main_v0_apply, val_main_v1_apply, val_main_v2_apply, val_main_v3_apply, val_main_v4_apply, val_main_v5_apply,
    val_main_v6_apply, val_main_v7_apply, val_main_v8_apply, val_main_v9_apply, val_main_v10_apply, val_main_v11_apply,
    val_main_v12_apply, val_main_v13_apply, val_main_cst_apply, val_main_cst_0_apply, val_main_cst_1_apply, pointwise]
  have e1 : ∀ k : Fin 2048, lidx_main_v14 (ix2 R C) k = ix2 R k := fun k => funext fun a => by
    match a with
    | ⟨0, _⟩ => rfl
    | ⟨1, _⟩ => rfl
  have e2 : ∀ k : Fin 2048, ridx_main_v14 (ix2 R C) k = ix2 k C := fun k => funext fun a => by
    match a with
    | ⟨0, _⟩ => rfl
    | ⟨1, _⟩ => rfl
  have e3 : ∀ k k' : Fin 2048, idx_main_v1 (idx_main_v2 (idx_main_v8 (ix2 R k))) k' = ix2 R k' := fun k k' => funext fun a => by
    match a with
    | ⟨0, _⟩ => rfl
    | ⟨1, _⟩ => rfl
  have e4 : ∀ k : Fin 2048, idx_main_v10 (idx_main_v11 (ix2 R k)) = ix1 k := fun k => funext fun a => by
    match a with
    | ⟨0, _⟩ => rfl
  simp only [e1, e2, e3, e4, hx, hg, hw, zero_add]

/-! ## The whole array -/

section Whole

variable (m : (ℓ : Loc nD τ sig) → Buf (Elt Ideal) ℓ)

/-- The reference's product of the launch's arguments. -/
abbrev product (c : Dev nD) : Buf (Elt Ideal) ((c : Thread nD τ).loc main_v1) :=
  Cert.Reference7Ideal.Read.val_main_v14 (F := Ideal) (m ((c : Thread nD τ).loc main_arg0)) (m ((c : Thread nD τ).loc main_arg1))
    (m ((c : Thread nD τ).loc main_arg2))

/-- A point writes back its block of the product. -/
theorem written_back (c : Dev nD) (t : Fin cfg0.N) :
    (dats m 0 c).flushed 3 t = ((cfg0.win 3).blk t).view.read (Elt Ideal) (product m c) := by
  rw [Value.flushed3, result_after]
  obtain ⟨-, -, -, -, -, -, h0, h1⟩ := window_at t
  have ht := point_lt t
  refine ext2 (a := 128) (b := 896) (f := k0_pay2 (F := Ideal) (k0_pay1 (iblk m c 0 t) (iblk m c 1 t)) (iblk m c 2 t)) fun r q => ?_
  refine (element (m ((c : Thread nD τ).loc main_arg0)) (m ((c : Thread nD τ).loc main_arg1)) (m ((c : Thread nD τ).loc main_arg2)) _ _ _
    (⟨128 * (t.val / 4) + r.val, by omega⟩ : Fin 128) (⟨896 * (t.val % 4) + q.val, by omega⟩ : Fin 3584) r q
    (fun k => rows_at m c t r k) (fun k => gains_at m c t k) (fun k => columns_at m c t k q)).trans ?_
  show product m c _ = product m c _
  congr 1
  funext a
  apply Fin.ext
  match a with
  | ⟨0, _⟩ => show 128 * (t.val / 4) + r.val = win0_3.index t 0 * 128 + 1 * r.val; rw [h0]; omega
  | ⟨1, _⟩ => show 896 * (t.val % 4) + q.val = win0_3.index t 1 * 896 + 1 * q.val; rw [h1]; omega

theorem array (c : Dev nD) : (dats m 0 c).arrAt 3 cfg0.N = product m c :=
  (dats m 0 c).arrAt_eq_of_cover 3 _ (fun t _ => written_back m c t) fun i => (Value.covered_iff3 i).2 (by
    have h0 : (i 0).val < 128 := (i 0).isLt; have h1 : (i 1).val < 3584 := (i 1).isLt; omega)

end Whole

/-- The projection's kernel and its reference end with equal results. -/
theorem same_result : Cert.algebraic_Kernel7Ideal_Reference7Ideal (hKernel7Ideal := Gen.facts) (hReference7Ideal := Cert.Reference7Ideal.Gen.facts) := by
  intro m g m' g' _ hagree
  refine ⟨product m, ?_, ?_⟩
  · exact (θ_run _ _ _).mono (fun r h c => ⟨(h c).1.trans (array m c), (h c).2⟩) (Value.run_blocks m g)
  · refine (θ_run _ _ _).mono (fun r h c => ⟨?_, (h c).2⟩) (Cert.Reference7Ideal.Value.run m' g')
    refine (h c).1.trans ((Cert.Reference7Ideal.Read.val_main_v14_eq _ _ _).trans ?_)
    rw [(hagree c).1, (hagree c).2.1, (hagree c).2.2]

end Cert.Kernel7Ideal.Projection

end
-- ==== Proof.lean ====
/- The claims about the calls, put together: each program's frame is the generated one, the references are host
   programs without semaphores, and the value claims are proved in the modules imported last. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.KernelIdeal.Value
public import proofs.«01_k».proof.Proof.Gen.Kernel2Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.NormMatmul
public import proofs.«01_k».proof.Proof.Attention
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.HeadArrays
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.NormFeatures
public import proofs.«01_k».proof.Proof.NormQueries
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite_heads
public import proofs.«01_k».proof.Proof.Combine
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.NormSample
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_heads.Gen.facts,
  fun m ρ _ => Cert.Kernel.Gen.frame m ρ,
  fun m ρ _ => Cert.KernelIdeal.Gen.frame m ρ,
  fun m ρ _ => (θ_run _ _ _).mono (fun r h => ⟨fun c => (h c).2, sem_eq_zero_of_no_sems (by decide) r.2⟩) (Cert.ReferenceIdeal.Value.run m ρ),
  fun m ρ _ => Cert.Kernel2.Gen.frame m ρ,
  fun m ρ _ => Cert.Kernel2Ideal.Gen.frame m ρ,
  fun m ρ _ => (θ_run _ _ _).mono (fun r h => ⟨fun c => (h c).2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run _ _ _).mono (fun r h => ⟨fun c => (h c).2.2.2.2.2.2.2, sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run _ _ _).mono (fun r h => ⟨fun c => (h c).2, sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run _ _ _).mono (fun r h => ⟨fun c => (h c).2, sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => Cert.Kernel6Ideal.Gen.frame m ρ,
  fun m ρ _ => (θ_run _ _ _).mono (fun r h => ⟨fun c => (h c).2, sem_eq_zero_of_no_sems (by decide) r.2⟩) (Cert.Reference6Ideal.Value.run m ρ),
  fun m ρ _ => (θ_run _ _ _).mono (fun r h => ⟨fun c => (h c).2, sem_eq_zero_of_no_sems (by decide) r.2⟩) (Cert.Reference6Ideal.Value.run m ρ),
  fun m ρ _ => Cert.Kernel7.Gen.frame m ρ,
  fun m ρ _ => Cert.Kernel7Ideal.Gen.frame m ρ,
  fun m ρ _ => (θ_run _ _ _).mono (fun r h => ⟨fun c => (h c).2, sem_eq_zero_of_no_sems (by decide) r.2⟩) (Cert.Reference7Ideal.Value.run m ρ),
  IdealRules.named_const.statement Cert.KernelIdeal.κ "mask" .f32 0xF149F2CA#32 ⊥ rfl,
  Cert.KernelIdeal.Attention.same_result,
  trivial,
  Cert.Kernel2Ideal.Projection.same_result,
  trivial,
  Cert.Kernel3Ideal.Heads.same_result,
  trivial,
  Cert.Kernel4Ideal.Projection.same_result,
  trivial,
  Cert.Kernel5Ideal.Projection.same_result,
  trivial,
  Cert.Kernel6Ideal.Combine.same_result,
  trivial,
  Cert.Kernel7Ideal.Projection.same_result⟩

end Cert.Proof

end
